-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21_0) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_v21_2) = v2 c
          ∧ r.2.mem ((c.tc : Thread Cert.ReferenceIdeal.nD Cert.ReferenceIdeal.τ).loc Cert.ReferenceIdeal.main_v21_3) = v3 c
          ∧ r.2.mem ((c.tc : Thread Cert.ReferenceIdeal.nD Cert.ReferenceIdeal.τ).loc Cert.ReferenceIdeal.main_v21_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S64x32x768 : Shape := ⟨3, ![64, 32, 768]⟩
abbrev S64x257x1408 : Shape := ⟨3, ![64, 257, 1408]⟩
abbrev S64x257 : Shape := ⟨2, ![64, 257]⟩
abbrev S768x768 : Shape := ⟨2, ![768, 768]⟩
abbrev S768 : Shape := ⟨1, ![768]⟩
abbrev S1408x768 : Shape := ⟨2, ![1408, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S64x32x768 : S_.BroadcastsInDim S64x32x768 (![] : Fin 0 → Fin S64x32x768.rank)
  reducesTo_S64x32x768_S_d0_1_2 : S64x32x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S64x32x768 .bf16) (main_arg1 : FVec F S64x257x1408 .fp8e4m3) (main_arg2 : FVec F S64x257 .f32) (main_arg3 : FVec F S768x768 .bf16) (main_arg4 : FVec F S768x768 .bf16) (main_arg5 : FVec F S768x768 .bf16) (main_arg6 : FVec F S768x768 .bf16) (main_arg7 : FVec F S768 .f32) (main_arg8 : FVec F S768 .f32) (main_arg9 : FVec F S768 .f32) (main_arg10 : FVec F S768 .f32) (main_arg11 : FVec F S768 .f32) (main_arg12 : FVec F S768x768 .bf16) (main_arg13 : FVec F S768x768 .bf16) (main_arg14 : FVec F S768 .f32) (main_arg15 : FVec F S768 .f32) (main_arg16 : FVec F S1408x768 .fp8e4m3) (main_arg17 : FVec F S1408x768 .fp8e4m3) (main_arg18 : FVec F S768 .f32) (main_arg19 : FVec F S768 .f32) (main_arg20 : FVec F S768 .f32) (main_arg21 : FVec F S768 .f32) (main_arg22 : FVec F S768 .f32) (main_arg23 : FVec F S768x3072 .fp8e4m3) (main_arg24 : FVec F S3072 .f32) (main_arg25 : FVec F S3072 .f32) (main_arg26 : FVec F S3072x768 .fp8e4m3) (main_arg27 : FVec F S768 .f32) (main_arg28 : FVec F S768 .f32) (main_arg29 : FVec F S768 .f32) (main_arg30 : FVec F S768 .f32) : IVec S_ 1 :=
  let main_v0 : FVec F S64x32x768 .bf16 := Host.absf main_arg0
  let main_cst : FVec F S_ .bf16 := constant S_ .bf16 0x7F80#16
  let main_v1 : FVec F S64x32x768 .bf16 := broadcastInDim S64x32x768 ![] bcast_S_S64x32x768 main_cst
  let main_v2 : IVec S64x32x768 1 := cmpf .olt main_v0 main_v1
  let main_c : IVec S_ 1 := constantI S_ 1 1#1
  let main_v3 : IVec S_ 1 := (fun x v => Host.reduce IntOp.andi x v reducesTo_S64x32x768_S_d0_1_2 h_S_) main_v2 main_c
  let main_v4 : FVec F S768x768 .bf16 := Host.absf main_arg3
  let main_cst_0 : FVec F S_ .bf16 := constant S_ .bf16 0x7F80#16
  let main_v5 : FVec F S768x768 .bf16 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .bf16 := Host.absf main_arg4
  let main_cst_2 : FVec F S_ .bf16 := constant S_ .bf16 0x7F80#16
  let main_v10 : FVec F S768x768 .bf16 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg7
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S64x32x768 : Shape := ⟨3, ![64, 32, 768]⟩
abbrev S64x257x1408 : Shape := ⟨3, ![64, 257, 1408]⟩
abbrev S64x257 : Shape := ⟨2, ![64, 257]⟩
abbrev S768x768 : Shape := ⟨2, ![768, 768]⟩
abbrev S768 : Shape := ⟨1, ![768]⟩
abbrev S1408x768 : Shape := ⟨2, ![1408, 768]⟩
abbrev S768x3072 : Shape := ⟨2, ![768, 3072]⟩
abbrev S3072 : Shape := ⟨1, ![3072]⟩
abbrev S3072x768 : Shape := ⟨2, ![3072, 768]⟩
abbrev S1x768 : Shape := ⟨2, ![1, 768]⟩
abbrev S1x3072 : Shape := ⟨2, ![1, 3072]⟩
abbrev S2048x768 : Shape := ⟨2, ![2048, 768]⟩
abbrev S64x32 : Shape := ⟨2, ![64, 32]⟩
abbrev S2048x3072 : Shape := ⟨2, ![2048, 3072]⟩
abbrev S256x768 : Shape := ⟨2, ![256, 768]⟩
abbrev S8x257x1408 : Shape := ⟨3, ![8, 257, 1408]⟩
abbrev S8x257 : Shape := ⟨2, ![8, 257]⟩
abbrev S8x32 : Shape := ⟨2, ![8, 32]⟩
abbrev S256x3072 : Shape := ⟨2, ![256, 3072]⟩
abbrev S128x128 : Shape := ⟨2, ![128, 128]⟩
abbrev S128x256 : Shape := ⟨2, ![128, 256]⟩
abbrev S1x256 : Shape := ⟨2, ![1, 256]⟩
abbrev S384x256 : Shape := ⟨2, ![384, 256]⟩
abbrev S384x128 : Shape := ⟨2, ![384, 128]⟩
abbrev S512x256 : Shape := ⟨2, ![512, 256]⟩
abbrev S512x128 : Shape := ⟨2, ![512, 128]⟩
abbrev S128 : Shape := ⟨1, ![128]⟩
abbrev S128x1 : Shape := ⟨2, ![128, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S8x256 : Shape := ⟨2, ![8, 256]⟩
abbrev S256x8 : Shape := ⟨2, ![256, 8]⟩
abbrev S1x1x1408 : Shape := ⟨3, ![1, 1, 1408]⟩
abbrev S1x1408 : Shape := ⟨2, ![1, 1408]⟩
abbrev S8x1408 : Shape := ⟨2, ![8, 1408]⟩
abbrev S8x1 : Shape := ⟨2, ![8, 1]⟩
abbrev S8x768 : Shape := ⟨2, ![8, 768]⟩
abbrev S1x256x1408 : Shape := ⟨3, ![1, 256, 1408]⟩
abbrev S256x1408 : Shape := ⟨2, ![256, 1408]⟩
abbrev S32x768 : Shape := ⟨2, ![32, 768]⟩
abbrev S32x256 : Shape := ⟨2, ![32, 256]⟩
abbrev S96x256 : Shape := ⟨2, ![96, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩
abbrev S256x32 : Shape := ⟨2, ![256, 32]⟩
abbrev S32x32 : Shape := ⟨2, ![32, 32]⟩
abbrev S1x32 : Shape := ⟨2, ![1, 32]⟩

abbrev nBuf : Space → Nat
  | .hbm => 55
  | .vmem => 46
  | .smem => 0
  | _ => 0

abbrev bufTy : (tb : Table) → Fin (tcTables nBuf tb) → BufTy
  | .hbm, ⟨0, _⟩ => ⟨S64x32x768, .bf16⟩
  | .hbm, ⟨1, _⟩ => ⟨S64x257x1408, .fp8e4m3⟩
  | .hbm, ⟨2, _⟩ => ⟨S64x257, .f32⟩
  | .hbm, ⟨3, _⟩ => ⟨S768x768, .bf16⟩
  | .hbm, ⟨4, _⟩ => ⟨S768x768, .bf16⟩
  | .hbm, ⟨5, _⟩ => ⟨S768x768, .bf16⟩
  | .hbm, ⟨6, _⟩ => ⟨S768x768, .bf16⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768x768, .bf16⟩
  | .hbm, ⟨13, _⟩ => ⟨S768x768, .bf16⟩
  | .hbm, ⟨14, _⟩ => ⟨S768, .f32⟩
  | .hbm, ⟨15, _⟩ => ⟨S768, .f32⟩
  | .hbm, ⟨16, _⟩ => ⟨S1408x768, .fp8e4m3⟩
  | .hbm, ⟨17, _⟩ => ⟨S1408x768, .fp8e4m3⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S768, .f32⟩
  | .hbm, ⟨22, _⟩ => ⟨S768, .f32⟩
  | .hbm, ⟨23, _⟩ => ⟨S768x3072, .fp8e4m3⟩
  | .hbm, ⟨24, _⟩ => ⟨S3072, .f32⟩
  | .hbm, ⟨25, _⟩ => ⟨S3072, .f32⟩
  | .hbm, ⟨26, _⟩ => ⟨S3072x768, .fp8e4m3⟩
  | .hbm, ⟨27, _⟩ => ⟨S768, .f32⟩
  | .hbm, ⟨28, _⟩ => ⟨S768, .f32⟩
  | .hbm, ⟨29, _⟩ => ⟨S768, .f32⟩
  | .hbm, ⟨30, _⟩ => ⟨S768, .f32⟩
  | .hbm, ⟨31, _⟩ => ⟨S1x768, .f32⟩
  | .hbm, ⟨32, _⟩ => ⟨S1x768, .f32⟩
  | .hbm, ⟨33, _⟩ => ⟨S1x768, .f32⟩
  | .hbm, ⟨34, _⟩ => ⟨S1x768, .f32⟩
  | .hbm, ⟨35, _⟩ => ⟨S1x768, .f32⟩
  | .hbm, ⟨36, _⟩ => ⟨S1x768, .f32⟩
  | .hbm, ⟨37, _⟩ => ⟨S1x768, .f32⟩
  | .hbm, ⟨38, _⟩ => ⟨S1x768, .f32⟩
  | .hbm, ⟨39, _⟩ => ⟨S1x768, .f32⟩
  | .hbm, ⟨40, _⟩ => ⟨S1x768, .f32⟩
  | .hbm, ⟨41, _⟩ => ⟨S1x768, .f32⟩
  | .hbm, ⟨42, _⟩ => ⟨S1x768, .f32⟩
  | .hbm, ⟨43, _⟩ => ⟨S1x3072, .f32⟩
  | .hbm, ⟨44, _⟩ => ⟨S1x3072, .f32⟩
  | .hbm, ⟨45, _⟩ => ⟨S1x768, .f32⟩
  | .hbm, ⟨46, _⟩ => ⟨S1x768, .f32⟩
  | .hbm, ⟨47, _⟩ => ⟨S1x768, .f32⟩
  | .hbm, ⟨48, _⟩ => ⟨S1x768, .f32⟩
  | .hbm, ⟨49, _⟩ => ⟨S2048x768, .bf16⟩
  | .hbm, ⟨50, _⟩ => ⟨S2048x768, .bf16⟩
  | .hbm, ⟨51, _⟩ => ⟨S2048x768, .fp8e4m3⟩
  | .hbm, ⟨52, _⟩ => ⟨S64x32, .f32⟩
  | .hbm, ⟨53, _⟩ => ⟨S2048x3072, .fp8e4m3⟩
  | .hbm, ⟨54, _⟩ => ⟨S64x32, .f32⟩
  | .local _ .vmem, ⟨0, _⟩ => ⟨S256x768, .bf16⟩
  | .local _ .vmem, ⟨1, _⟩ => ⟨S256x768, .bf16⟩
  | .local _ .vmem, ⟨2, _⟩ => ⟨S8x257x1408, .fp8e4m3⟩
  | .local _ .vmem, ⟨3, _⟩ => ⟨S8x257x1408, .fp8e4m3⟩
  | .local _ .vmem, ⟨4, _⟩ => ⟨S8x257, .f32⟩
  | .local _ .vmem, ⟨5, _⟩ => ⟨S8x257, .f32⟩
  | .local _ .vmem, ⟨6, _⟩ => ⟨S768x768, .bf16⟩
  | .local _ .vmem, ⟨7, _⟩ => ⟨S768x768, .bf16⟩
  | .local _ .vmem, ⟨8, _⟩ => ⟨S768x768, .bf16⟩
  | .local _ .vmem, ⟨9, _⟩ => ⟨S768x768, .bf16⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x768, .f32⟩
  | .local _ .vmem, ⟨15, _⟩ => ⟨S768x768, .bf16⟩
  | .local _ .vmem, ⟨16, _⟩ => ⟨S768x768, .bf16⟩
  | .local _ .vmem, ⟨17, _⟩ => ⟨S1x768, .f32⟩
  | .local _ .vmem, ⟨18, _⟩ => ⟨S1x768, .f32⟩
  | .local _ .vmem, ⟨19, _⟩ => ⟨S1408x768, .fp8e4m3⟩
  | .local _ .vmem, ⟨20, _⟩ => ⟨S1408x768, .fp8e4m3⟩
  | .local _ .vmem, ⟨21, _⟩ => ⟨S1x768, .f32⟩
  | .local _ .vmem, ⟨22, _⟩ => ⟨S1x768, .f32⟩
  | .local _ .vmem, ⟨23, _⟩ => ⟨S1x768, .f32⟩
  | .local _ .vmem, ⟨24, _⟩ => ⟨S1x768, .f32⟩
  | .local _ .vmem, ⟨25, _⟩ => ⟨S1x768, .f32⟩
  | .local _ .vmem, ⟨26, _⟩ => ⟨S768x3072, .fp8e4m3⟩
  | .local _ .vmem, ⟨27, _⟩ => ⟨S1x3072, .f32⟩
  | .local _ .vmem, ⟨28, _⟩ => ⟨S1x3072, .f32⟩
  | .local _ .vmem, ⟨29, _⟩ => ⟨S3072x768, .fp8e4m3⟩
  | .local _ .vmem, ⟨30, _⟩ => ⟨S1x768, .f32⟩
  | .local _ .vmem, ⟨31, _⟩ => ⟨S1x768, .f32⟩
  | .local _ .vmem, ⟨32, _⟩ => ⟨S1x768, .f32⟩
  | .local _ .vmem, ⟨33, _⟩ => ⟨S1x768, .f32⟩
  | .local _ .vmem, ⟨34, _⟩ => ⟨S256x768, .bf16⟩
  | .local _ .vmem, ⟨35, _⟩ => ⟨S256x768, .bf16⟩
  | .local _ .vmem, ⟨36, _⟩ => ⟨S256x768, .fp8e4m3⟩
  | .local _ .vmem, ⟨37, _⟩ => ⟨S256x768, .fp8e4m3⟩
  | .local _ .vmem, ⟨38, _⟩ => ⟨S8x32, .f32⟩
  | .local _ .vmem, ⟨39, _⟩ => ⟨S8x32, .f32⟩
  | .local _ .vmem, ⟨40, _⟩ => ⟨S256x3072, .fp8e4m3⟩
  | .local _ .vmem, ⟨41, _⟩ => ⟨S256x3072, .fp8e4m3⟩
  | .local _ .vmem, ⟨42, _⟩ => ⟨S8x32, .f32⟩
  | .local _ .vmem, ⟨43, _⟩ => ⟨S8x32, .f32⟩
  | .local _ .vmem, ⟨44, _⟩ => ⟨S256x768, .bf16⟩
  | .local _ .vmem, ⟨45, _⟩ => ⟨S256x3072, .f32⟩
  | _, _ => ⟨S64x32x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19_0 : Ref sig .tc := ⟨.hbm, 50, rfl⟩
abbrev main_v19_1 : Ref sig .tc := ⟨.hbm, 51, rfl⟩
abbrev main_v19_2 : Ref sig .tc := ⟨.hbm, 52, rfl⟩
abbrev main_v19_3 : Ref sig .tc := ⟨.hbm, 53, rfl⟩
abbrev main_v19_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg28_0 : Ref sig .tc := ⟨.vmem, 31, rfl⟩
abbrev cc0_stg29_0 : Ref sig .tc := ⟨.vmem, 32, rfl⟩
abbrev cc0_stg30_0 : Ref sig .tc := ⟨.vmem, 33, rfl⟩
abbrev cc0_stg31_0 : Ref sig .tc := ⟨.vmem, 34, rfl⟩
abbrev cc0_stg31_1 : Ref sig .tc := ⟨.vmem, 35, rfl⟩
abbrev cc0_stg32_0 : Ref sig .tc := ⟨.vmem, 36, rfl⟩
abbrev cc0_stg32_1 : Ref sig .tc := ⟨.vmem, 37, rfl⟩
abbrev cc0_stg33_0 : Ref sig .tc := ⟨.vmem, 38, rfl⟩
abbrev cc0_stg33_1 : Ref sig .tc := ⟨.vmem, 39, rfl⟩
abbrev cc0_stg34_0 : Ref sig .tc := ⟨.vmem, 40, rfl⟩
abbrev cc0_stg34_1 : Ref sig .tc := ⟨.vmem, 41, rfl⟩
abbrev cc0_stg35_0 : Ref sig .tc := ⟨.vmem, 42, rfl⟩
abbrev cc0_stg35_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem27_0 : DmaSem sig := 30
abbrev cc0_sem28_0 : DmaSem sig := 31
abbrev cc0_sem29_0 : DmaSem sig := 32
abbrev cc0_sem30_0 : DmaSem sig := 33
abbrev cc0_sem31_0 : DmaSem sig := 34
abbrev cc0_sem31_1 : DmaSem sig := 35
abbrev cc0_sem32_0 : DmaSem sig := 36
abbrev cc0_sem32_1 : DmaSem sig := 37
abbrev cc0_sem33_0 : DmaSem sig := 38
abbrev cc0_sem33_1 : DmaSem sig := 39
abbrev cc0_sem34_0 : DmaSem sig := 40
abbrev cc0_sem34_1 : DmaSem sig := 41
abbrev cc0_sem35_0 : DmaSem sig := 42
abbrev cc0_sem35_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x257x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1408x768 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1408x768 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S768x3072 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x3072 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S3072x768 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x768 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x768 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x768 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x768 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 2 → Memref sig .tc .vmem S256x768 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x768 .fp8e4m3 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S8x32 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S256x3072 .fp8e4m3 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S8x32 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]
-- ==== ReferenceIdeal.lean ====
abbrev S64x32x768 : Shape := ⟨3, ![64, 32, 768]⟩
abbrev S64x257x1408 : Shape := ⟨3, ![64, 257, 1408]⟩
abbrev S64x257 : Shape := ⟨2, ![64, 257]⟩
abbrev S768x768 : Shape := ⟨2, ![768, 768]⟩
abbrev S768 : Shape := ⟨1, ![768]⟩
abbrev S1408x768 : Shape := ⟨2, ![1408, 768]⟩
abbrev S768x3072 : Shape := ⟨2, ![768, 3072]⟩
abbrev S3072 : Shape := ⟨1, ![3072]⟩
abbrev S3072x768 : Shape := ⟨2, ![3072, 768]⟩
abbrev S2048x768 : Shape := ⟨2, ![2048, 768]⟩
abbrev S16448x1408 : Shape := ⟨2, ![16448, 1408]⟩
abbrev S16448x1 : Shape := ⟨2, ![16448, 1]⟩
abbrev S1x768 : Shape := ⟨2, ![1, 768]⟩
abbrev S1x3072 : Shape := ⟨2, ![1, 3072]⟩
abbrev S64x32 : Shape := ⟨2, ![64, 32]⟩
abbrev S2048x3072 : Shape := ⟨2, ![2048, 3072]⟩
abbrev S64x32x8x96 : Shape := ⟨4, ![64, 32, 8, 96]⟩
abbrev S64x8x32x96 : Shape := ⟨4, ![64, 8, 32, 96]⟩
abbrev S512x32x96 : Shape := ⟨3, ![512, 32, 96]⟩
abbrev S512x32x32 : Shape := ⟨3, ![512, 32, 32]⟩
abbrev S512x32 : Shape := ⟨2, ![512, 32]⟩
abbrev S512x32x1 : Shape := ⟨3, ![512, 32, 1]⟩
abbrev S2048 : Shape := ⟨1, ![2048]⟩
abbrev S2048x1 : Shape := ⟨2, ![2048, 1]⟩
abbrev S16448x768 : Shape := ⟨2, ![16448, 768]⟩
abbrev S64x257x8x96 : Shape := ⟨4, ![64, 257, 8, 96]⟩
abbrev S64x8x257x96 : Shape := ⟨4, ![64, 8, 257, 96]⟩
abbrev S512x257x96 : Shape := ⟨3, ![512, 257, 96]⟩
abbrev S512x32x257 : Shape := ⟨3, ![512, 32, 257]⟩
abbrev S1x246 : Shape := ⟨2, ![1, 246]⟩
abbrev S2048x246 : Shape := ⟨2, ![2048, 246]⟩

abbrev nBuf : Space → Nat
  | .hbm => 57
  | .vmem => 36
  | .smem => 0
  | _ => 0

abbrev bufTy : (tb : Table) → Fin (tcTables nBuf tb) → BufTy
  | .hbm, ⟨0, _⟩ => ⟨S64x32x768, .bf16⟩
  | .hbm, ⟨1, _⟩ => ⟨S64x257x1408, .fp8e4m3⟩
  | .hbm, ⟨2, _⟩ => ⟨S64x257, .f32⟩
  | .hbm, ⟨3, _⟩ => ⟨S768x768, .bf16⟩
  | .hbm, ⟨4, _⟩ => ⟨S768x768, .bf16⟩
  | .hbm, ⟨5, _⟩ => ⟨S768x768, .bf16⟩
  | .hbm, ⟨6, _⟩ => ⟨S768x768, .bf16⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768x768, .bf16⟩
  | .hbm, ⟨13, _⟩ => ⟨S768x768, .bf16⟩
  | .hbm, ⟨14, _⟩ => ⟨S768, .f32⟩
  | .hbm, ⟨15, _⟩ => ⟨S768, .f32⟩
  | .hbm, ⟨16, _⟩ => ⟨S1408x768, .fp8e4m3⟩
  | .hbm, ⟨17, _⟩ => ⟨S1408x768, .fp8e4m3⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S768, .f32⟩
  | .hbm, ⟨22, _⟩ => ⟨S768, .f32⟩
  | .hbm, ⟨23, _⟩ => ⟨S768x3072, .fp8e4m3⟩
  | .hbm, ⟨24, _⟩ => ⟨S3072, .f32⟩
  | .hbm, ⟨25, _⟩ => ⟨S3072, .f32⟩
  | .hbm, ⟨26, _⟩ => ⟨S3072x768, .fp8e4m3⟩
  | .hbm, ⟨27, _⟩ => ⟨S768, .f32⟩
  | .hbm, ⟨28, _⟩ => ⟨S768, .f32⟩
  | .hbm, ⟨29, _⟩ => ⟨S768, .f32⟩
  | .hbm, ⟨30, _⟩ => ⟨S768, .f32⟩
  | .hbm, ⟨31, _⟩ => ⟨S2048x768, .bf16⟩
  | .hbm, ⟨32, _⟩ => ⟨S16448x1408, .fp8e4m3⟩
  | .hbm, ⟨33, _⟩ => ⟨S16448x1, .f32⟩
  | .hbm, ⟨34, _⟩ => ⟨S1x768, .f32⟩
  | .hbm, ⟨35, _⟩ => ⟨S1x768, .f32⟩
  | .hbm, ⟨36, _⟩ => ⟨S1x768, .f32⟩
  | .hbm, ⟨37, _⟩ => ⟨S1x768, .f32⟩
  | .hbm, ⟨38, _⟩ => ⟨S1x768, .f32⟩
  | .hbm, ⟨39, _⟩ => ⟨S1x768, .f32⟩
  | .hbm, ⟨40, _⟩ => ⟨S1x768, .f32⟩
  | .hbm, ⟨41, _⟩ => ⟨S1x768, .f32⟩
  | .hbm, ⟨42, _⟩ => ⟨S1x768, .f32⟩
  | .hbm, ⟨43, _⟩ => ⟨S1x768, .f32⟩
  | .hbm, ⟨44, _⟩ => ⟨S1x768, .f32⟩
  | .hbm, ⟨45, _⟩ => ⟨S1x768, .f32⟩
  | .hbm, ⟨46, _⟩ => ⟨S1x3072, .f32⟩
  | .hbm, ⟨47, _⟩ => ⟨S1x3072, .f32⟩
  | .hbm, ⟨48, _⟩ => ⟨S1x768, .f32⟩
  | .hbm, ⟨49, _⟩ => ⟨S1x768, .f32⟩
  | .hbm, ⟨50, _⟩ => ⟨S1x768, .f32⟩
  | .hbm, ⟨51, _⟩ => ⟨S1x768, .f32⟩
  | .hbm, ⟨52, _⟩ => ⟨S2048x768, .bf16⟩
  | .hbm, ⟨53, _⟩ => ⟨S2048x768, .fp8e4m3⟩
  | .hbm, ⟨54, _⟩ => ⟨S64x32, .f32⟩
  | .hbm, ⟨55, _⟩ => ⟨S2048x3072, .fp8e4m3⟩
  | .hbm, ⟨56, _⟩ => ⟨S64x32, .f32⟩
  | .local _ .vmem, ⟨0, _⟩ => ⟨S2048x768, .bf16⟩
  | .local _ .vmem, ⟨1, _⟩ => ⟨S16448x1408, .fp8e4m3⟩
  | .local _ .vmem, ⟨2, _⟩ => ⟨S16448x1, .f32⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S768x768, .bf16⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S768x768, .bf16⟩
  | .local _ .vmem, ⟨13, _⟩ => ⟨S768x768, .bf16⟩
  | .local _ .vmem, ⟨14, _⟩ => ⟨S1x768, .f32⟩
  | .local _ .vmem, ⟨15, _⟩ => ⟨S1x768, .f32⟩
  | .local _ .vmem, ⟨16, _⟩ => ⟨S1408x768, .fp8e4m3⟩
  | .local _ .vmem, ⟨17, _⟩ => ⟨S1408x768, .fp8e4m3⟩
  | .local _ .vmem, ⟨18, _⟩ => ⟨S1x768, .f32⟩
  | .local _ .vmem, ⟨19, _⟩ => ⟨S1x768, .f32⟩
  | .local _ .vmem, ⟨20, _⟩ => ⟨S1x768, .f32⟩
  | .local _ .vmem, ⟨21, _⟩ => ⟨S1x768, .f32⟩
  | .local _ .vmem, ⟨22, _⟩ => ⟨S1x768, .f32⟩
  | .local _ .vmem, ⟨23, _⟩ => ⟨S768x3072, .fp8e4m3⟩
  | .local _ .vmem, ⟨24, _⟩ => ⟨S1x3072, .f32⟩
  | .local _ .vmem, ⟨25, _⟩ => ⟨S1x3072, .f32⟩
  | .local _ .vmem, ⟨26, _⟩ => ⟨S3072x768, .fp8e4m3⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S1x768, .f32⟩
  | .local _ .vmem, ⟨31, _⟩ => ⟨S2048x768, .bf16⟩
  | .local _ .vmem, ⟨32, _⟩ => ⟨S2048x768, .fp8e4m3⟩
  | .local _ .vmem, ⟨33, _⟩ => ⟨S64x32, .f32⟩
  | .local _ .vmem, ⟨34, _⟩ => ⟨S2048x3072, .fp8e4m3⟩
  | .local _ .vmem, ⟨35, _⟩ => ⟨S64x32, .f32⟩
  | _, _ => ⟨S64x32x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21_0 : Ref sig .tc := ⟨.hbm, 52, rfl⟩
abbrev main_v21_1 : Ref sig .tc := ⟨.hbm, 53, rfl⟩
abbrev main_v21_2 : Ref sig .tc := ⟨.hbm, 54, rfl⟩
abbrev main_v21_3 : Ref sig .tc := ⟨.hbm, 55, rfl⟩
abbrev main_v21_4 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35

abbrev nD : Nat := 1
abbrev τ : Topo := Topo.v7x

variable {F : FTy → Type} [FloatOps F]

abbrev grid0 : Pipeline.Grid := .none

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16448x1408 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16448x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S768x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1408x768 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1408x768 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x768 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S768x3072 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x3072 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x3072 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S3072x768 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x768 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x768 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x768 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x768 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2048x768 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2048x768 .fp8e4m3 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S64x32 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2048x3072 .fp8e4m3 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S64x32 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
-- ==== Proof.Bits.Frame.lean ====
/- GENERATED, UNTRUSTED: the FRAME CERTIFICATE of `proofs.«01_k».proof.Kernel`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame`) and `Gen.frame` — the frame claim at any `F`: Proof.lean is
   `theorem Cert.Proof.claim : Cert.Claim := ⟨Gen.facts, fun m ρ _ => Gen.frame m ρ⟩`.
   CLASS R (one case, 2 scratch operands, scratch `arg37`, `arg38` posted (their store pieces named, `LT·`, in the run of each case that posts them)): the certificate is whole here — not class A: the kernel takes operands the pipeline does not stage (scratch, semaphores, tables, arrays left in HBM). DO NOT EDIT. -/
module

public import proofs.«01_k».proof.Proof.Gen.Kernel.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 31 tile its block (1 store of `S256x768`, checked by the kernel's evaluation: Lib/Ring.lean `Piece.tiledL`, linear in the pieces, through a loop's `@[irreducible]` trip theorem too), so they cover it. -/
theorem cover0_A_31 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).1 S256x768.size (by sl_kernel_rfl) y

/-- What the run leaves in output 31's staging buffer: its pieces read back over junk. -/
def out0_A_31 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S256x768 .bf16 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).1)

/-- The run's pieces for output 32 tile its block (1 store of `S256x768`, checked by the kernel's evaluation: Lib/Ring.lean `Piece.tiledL`, linear in the pieces, through a loop's `@[irreducible]` trip theorem too), so they cover it. -/
theorem cover0_A_32 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.1 S256x768.size (by sl_kernel_rfl) y

/-- What the run leaves in output 32's staging buffer: its pieces read back over junk. -/
def out0_A_32 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S256x768 .fp8e4m3 :=
  VO0_32.read (Elt F) (VO0_32.writes (Elt F) VO0_32.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.1)

/-- The run's pieces for output 33 tile its block (1 store of `S8x32`, checked by the kernel's evaluation: Lib/Ring.lean `Piece.tiledL`, linear in the pieces, through a loop's `@[irreducible]` trip theorem too), so they cover it. -/
theorem cover0_A_33 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.1 S8x32.size (by sl_kernel_rfl) y

/-- What the run leaves in output 33's staging buffer: its pieces read back over junk. -/
def out0_A_33 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S8x32 .f32 :=
  VO0_33.read (Elt F) (VO0_33.writes (Elt F) VO0_33.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.1)

/-- The run's pieces for output 34 tile its block (1 store of `S256x3072`, checked by the kernel's evaluation: Lib/Ring.lean `Piece.tiledL`, linear in the pieces, through a loop's `@[irreducible]` trip theorem too), so they cover it. -/
theorem cover0_A_34 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S256x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.1 S256x3072.size (by sl_kernel_rfl) y

/-- What the run leaves in output 34's staging buffer: its pieces read back over junk. -/
def out0_A_34 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S256x3072 .fp8e4m3 :=
  VO0_34.read (Elt F) (VO0_34.writes (Elt F) VO0_34.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.1)

/-- The run's pieces for output 35 tile its block (1 store of `S8x32`, checked by the kernel's evaluation: Lib/Ring.lean `Piece.tiledL`, linear in the pieces, through a loop's `@[irreducible]` trip theorem too), so they cover it. -/
theorem cover0_A_35 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.2.1 S8x32.size (by sl_kernel_rfl) y

/-- What the run leaves in output 35's staging buffer: its pieces read back over junk. -/
def out0_A_35 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S8x32 .f32 :=
  VO0_35.read (Elt F) (VO0_35.writes (Elt F) VO0_35.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x768 .bf16 × Vec F S256x768 .fp8e4m3 × Vec F S8x32 .f32 × Vec F S256x3072 .fp8e4m3 × Vec F S8x32 .f32 :=
  (out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => (outsAt0 m c t).1
    | ⟨32, _⟩ => (outsAt0 m c t).2.1
    | ⟨33, _⟩ => (outsAt0 m c t).2.2.1
    | ⟨34, _⟩ => (outsAt0 m c t).2.2.2.1
    | ⟨35, _⟩ => (outsAt0 m c t).2.2.2.2
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = (outsAt0 m c t).1 := by dsimp only [dats]
theorem after0_32 (c : Dev nD) (t : Fin cfg0.N) : (dats m 0 c).after 32 t = (outsAt0 m c t).2.1 := by dsimp only [dats]
theorem after0_33 (c : Dev nD) (t : Fin cfg0.N) : (dats m 0 c).after 33 t = (outsAt0 m c t).2.2.1 := by dsimp only [dats]
theorem after0_34 (c : Dev nD) (t : Fin cfg0.N) : (dats m 0 c).after 34 t = (outsAt0 m c t).2.2.2.1 := by dsimp only [dats]
theorem after0_35 (c : Dev nD) (t : Fin cfg0.N) : (dats m 0 c).after 35 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t))

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  rw [show (dats m 0 c).Φ t.castSucc = Pipeline.ΦA spec0 c from rfl, PhiA0_eq]
  unfold outsAt0
  unfold out0_A_31 out0_A_32 out0_A_33 out0_A_34 out0_A_35; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [H32]; · iexists _; iexact H32
  isplitl [H33]; · iexists _; iexact H33
  isplitl [H34]; · iexists _; iexact H34
  isplitl [H35]; · iexists _; iexact H35
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, H28, H29, H30, ⟨%e31, H31⟩, ⟨%e32, H32⟩, ⟨%e33, H33⟩, ⟨%e34, H34⟩, ⟨%e35, H35⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H32]
  · unfold owns; iexists _; isplitr
    swap; · iexact H32
    ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H35
  ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30))
      ∧ r.2.sem = fun _ => 0) :=
  θ_run_and (unchanged m ρ) ((θ_run defs _ _).mono (fun _ h => h.2) (run_main_quiescent m ρ))

end Cert.Kernel.Gen

end
-- ==== Proof.Ideal.Frame.lean ====
/- GENERATED, UNTRUSTED: the FRAME CERTIFICATE of `proofs.«01_k».proof.KernelIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame`) and `Gen.frame` — the frame claim at any `F`: Proof.lean is
   `theorem Cert.Proof.claim : Cert.Claim := ⟨Gen.facts, fun m ρ _ => Gen.frame m ρ⟩`.
   CLASS R (one case, 2 scratch operands, scratch `arg37`, `arg38` posted (their store pieces named, `LT·`, in the run of each case that posts them)): the certificate is whole here — not class A: the kernel takes operands the pipeline does not stage (scratch, semaphores, tables, arrays left in HBM). DO NOT EDIT. -/
module

public import proofs.«01_k».proof.Proof.Gen.KernelIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 31 tile its block (1 store of `S256x768`, checked by the kernel's evaluation: Lib/Ring.lean `Piece.tiledL`, linear in the pieces, through a loop's `@[irreducible]` trip theorem too), so they cover it. -/
theorem cover0_A_31 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).1 S256x768.size (by sl_kernel_rfl) y

/-- What the run leaves in output 31's staging buffer: its pieces read back over junk. -/
def out0_A_31 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S256x768 .bf16 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).1)

/-- The run's pieces for output 32 tile its block (1 store of `S256x768`, checked by the kernel's evaluation: Lib/Ring.lean `Piece.tiledL`, linear in the pieces, through a loop's `@[irreducible]` trip theorem too), so they cover it. -/
theorem cover0_A_32 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.1 S256x768.size (by sl_kernel_rfl) y

/-- What the run leaves in output 32's staging buffer: its pieces read back over junk. -/
def out0_A_32 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S256x768 .fp8e4m3 :=
  VO0_32.read (Elt F) (VO0_32.writes (Elt F) VO0_32.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.1)

/-- The run's pieces for output 33 tile its block (1 store of `S8x32`, checked by the kernel's evaluation: Lib/Ring.lean `Piece.tiledL`, linear in the pieces, through a loop's `@[irreducible]` trip theorem too), so they cover it. -/
theorem cover0_A_33 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.1 S8x32.size (by sl_kernel_rfl) y

/-- What the run leaves in output 33's staging buffer: its pieces read back over junk. -/
def out0_A_33 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S8x32 .f32 :=
  VO0_33.read (Elt F) (VO0_33.writes (Elt F) VO0_33.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.1)

/-- The run's pieces for output 34 tile its block (1 store of `S256x3072`, checked by the kernel's evaluation: Lib/Ring.lean `Piece.tiledL`, linear in the pieces, through a loop's `@[irreducible]` trip theorem too), so they cover it. -/
theorem cover0_A_34 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S256x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.1 S256x3072.size (by sl_kernel_rfl) y

/-- What the run leaves in output 34's staging buffer: its pieces read back over junk. -/
def out0_A_34 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S256x3072 .fp8e4m3 :=
  VO0_34.read (Elt F) (VO0_34.writes (Elt F) VO0_34.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.1)

/-- The run's pieces for output 35 tile its block (1 store of `S8x32`, checked by the kernel's evaluation: Lib/Ring.lean `Piece.tiledL`, linear in the pieces, through a loop's `@[irreducible]` trip theorem too), so they cover it. -/
theorem cover0_A_35 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (y : S8x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.2.1 S8x32.size (by sl_kernel_rfl) y

/-- What the run leaves in output 35's staging buffer: its pieces read back over junk. -/
def out0_A_35 (c : Dev nD) (i : grid0.Coords) (arg1 : Memref sig .tc .vmem S256x768 .bf16) (harg1 : arg1.IsWhole) (arg2 : Memref sig .tc .vmem S8x257x1408 .fp8e4m3) (harg2 : arg2.IsWhole) (arg3 : Memref sig .tc .vmem S8x257 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S768x768 .bf16) (harg13 : arg13.IsWhole) (arg14 : Memref sig .tc .vmem S768x768 .bf16) (harg14 : arg14.IsWhole) (arg15 : Memref sig .tc .vmem S1x768 .f32) (harg15 : arg15.IsWhole) (arg16 : Memref sig .tc .vmem S1x768 .f32) (harg16 : arg16.IsWhole) (arg17 : Memref sig .tc .vmem S1408x768 .fp8e4m3) (harg17 : arg17.IsWhole) (arg18 : Memref sig .tc .vmem S1408x768 .fp8e4m3) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S1x768 .f32) (harg23 : arg23.IsWhole) (arg24 : Memref sig .tc .vmem S768x3072 .fp8e4m3) (harg24 : arg24.IsWhole) (arg25 : Memref sig .tc .vmem S1x3072 .f32) (harg25 : arg25.IsWhole) (arg26 : Memref sig .tc .vmem S1x3072 .f32) (harg26 : arg26.IsWhole) (arg27 : Memref sig .tc .vmem S3072x768 .fp8e4m3) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S1x768 .f32) (harg31 : arg31.IsWhole) (arg32 : Memref sig .tc .vmem S256x768 .bf16) (harg32 : arg32.IsWhole) (arg33 : Memref sig .tc .vmem S256x768 .fp8e4m3) (harg33 : arg33.IsWhole) (arg34 : Memref sig .tc .vmem S8x32 .f32) (harg34 : arg34.IsWhole) (arg35 : Memref sig .tc .vmem S256x3072 .fp8e4m3) (harg35 : arg35.IsWhole) (arg36 : Memref sig .tc .vmem S8x32 .f32) (harg36 : arg36.IsWhole) (arg37 : Memref sig .tc .vmem S256x768 .bf16) (harg37 : arg37.IsWhole) (arg38 : Memref sig .tc .vmem S256x3072 .f32) (harg38 : arg38.IsWhole)
    (x0 : Vec F S256x768 .bf16) (x1 : Vec F S8x257x1408 .fp8e4m3) (x2 : Vec F S8x257 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S8x32 .f32 :=
  VO0_35.read (Elt F) (VO0_35.writes (Elt F) VO0_35.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30).2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x768 .bf16 × Vec F S256x768 .fp8e4m3 × Vec F S8x32 .f32 × Vec F S256x3072 .fp8e4m3 × Vec F S8x32 .f32 :=
  (out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t), out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => (outsAt0 m c t).1
    | ⟨32, _⟩ => (outsAt0 m c t).2.1
    | ⟨33, _⟩ => (outsAt0 m c t).2.2.1
    | ⟨34, _⟩ => (outsAt0 m c t).2.2.2.1
    | ⟨35, _⟩ => (outsAt0 m c t).2.2.2.2
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = (outsAt0 m c t).1 := by dsimp only [dats]
theorem after0_32 (c : Dev nD) (t : Fin cfg0.N) : (dats m 0 c).after 32 t = (outsAt0 m c t).2.1 := by dsimp only [dats]
theorem after0_33 (c : Dev nD) (t : Fin cfg0.N) : (dats m 0 c).after 33 t = (outsAt0 m c t).2.2.1 := by dsimp only [dats]
theorem after0_34 (c : Dev nD) (t : Fin cfg0.N) : (dats m 0 c).after 34 t = (outsAt0 m c t).2.2.2.1 := by dsimp only [dats]
theorem after0_35 (c : Dev nD) (t : Fin cfg0.N) : (dats m 0 c).after 35 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t))

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  rw [show (dats m 0 c).Φ t.castSucc = Pipeline.ΦA spec0 c from rfl, PhiA0_eq]
  unfold outsAt0
  unfold out0_A_31 out0_A_32 out0_A_33 out0_A_34 out0_A_35; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [H32]; · iexists _; iexact H32
  isplitl [H33]; · iexists _; iexact H33
  isplitl [H34]; · iexists _; iexact H34
  isplitl [H35]; · iexists _; iexact H35
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, H28, H29, H30, ⟨%e31, H31⟩, ⟨%e32, H32⟩, ⟨%e33, H33⟩, ⟨%e34, H34⟩, ⟨%e35, H35⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H32]
  · unfold owns; iexists _; isplitr
    swap; · iexact H32
    ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H35
  ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30))
      ∧ r.2.sem = fun _ => 0) :=
  θ_run_and (unchanged m ρ) ((θ_run defs _ _).mono (fun _ h => h.2) (run_main_quiescent m ρ))

end Cert.KernelIdeal.Gen

end
-- ==== Proof.Ref.Frame.lean ====
/- — @main up to its one region (`Gen.hmain`, over Lib/Pipeline/Frame.lean), the arrays' contents there (`Gen.V`,
   `Gen.V_<arg>`: each argument array as launched), each window's block at a point (`Gen.iblk`), and `Gen.frame_of`:
   the frame claim's post from any proof data's `FramePost` run; and, the kernel being of
   CLASS A (loads and covering stores through literal rectangles, nothing of its own), the whole certificate: what
   each output's buffer holds after the body (`Gen.outK_W`, the canon of its stores over the input blocks), the body's
   triple by `sl_exec` (`Gen.sound_kernel`), the proof data (`Gen.dats`), the body obligation, the run (`Gen.run_main`,
   `θ_run_frame`) and `Gen.frame` — the frame claim at any `F`: Proof.lean is
   `theorem Cert.Proof.claim : Cert.Claim := ⟨Gen.facts, fun m ρ _ => Gen.frame m ρ⟩`.
   CLASS A: the certificate is whole here. DO NOT EDIT. -/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg27`: the region finds it as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg28`: the region finds it as launched. -/
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg29`: the region finds it as launched. -/
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg30`: the region finds it as launched. -/
theorem V_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Input window 30's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2160000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ReferenceIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).1 23).trans (((dats 0 c).arrAt_in 23 rfl _).trans ((hA c 23).trans (V_main_arg23 m c))),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).1 26).trans (((dats 0 c).arrAt_in 26 rfl _).trans ((hA c 26).trans (V_main_arg26 m c))),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c)⟩) h

/-! ## The body's accesses -/

abbrev r0_0 : Rect S2048x768 := Rect.unit (s := S2048x768) ![0, 0] S2048x768.size inb_S2048x768_S2048x768_0_0
abbrev r0_1 : Rect S768x768 := Rect.unit (s := S768x768) ![0, 0] S768x768.size inb_S768x768_S768x768_0_0
abbrev r0_2 : Rect S1x768 := Rect.unit (s := S1x768) ![0, 0] S1x768.size inb_S1x768_S1x768_0_0
abbrev r0_3 : Rect S16448x1408 := Rect.unit (s := S16448x1408) ![0, 0] S16448x1408.size inb_S16448x1408_S16448x1408_0_0
abbrev r0_4 : Rect S16448x1 := Rect.unit (s := S16448x1) ![0, 0] S16448x1.size inb_S16448x1_S16448x1_0_0
abbrev r0_5 : Rect S1408x768 := Rect.unit (s := S1408x768) ![0, 0] S1408x768.size inb_S1408x768_S1408x768_0_0
abbrev r0_6 : Rect S768x3072 := Rect.unit (s := S768x3072) ![0, 0] S768x3072.size inb_S768x3072_S768x3072_0_0
abbrev r0_7 : Rect S1x3072 := Rect.unit (s := S1x3072) ![0, 0] S1x3072.size inb_S1x3072_S1x3072_0_0
abbrev r0_8 : Rect S3072x768 := Rect.unit (s := S3072x768) ![0, 0] S3072x768.size inb_S3072x768_S3072x768_0_0
abbrev r0_9 : Rect S64x32 := Rect.unit (s := S64x32) ![0, 0] S64x32.size inb_S64x32_S64x32_0_0
abbrev r0_10 : Rect S2048x3072 := Rect.unit (s := S2048x3072) ![0, 0] S2048x3072.size inb_S2048x3072_S2048x3072_0_0

/-! ## What the body leaves in each output window's buffer -/

/-! ### Values of the body that the stores' payloads, spelt out, would write more than once

    Each is a vector the body binds (often a part call's result), stated over the input windows' blocks and
    numbered on from the skeleton's payload functions (`k0_pay31` …, after `k0_pay30`), so that
    `out0_W` and the values after it name it instead of spelling it out (the canon
    with them, `unfold_payloads` opens them with the payloads); the comment after each is the printed function's
    name for the value (a count appended where that name is bound again). -/

def k0_pay31 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x768 .bf16 :=
  k0_pay4 (View.ld x0 r0_0) -- `v1`
def k0_pay32 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S512x32x96 .bf16 :=
  k0_pay5 (View.ld x0 r0_0) (View.ld x5 r0_1) (View.ld x8 r0_2) -- `v27`
def k0_pay33 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S512x32x32 .f32 :=
  k0_pay6 (View.ld x0 r0_0) (View.ld x3 r0_1) (View.ld x7 r0_2) (View.ld x4 r0_1) -- `v35`
def k0_pay34 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S512x32x1 .f32 :=
  k0_pay7 (View.ld x0 r0_0) (View.ld x3 r0_1) (View.ld x7 r0_2) (View.ld x4 r0_1) -- `v39`
def k0_pay35 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x768 .f32 :=
  k0_pay8 (k0_pay31 x0 x1 x2 x3 x4 x5 x6 x7 x8 x9 x10 x11 x12 x13 x14 x15 x16 x17 x18 x19 x20 x21 x22 x23 x24 x25 x26 x27 x28 x29 x30) (k0_pay32 x0 x1 x2 x3 x4 x5 x6 x7 x8 x9 x10 x11 x12 x13 x14 x15 x16 x17 x18 x19 x20 x21 x22 x23 x24 x25 x26 x27 x28 x29 x30) (k0_pay33 x0 x1 x2 x3 x4 x5 x6 x7 x8 x9 x10 x11 x12 x13 x14 x15 x16 x17 x18 x19 x20 x21 x22 x23 x24 x25 x26 x27 x28 x29 x30) (k0_pay34 x0 x1 x2 x3 x4 x5 x6 x7 x8 x9 x10 x11 x12 x13 x14 x15 x16 x17 x18 x19 x20 x21 x22 x23 x24 x25 x26 x27 x28 x29 x30) (View.ld x6 r0_1) (View.ld x9 r0_2) (View.ld x10 r0_2) (View.ld x11 r0_2) -- `v79`
def k0_pay36 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S512x32x257 .f32 :=
  constant S512x32x257 .f32 0x00000000#32 -- `cst_54`
def k0_pay37 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S512x32x96 .bf16 :=
  k0_pay10 (k0_pay9 (k0_pay31 x0 x1 x2 x3 x4 x5 x6 x7 x8 x9 x10 x11 x12 x13 x14 x15 x16 x17 x18 x19 x20 x21 x22 x23 x24 x25 x26 x27 x28 x29 x30) (k0_pay32 x0 x1 x2 x3 x4 x5 x6 x7 x8 x9 x10 x11 x12 x13 x14 x15 x16 x17 x18 x19 x20 x21 x22 x23 x24 x25 x26 x27 x28 x29 x30) (k0_pay33 x0 x1 x2 x3 x4 x5 x6 x7 x8 x9 x10 x11 x12 x13 x14 x15 x16 x17 x18 x19 x20 x21 x22 x23 x24 x25 x26 x27 x28 x29 x30) (k0_pay34 x0 x1 x2 x3 x4 x5 x6 x7 x8 x9 x10 x11 x12 x13 x14 x15 x16 x17 x18 x19 x20 x21 x22 x23 x24 x25 x26 x27 x28 x29 x30) (View.ld x6 r0_1) (View.ld x9 r0_2) (View.ld x10 r0_2) (View.ld x11 r0_2)) (View.ld x12 r0_1) (constant S2048x768 .f32 0x00000000#32) (View.ld x14 r0_2) -- `v90`
def k0_pay38 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S512x257x96 .bf16 :=
  k0_pay13 (View.ld x1 r0_3) (View.ld x2 r0_4) (View.ld x16 r0_5) (View.ld x18 r0_2) -- `v106`
def k0_pay39 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S512x257x96 .bf16 :=
  k0_pay14 (View.ld x1 r0_3) (View.ld x2 r0_4) (View.ld x17 r0_5) (View.ld x19 r0_2) (View.ld x20 r0_2) -- `v122`
def k0_pay40 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S1x768 .f32 :=
  k0_pay15 (View.ld x21 r0_2) -- `v151`
def k0_pay41 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S1x768 .f32 :=
  k0_pay16 (View.ld x22 r0_2) -- `v153`
def k0_pay42 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x768 .f32 :=
  k0_pay17 (k0_pay35 x0 x1 x2 x3 x4 x5 x6 x7 x8 x9 x10 x11 x12 x13 x14 x15 x16 x17 x18 x19 x20 x21 x22 x23 x24 x25 x26 x27 x28 x29 x30) (k0_pay37 x0 x1 x2 x3 x4 x5 x6 x7 x8 x9 x10 x11 x12 x13 x14 x15 x16 x17 x18 x19 x20 x21 x22 x23 x24 x25 x26 x27 x28 x29 x30) (k0_pay38 x0 x1 x2 x3 x4 x5 x6 x7 x8 x9 x10 x11 x12 x13 x14 x15 x16 x17 x18 x19 x20 x21 x22 x23 x24 x25 x26 x27 x28 x29 x30) (k0_pay39 x0 x1 x2 x3 x4 x5 x6 x7 x8 x9 x10 x11 x12 x13 x14 x15 x16 x17 x18 x19 x20 x21 x22 x23 x24 x25 x26 x27 x28 x29 x30) (k0_pay36 x0 x1 x2 x3 x4 x5 x6 x7 x8 x9 x10 x11 x12 x13 x14 x15 x16 x17 x18 x19 x20 x21 x22 x23 x24 x25 x26 x27 x28 x29 x30) (View.ld x13 r0_1) (View.ld x15 r0_2) -- `v159`
def k0_pay43 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x1 .f32 :=
  k0_pay18 (k0_pay35 x0 x1 x2 x3 x4 x5 x6 x7 x8 x9 x10 x11 x12 x13 x14 x15 x16 x17 x18 x19 x20 x21 x22 x23 x24 x25 x26 x27 x28 x29 x30) (k0_pay37 x0 x1 x2 x3 x4 x5 x6 x7 x8 x9 x10 x11 x12 x13 x14 x15 x16 x17 x18 x19 x20 x21 x22 x23 x24 x25 x26 x27 x28 x29 x30) (k0_pay38 x0 x1 x2 x3 x4 x5 x6 x7 x8 x9 x10 x11 x12 x13 x14 x15 x16 x17 x18 x19 x20 x21 x22 x23 x24 x25 x26 x27 x28 x29 x30) (k0_pay39 x0 x1 x2 x3 x4 x5 x6 x7 x8 x9 x10 x11 x12 x13 x14 x15 x16 x17 x18 x19 x20 x21 x22 x23 x24 x25 x26 x27 x28 x29 x30) (k0_pay36 x0 x1 x2 x3 x4 x5 x6 x7 x8 x9 x10 x11 x12 x13 x14 x15 x16 x17 x18 x19 x20 x21 x22 x23 x24 x25 x26 x27 x28 x29 x30) (View.ld x13 r0_1) (View.ld x15 r0_2) -- `v164`
def k0_pay44 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x768 .f32 :=
  k0_pay19 (k0_pay40 x0 x1 x2 x3 x4 x5 x6 x7 x8 x9 x10 x11 x12 x13 x14 x15 x16 x17 x18 x19 x20 x21 x22 x23 x24 x25 x26 x27 x28 x29 x30) (k0_pay41 x0 x1 x2 x3 x4 x5 x6 x7 x8 x9 x10 x11 x12 x13 x14 x15 x16 x17 x18 x19 x20 x21 x22 x23 x24 x25 x26 x27 x28 x29 x30) (k0_pay42 x0 x1 x2 x3 x4 x5 x6 x7 x8 x9 x10 x11 x12 x13 x14 x15 x16 x17 x18 x19 x20 x21 x22 x23 x24 x25 x26 x27 x28 x29 x30) (k0_pay43 x0 x1 x2 x3 x4 x5 x6 x7 x8 x9 x10 x11 x12 x13 x14 x15 x16 x17 x18 x19 x20 x21 x22 x23 x24 x25 x26 x27 x28 x29 x30) -- `v173`
def k0_pay45 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x768 .fp8e4m3 :=
  k0_pay21 (k0_pay40 x0 x1 x2 x3 x4 x5 x6 x7 x8 x9 x10 x11 x12 x13 x14 x15 x16 x17 x18 x19 x20 x21 x22 x23 x24 x25 x26 x27 x28 x29 x30) (k0_pay41 x0 x1 x2 x3 x4 x5 x6 x7 x8 x9 x10 x11 x12 x13 x14 x15 x16 x17 x18 x19 x20 x21 x22 x23 x24 x25 x26 x27 x28 x29 x30) (k0_pay42 x0 x1 x2 x3 x4 x5 x6 x7 x8 x9 x10 x11 x12 x13 x14 x15 x16 x17 x18 x19 x20 x21 x22 x23 x24 x25 x26 x27 x28 x29 x30) (k0_pay43 x0 x1 x2 x3 x4 x5 x6 x7 x8 x9 x10 x11 x12 x13 x14 x15 x16 x17 x18 x19 x20 x21 x22 x23 x24 x25 x26 x27 x28 x29 x30) -- `v208`
def k0_pay46 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x1 .f32 :=
  k0_pay22 (k0_pay40 x0 x1 x2 x3 x4 x5 x6 x7 x8 x9 x10 x11 x12 x13 x14 x15 x16 x17 x18 x19 x20 x21 x22 x23 x24 x25 x26 x27 x28 x29 x30) (k0_pay41 x0 x1 x2 x3 x4 x5 x6 x7 x8 x9 x10 x11 x12 x13 x14 x15 x16 x17 x18 x19 x20 x21 x22 x23 x24 x25 x26 x27 x28 x29 x30) (k0_pay42 x0 x1 x2 x3 x4 x5 x6 x7 x8 x9 x10 x11 x12 x13 x14 x15 x16 x17 x18 x19 x20 x21 x22 x23 x24 x25 x26 x27 x28 x29 x30) (k0_pay43 x0 x1 x2 x3 x4 x5 x6 x7 x8 x9 x10 x11 x12 x13 x14 x15 x16 x17 x18 x19 x20 x21 x22 x23 x24 x25 x26 x27 x28 x29 x30) -- `v209`
def k0_pay47 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x3072 .f32 :=
  k0_pay23 (k0_pay45 x0 x1 x2 x3 x4 x5 x6 x7 x8 x9 x10 x11 x12 x13 x14 x15 x16 x17 x18 x19 x20 x21 x22 x23 x24 x25 x26 x27 x28 x29 x30) (k0_pay46 x0 x1 x2 x3 x4 x5 x6 x7 x8 x9 x10 x11 x12 x13 x14 x15 x16 x17 x18 x19 x20 x21 x22 x23 x24 x25 x26 x27 x28 x29 x30) (View.ld x23 r0_6) (View.ld x24 r0_7) (View.ld x25 r0_7) -- `v229`
def k0_pay48 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : FVec F S2048x1 .f32 :=
  k0_pay24 (k0_pay45 x0 x1 x2 x3 x4 x5 x6 x7 x8 x9 x10 x11 x12 x13 x14 x15 x16 x17 x18 x19 x20 x21 x22 x23 x24 x25 x26 x27 x28 x29 x30) (k0_pay46 x0 x1 x2 x3 x4 x5 x6 x7 x8 x9 x10 x11 x12 x13 x14 x15 x16 x17 x18 x19 x20 x21 x22 x23 x24 x25 x26 x27 x28 x29 x30) (View.ld x23 r0_6) (View.ld x24 r0_7) (View.ld x25 r0_7) -- `v254`

/-- Window 31's staging buffer after the body, from the input windows' blocks: its 1 store as pieces, LAST
    FIRST (Lib/Pipeline/FrameBody.lean `View.canon`; the payloads are the skeleton's and the values stated above). -/
def out0_31 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S2048x768 .bf16 :=
  View.canon [⟨r0_0, k0_pay1 (k0_pay27 (View.ld x29 r0_2)) (k0_pay28 (View.ld x30 r0_2)) (k0_pay29 (k0_pay44 x0 x1 x2 x3 x4 x5 x6 x7 x8 x9 x10 x11 x12 x13 x14 x15 x16 x17 x18 x19 x20 x21 x22 x23 x24 x25 x26 x27 x28 x29 x30) (k0_pay47 x0 x1 x2 x3 x4 x5 x6 x7 x8 x9 x10 x11 x12 x13 x14 x15 x16 x17 x18 x19 x20 x21 x22 x23 x24 x25 x26 x27 x28 x29 x30) (k0_pay48 x0 x1 x2 x3 x4 x5 x6 x7 x8 x9 x10 x11 x12 x13 x14 x15 x16 x17 x18 x19 x20 x21 x22 x23 x24 x25 x26 x27 x28 x29 x30) (View.ld x26 r0_8) (View.ld x27 r0_2) (View.ld x28 r0_2)) (k0_pay30 (k0_pay44 x0 x1 x2 x3 x4 x5 x6 x7 x8 x9 x10 x11 x12 x13 x14 x15 x16 x17 x18 x19 x20 x21 x22 x23 x24 x25 x26 x27 x28 x29 x30) (k0_pay47 x0 x1 x2 x3 x4 x5 x6 x7 x8 x9 x10 x11 x12 x13 x14 x15 x16 x17 x18 x19 x20 x21 x22 x23 x24 x25 x26 x27 x28 x29 x30) (k0_pay48 x0 x1 x2 x3 x4 x5 x6 x7 x8 x9 x10 x11 x12 x13 x14 x15 x16 x17 x18 x19 x20 x21 x22 x23 x24 x25 x26 x27 x28 x29 x30) (View.ld x26 r0_8) (View.ld x27 r0_2) (View.ld x28 r0_2))⟩]

/-- Its stores tile the buffer (checked by evaluation), so they cover it. -/
theorem cover0_31 (p0 : Vec F S2048x768 .bf16) (y : S2048x768.Idx) :
    ∃ pc ∈ ([⟨r0_0, p0⟩] : List (View.Piece (Elt F) S2048x768 .bf16)), y ∈ pc.1.set :=
  View.cover_of_tiled [⟨r0_0, p0⟩] S2048x768.size (by rfl) y

/-- Window 32's staging buffer after the body, from the input windows' blocks: its 1 store as pieces, LAST
    FIRST (Lib/Pipeline/FrameBody.lean `View.canon`; the payloads are the skeleton's and the values stated above). -/
def out0_32 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S2048x768 .fp8e4m3 :=
  View.canon [⟨r0_0, k0_pay45 x0 x1 x2 x3 x4 x5 x6 x7 x8 x9 x10 x11 x12 x13 x14 x15 x16 x17 x18 x19 x20 x21 x22 x23 x24 x25 x26 x27 x28 x29 x30⟩]

/-- Its stores tile the buffer (checked by evaluation), so they cover it. -/
theorem cover0_32 (p0 : Vec F S2048x768 .fp8e4m3) (y : S2048x768.Idx) :
    ∃ pc ∈ ([⟨r0_0, p0⟩] : List (View.Piece (Elt F) S2048x768 .fp8e4m3)), y ∈ pc.1.set :=
  View.cover_of_tiled [⟨r0_0, p0⟩] S2048x768.size (by rfl) y

/-- Window 33's staging buffer after the body, from the input windows' blocks: its 1 store as pieces, LAST
    FIRST (Lib/Pipeline/FrameBody.lean `View.canon`; the payloads are the skeleton's and the values stated above). -/
def out0_33 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S64x32 .f32 :=
  View.canon [⟨r0_9, k0_pay2 (k0_pay46 x0 x1 x2 x3 x4 x5 x6 x7 x8 x9 x10 x11 x12 x13 x14 x15 x16 x17 x18 x19 x20 x21 x22 x23 x24 x25 x26 x27 x28 x29 x30)⟩]

/-- Its stores tile the buffer (checked by evaluation), so they cover it. -/
theorem cover0_33 (p0 : Vec F S64x32 .f32) (y : S64x32.Idx) :
    ∃ pc ∈ ([⟨r0_9, p0⟩] : List (View.Piece (Elt F) S64x32 .f32)), y ∈ pc.1.set :=
  View.cover_of_tiled [⟨r0_9, p0⟩] S64x32.size (by rfl) y

/-- Window 34's staging buffer after the body, from the input windows' blocks: its 1 store as pieces, LAST
    FIRST (Lib/Pipeline/FrameBody.lean `View.canon`; the payloads are the skeleton's and the values stated above). -/
def out0_34 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S2048x3072 .fp8e4m3 :=
  View.canon [⟨r0_10, k0_pay25 (k0_pay47 x0 x1 x2 x3 x4 x5 x6 x7 x8 x9 x10 x11 x12 x13 x14 x15 x16 x17 x18 x19 x20 x21 x22 x23 x24 x25 x26 x27 x28 x29 x30) (k0_pay48 x0 x1 x2 x3 x4 x5 x6 x7 x8 x9 x10 x11 x12 x13 x14 x15 x16 x17 x18 x19 x20 x21 x22 x23 x24 x25 x26 x27 x28 x29 x30)⟩]

/-- Its stores tile the buffer (checked by evaluation), so they cover it. -/
theorem cover0_34 (p0 : Vec F S2048x3072 .fp8e4m3) (y : S2048x3072.Idx) :
    ∃ pc ∈ ([⟨r0_10, p0⟩] : List (View.Piece (Elt F) S2048x3072 .fp8e4m3)), y ∈ pc.1.set :=
  View.cover_of_tiled [⟨r0_10, p0⟩] S2048x3072.size (by rfl) y

/-- Window 35's staging buffer after the body, from the input windows' blocks: its 1 store as pieces, LAST
    FIRST (Lib/Pipeline/FrameBody.lean `View.canon`; the payloads are the skeleton's and the values stated above). -/
def out0_35 (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) : Vec F S64x32 .f32 :=
  View.canon [⟨r0_9, k0_pay3 (k0_pay26 (k0_pay48 x0 x1 x2 x3 x4 x5 x6 x7 x8 x9 x10 x11 x12 x13 x14 x15 x16 x17 x18 x19 x20 x21 x22 x23 x24 x25 x26 x27 x28 x29 x30))⟩]

/-- Its stores tile the buffer (checked by evaluation), so they cover it. -/
theorem cover0_35 (p0 : Vec F S64x32 .f32) (y : S64x32.Idx) :
    ∃ pc ∈ ([⟨r0_9, p0⟩] : List (View.Piece (Elt F) S64x32 .f32)), y ∈ pc.1.set :=
  View.cover_of_tiled [⟨r0_9, p0⟩] S64x32.size (by rfl) y

/-! ## The body's triple -/

set_option maxHeartbeats 1988050 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S2048x768 .bf16) (harg0 : arg0.IsWhole) (arg1 : Memref sig .tc .vmem S16448x1408 .fp8e4m3) (harg1 : arg1.IsWhole) (arg2 : Memref sig .tc .vmem S16448x1 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S768x768 .bf16) (harg12 : arg12.IsWhole) (arg13 : Memref sig .tc .vmem S768x768 .bf16) (harg13 : arg13.IsWhole) (arg14 : Memref sig .tc .vmem S1x768 .f32) (harg14 : arg14.IsWhole) (arg15 : Memref sig .tc .vmem S1x768 .f32) (harg15 : arg15.IsWhole) (arg16 : Memref sig .tc .vmem S1408x768 .fp8e4m3) (harg16 : arg16.IsWhole) (arg17 : Memref sig .tc .vmem S1408x768 .fp8e4m3) (harg17 : arg17.IsWhole) (arg18 : Memref sig .tc .vmem S1x768 .f32) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S1x768 .f32) (harg22 : arg22.IsWhole) (arg23 : Memref sig .tc .vmem S768x3072 .fp8e4m3) (harg23 : arg23.IsWhole) (arg24 : Memref sig .tc .vmem S1x3072 .f32) (harg24 : arg24.IsWhole) (arg25 : Memref sig .tc .vmem S1x3072 .f32) (harg25 : arg25.IsWhole) (arg26 : Memref sig .tc .vmem S3072x768 .fp8e4m3) (harg26 : arg26.IsWhole) (arg27 : Memref sig .tc .vmem S1x768 .f32) (harg27 : arg27.IsWhole) (arg28 : Memref sig .tc .vmem S1x768 .f32) (harg28 : arg28.IsWhole) (arg29 : Memref sig .tc .vmem S1x768 .f32) (harg29 : arg29.IsWhole) (arg30 : Memref sig .tc .vmem S1x768 .f32) (harg30 : arg30.IsWhole) (arg31 : Memref sig .tc .vmem S2048x768 .bf16) (harg31 : arg31.IsWhole) (arg32 : Memref sig .tc .vmem S2048x768 .fp8e4m3) (harg32 : arg32.IsWhole) (arg33 : Memref sig .tc .vmem S64x32 .f32) (harg33 : arg33.IsWhole) (arg34 : Memref sig .tc .vmem S2048x3072 .fp8e4m3) (harg34 : arg34.IsWhole) (arg35 : Memref sig .tc .vmem S64x32 .f32) (harg35 : arg35.IsWhole)
    (x0 : Vec F S2048x768 .bf16) (x1 : Vec F S16448x1408 .fp8e4m3) (x2 : Vec F S16448x1 .f32) (x3 : Vec F S768x768 .bf16) (x4 : Vec F S768x768 .bf16) (x5 : Vec F S768x768 .bf16) (x6 : Vec F S768x768 .bf16) (x7 : Vec F S1x768 .f32) (x8 : Vec F S1x768 .f32) (x9 : Vec F S1x768 .f32) (x10 : Vec F S1x768 .f32) (x11 : Vec F S1x768 .f32) (x12 : Vec F S768x768 .bf16) (x13 : Vec F S768x768 .bf16) (x14 : Vec F S1x768 .f32) (x15 : Vec F S1x768 .f32) (x16 : Vec F S1408x768 .fp8e4m3) (x17 : Vec F S1408x768 .fp8e4m3) (x18 : Vec F S1x768 .f32) (x19 : Vec F S1x768 .f32) (x20 : Vec F S1x768 .f32) (x21 : Vec F S1x768 .f32) (x22 : Vec F S1x768 .f32) (x23 : Vec F S768x3072 .fp8e4m3) (x24 : Vec F S1x3072 .f32) (x25 : Vec F S1x3072 .f32) (x26 : Vec F S3072x768 .fp8e4m3) (x27 : Vec F S1x768 .f32) (x28 : Vec F S1x768 .f32) (x29 : Vec F S1x768 .f32) (x30 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare (out0_31 x0 x1 x2 x3 x4 x5 x6 x7 x8 x9 x10 x11 x12 x13 x14 x15 x16 x17 x18 x19 x20 x21 x22 x23 x24 x25 x26 x27 x28 x29 x30) ∗ owns (c : Thread nD τ) arg32 fullShare (out0_32 x0 x1 x2 x3 x4 x5 x6 x7 x8 x9 x10 x11 x12 x13 x14 x15 x16 x17 x18 x19 x20 x21 x22 x23 x24 x25 x26 x27 x28 x29 x30) ∗ owns (c : Thread nD τ) arg33 fullShare (out0_33 x0 x1 x2 x3 x4 x5 x6 x7 x8 x9 x10 x11 x12 x13 x14 x15 x16 x17 x18 x19 x20 x21 x22 x23 x24 x25 x26 x27 x28 x29 x30) ∗ owns (c : Thread nD τ) arg34 fullShare (out0_34 x0 x1 x2 x3 x4 x5 x6 x7 x8 x9 x10 x11 x12 x13 x14 x15 x16 x17 x18 x19 x20 x21 x22 x23 x24 x25 x26 x27 x28 x29 x30) ∗ owns (c : Thread nD τ) arg35 fullShare (out0_35 x0 x1 x2 x3 x4 x5 x6 x7 x8 x9 x10 x11 x12 x13 x14 x15 x16 x17 x18 x19 x20 x21 x22 x23 x24 x25 x26 x27 x28 x29 x30)) -∗ K ⟨⟩))
      ⊢ wp frame (wpE (defs₀ (F := F)) Variants.none c none) E (cc0__layer arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0__layer_eq_skeleton]; unfold cc0__layer_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  iexists _; isplitr
  swap; · iexact H35
  ipureintro
  refine (View.read_writes_eq_canon _ _ _ (cover0_35 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_of m ρ (dats m) (A_eq m) (run_main m ρ)

/-- THE FRAME: `Cert.quiescent_ReferenceIdeal`'s statement (Defs.lean) at any `F` — Proof.lean cites it at `Bits`:
    `theorem Cert.Proof.claim : Cert.Claim := ⟨Cert.ReferenceIdeal.Gen.facts, fun m ρ _ => Cert.ReferenceIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30))
      ∧ r.2.sem = fun _ => 0) :=
  θ_run_and (unchanged m ρ) ((θ_run defs _ _).mono (fun _ h => h.2) (run_main_quiescent m ρ))

end Cert.ReferenceIdeal.Gen

end
-- ==== Proof.Ker.Band.lean ====
/- Sums over a head's lanes: the kernel sums whole tiles with the lanes outside the head set to zero. -/
module

public import Idealize.ShloMosaic.PureOps.Ideal
public import Idealize.ShloMosaic.Lib.Pointwise

@[expose] public section

set_option maxRecDepth 16384

noncomputable section

namespace Cert.Band

open Idealize.ShloMosaic

/-- A lane mask chooses by the lane's number. -/
theorem select_band {α : Type} (n a lo hi : ℕ) (hn : n + a < 2 ^ 31) (hl : lo < 2 ^ 31) (hh : hi < 2 ^ 31) (u v : α) :
    Scalar.select (IntOp.andi (IntOp.cmpi .sge (IntOp.addi (BitVec.ofNat 32 n) (BitVec.ofNat 32 a)) (BitVec.ofNat 32 lo))
      (IntOp.cmpi .slt (IntOp.addi (BitVec.ofNat 32 n) (BitVec.ofNat 32 a)) (BitVec.ofNat 32 hi))) u v
      = if lo ≤ a + n ∧ a + n < hi then u else v := by
  have e : IntOp.addi (BitVec.ofNat 32 n) (BitVec.ofNat 32 a) = BitVec.ofNat 32 (a + n) := by
    simp [IntOp.addi, BitVec.ofNat_add, Nat.add_comm a n]
  have ti : ∀ m : ℕ, m < 2 ^ 31 → (BitVec.ofNat 32 m).toInt = m := by
    intro m hm
    rw [BitVec.toInt_eq_toNat_cond, BitVec.toNat_ofNat, Nat.mod_eq_of_lt (by omega), if_pos (by omega)]
  have e1 := ti (a + n) (by omega)
  have e2 := ti lo hl
  have e3 := ti hi hh
  have c1 : IntOp.cmpi .sge (BitVec.ofNat 32 (a + n)) (BitVec.ofNat 32 lo) = BitVec.ofBool (decide (lo ≤ a + n)) := by
    show BitVec.ofBool (BitVec.sle _ _) = _
    simp only [BitVec.sle, e1, e2, Nat.cast_le]
  have c2 : IntOp.cmpi .slt (BitVec.ofNat 32 (a + n)) (BitVec.ofNat 32 hi) = BitVec.ofBool (decide (a + n < hi)) := by
    show BitVec.ofBool (BitVec.slt _ _) = _
    simp only [BitVec.slt, e1, e3, Nat.cast_lt]
  rw [e, c1, c2]
  by_cases h1 : lo ≤ a + n <;> by_cases h2 : a + n < hi <;> simp only [h1, h2, and_self, and_true, true_and, and_false, false_and, if_true, if_false, decide_true, decide_false] <;> rfl

/-- A masked sum over a tile of `n` lanes from lane `a` on is the sum over the lanes of the tile in `[lo, hi)`. -/
theorem sum_band {n : ℕ} (f : Fin n → EReal) (g : ℕ → EReal) (a lo hi : ℕ) (hf : ∀ x : Fin n, f x = g (a + x.1)) :
    (∑ x : Fin n, if lo ≤ a + x.1 ∧ a + x.1 < hi then f x else 0) = ∑ j ∈ Finset.Ico (max lo a) (min hi (a + n)), g j := by
  simp only [hf]
  rw [Fin.sum_univ_eq_sum_range (fun x => if lo ≤ a + x ∧ a + x < hi then g (a + x) else 0) n, ← Finset.sum_filter]
  refine Finset.sum_nbij' (fun x => a + x) (fun j => j - a) ?_ ?_ ?_ ?_ ?_
  · intro x hx; simp only [Finset.mem_filter, Finset.mem_range, Finset.mem_Ico] at *; omega
  · intro j hj; simp only [Finset.mem_filter, Finset.mem_range, Finset.mem_Ico] at *; omega
  · intro x hx; simp
  · intro j hj; simp only [Finset.mem_Ico] at hj; omega
  · intro x hx; rfl

/-- The lanes of a head, counted from its first. -/
theorem sum_head (g : ℕ → EReal) (lo n : ℕ) (f : Fin n → EReal) (hf : ∀ d : Fin n, f d = g (lo + d.1)) :
    (∑ j ∈ Finset.Ico lo (lo + n), g j) = ∑ d : Fin n, f d := by
  rw [Finset.sum_Ico_eq_sum_range, Nat.add_sub_cancel_left, ← Fin.sum_univ_eq_sum_range (fun d => g (lo + d)) n]
  exact Finset.sum_congr rfl fun d _ => (hf d).symm

/-- A function of the lanes, zero past the last. -/
def cell (f : Fin 768 → EReal) (j : ℕ) : EReal := if h : j < 768 then f ⟨j, h⟩ else 0

/-- A lane mask chooses by the lane's number: `x` a lane of a tile. -/
theorem select_lane {α : Type} {n : ℕ} (x : Fin n) (a lo hi : ℕ) (hn : n + a < 2 ^ 31) (hl : lo < 2 ^ 31) (hh : hi < 2 ^ 31)
    (u v : α) :
    Scalar.select (IntOp.andi (IntOp.cmpi .sge (IntOp.addi (BitVec.ofNat 32 x.1) (BitVec.ofNat 32 a)) (BitVec.ofNat 32 lo))
      (IntOp.cmpi .slt (IntOp.addi (BitVec.ofNat 32 x.1) (BitVec.ofNat 32 a)) (BitVec.ofNat 32 hi))) u v
      = if lo ≤ a + x.1 ∧ a + x.1 < hi then u else v :=
  select_band x.1 a lo hi (by have := x.2; omega) hl hh u v

/-- The head that lane `j` belongs to. -/
def headOf (j : Fin 768) : Fin 8 := ⟨j.1 / 96, by omega⟩

/-- The head's lane `96 h + d`. -/
def lane (h : Fin 8) (d : Fin 96) : Fin 768 := ⟨96 * h.1 + d.1, by omega⟩

/-- Lane `c` of the 128 lanes `lt`. -/
def at128 (lt : Fin 6) (c : Fin 128) : Fin 768 := ⟨128 * lt.1 + c.1, by omega⟩

/-- The sum over a head's lanes. -/
theorem sum_lanes (f : Fin 768 → EReal) (h : Fin 8) :
    (∑ d : Fin 96, f (lane h d)) = ∑ j ∈ Finset.Ico (96 * h.1) (96 * h.1 + 96), cell f j :=
  (sum_head (cell f) (96 * h.1) 96 _ fun d => by
    have := h.2
    have := d.2
    simp only [cell, lane]
    rw [dif_pos (by omega)]).symm

end Cert.Band

end
-- ==== Proof.Spec.lean ====
/- The layer as mathematics: what both programs are shown to compute. -/
module

public import proofs.«01_k».proof.Proof.Ker.Band
public import Idealize.ShloMosaic.Lib.Pointwise

@[expose] public section

set_option maxRecDepth 16384

noncomputable section

namespace Cert.Spec

open Idealize.ShloMosaic Idealize.SL.Sem Cert.Band

/-- A row of 768 lanes. -/
abbrev Row := Fin 768 → EReal

/-- The largest of a row, minus infinity for none. -/
def fmax {n : ℕ} (s : Fin n → EReal) : EReal :=
  (Finset.univ : Finset (Fin n)).fold max (Ideal.ofBits .f32 0xFF800000#32 : EReal) s

/-- The exponential of a score less the largest score. -/
def ex {n : ℕ} (s : Fin n → EReal) (l : Fin n) : EReal := Ideal.exp (s l - fmax s)

/-- The softmax of the scores `s`, by the reciprocal of the sum, as weights of the values `v`. -/
def attend {n : ℕ} (s v : Fin n → EReal) : EReal :=
  ∑ l, ex s l * Ideal.div 1 (∑ l, ex s l) * v l

/-- A head's scaled scores: the head of lane `j`. -/
def scores {n : ℕ} (q : Row) (K : Fin n → Row) (j : Fin 8) (l : Fin n) : EReal :=
  (∑ d : Fin 96, q (lane j d) * K l (lane j d)) * Ideal.ofBits .f32 0x3DD105EC#32

/-- Attention of one query row, eight heads of 96 lanes. -/
def context {n : ℕ} (q : Row) (K V : Fin n → Row) (j : Fin 768) : EReal :=
  attend (scores q K (headOf j)) (fun l => V l j)

/-- The mean of a row. -/
def mean (h : Row) : EReal := Ideal.div (∑ c, h c) (Ideal.ofBits .f32 0x44400000#32)

/-- A row less its mean. -/
def cen (h : Row) (c : Fin 768) : EReal := h c - mean h

/-- The normalised row, with gain and bias. -/
def norm (g b h : Row) (c : Fin 768) : EReal :=
  cen h c * Ideal.rsqrt (mean (fun c => cen h c * cen h c) + Ideal.ofBits .f32 0x2B8CBCCC#32) * g c + b c

/-- A row times a matrix. -/
def lin {m n : ℕ} (w : Fin m → Fin n → EReal) (a : Fin m → EReal) (c : Fin n) : EReal := ∑ k, a k * w k c

/-- The layer's weights. -/
structure Params where
  /-- the weights of the self-attention -/
  (wq wk wv wo : Fin 768 → Row)
  (bq bv bo g1 b1 : Row)
  /-- the weights of the cross-attention -/
  (wcq wco : Fin 768 → Row)
  (bcq bco : Row)
  (wck wcv : Fin 1408 → Row)
  (sck scv bcv g2 b2 : Row)
  /-- the weights of the feed-forward part -/
  (wf1 : Fin 768 → Fin 3072 → EReal)
  (sf1 bf1 : Fin 3072 → EReal)
  (wf2 : Fin 3072 → Row)
  (sf2 bf2 g3 b3 : Row)

variable (P : Params)

/-- The self-attention's queries. -/
def sq (x : Row) : Row := fun c => lin P.wq x c + P.bq c
/-- The self-attention's keys. -/
def sk (x : Row) : Row := lin P.wk x
/-- The self-attention's values. -/
def sv (x : Row) : Row := fun c => lin P.wv x c + P.bv c
/-- The self-attention's context of token `r` of an image `X`. -/
def sctx (X : Fin 32 → Row) (r : Fin 32) : Row := context (sq P (X r)) (fun l => sk P (X l)) (fun l => sv P (X l))
/-- After the self-attention, from its context. -/
def post1 (x ctx : Row) : Row := norm P.g1 P.b1 fun c => x c + (lin P.wo ctx c + P.bo c)
/-- Token `r` after the self-attention. -/
def h1 (X : Fin 32 → Row) (r : Fin 32) : Row := post1 P (X r) (sctx P X r)
/-- The cross-attention's queries. -/
def cq (h : Row) : Row := fun c => lin P.wcq h c + P.bcq c
/-- The cross-attention's keys, of one image token's codes and scale. -/
def ck (code : Fin 1408 → EReal) (tok : EReal) : Row := fun c => lin P.wck code c * tok * P.sck c
/-- The cross-attention's values. -/
def cv (code : Fin 1408 → EReal) (tok : EReal) : Row := fun c => lin P.wcv code c * tok * P.scv c + P.bcv c
/-- The cross-attention's context. -/
def cctx (h : Row) (codes : Fin 257 → Fin 1408 → EReal) (tok : Fin 257 → EReal) : Row :=
  context (cq P h) (fun l => ck P (codes l) (tok l)) (fun l => cv P (codes l) (tok l))
/-- After the cross-attention, from its context. -/
def post2 (h ctx : Row) : Row := norm P.g2 P.b2 fun c => h c + (lin P.wco ctx c + P.bco c)
/-- Token `r` after the cross-attention. -/
def h2 (X : Fin 32 → Row) (codes : Fin 257 → Fin 1408 → EReal) (tok : Fin 257 → EReal) (r : Fin 32) : Row :=
  post2 P (h1 P X r) (cctx P (h1 P X r) codes tok)

/-- The largest magnitude of a row over 448. -/
def peak {n : ℕ} (h : Fin n → EReal) : EReal := fmax (fun c => max (h c) (-(h c))) * Ideal.ofBits .f32 0x3B124925#32

open Classical in
/-- How many of the powers of two `2^(n-127)`, for `n` from 1 to 246, are at most `y`: the last `n` of them. -/
def count (y : EReal) : ℕ := Nat.findGreatest (fun n : ℕ => (((2 : ℝ) ^ ((n : ℤ) - 127) : ℝ) : EReal) ≤ y) 246

/-- The exponent of the scale: the largest `k` from -125 to 120 with `2^(k-1) ≤ y`, and 0 where there is none. -/
def expo (y : EReal) : ℤ := if count y = 0 then 0 else (count y : ℤ) - 126

/-- The scale. -/
def scaleOf (y : EReal) : EReal := (((2 : ℝ) ^ (expo y) : ℝ) : EReal)
/-- One over the scale. -/
def invOf (y : EReal) : EReal := (((2 : ℝ) ^ (-expo y) : ℝ) : EReal)
/-- A row's codes. -/
def codesOf {n : ℕ} (h : Fin n → EReal) (c : Fin n) : EReal :=
  min (Ideal.ofBits .f32 0x43E00000#32) (max (Ideal.ofBits .f32 0xC3E00000#32) (h c * invOf (peak h)))

/-- The Gaussian error unit. -/
def gelu (f : EReal) : EReal :=
  Ideal.ofBits .f32 0x3F000000#32 * f * (1 + Ideal.erf (f * Ideal.ofBits .f32 0x3F3504F3#32))

/-- The feed-forward part's 3072 lanes. -/
def ff (h : Row) (c : Fin 3072) : EReal :=
  gelu (lin P.wf1 (codesOf h) c * (scaleOf (peak h) * P.sf1 c) + P.bf1 c)

/-- The layer's output row. -/
def out (h : Row) : Row :=
  norm P.g3 P.b3 fun c => h c + (lin P.wf2 (codesOf (ff P h)) c * (scaleOf (peak (ff P h)) * P.sf2 c) + P.bf2 c)

end Cert.Spec

end
-- ==== Proof.Args.lean ====
/- The arguments of the two programs, and the five results as functions of them: of row `n` the image is `n / 32`
   and the token `n % 32`. -/
module

public import proofs.«01_k».proof.Proof.Spec
public import Idealize.ShloMosaic.Lib.Pointwise

@[expose] public section

noncomputable section

namespace Cert

open Cert.Spec Idealize.ShloMosaic

/-- The arguments' contents. -/
structure Args where
  a0 : (⟨3, ![64, 32, 768]⟩ : Shape).Idx → EReal
  a1 : (⟨3, ![64, 257, 1408]⟩ : Shape).Idx → EReal
  a2 : (⟨2, ![64, 257]⟩ : Shape).Idx → EReal
  a3 : (⟨2, ![768, 768]⟩ : Shape).Idx → EReal
  a4 : (⟨2, ![768, 768]⟩ : Shape).Idx → EReal
  a5 : (⟨2, ![768, 768]⟩ : Shape).Idx → EReal
  a6 : (⟨2, ![768, 768]⟩ : Shape).Idx → EReal
  a7 : (⟨1, ![768]⟩ : Shape).Idx → EReal
  a8 : (⟨1, ![768]⟩ : Shape).Idx → EReal
  a9 : (⟨1, ![768]⟩ : Shape).Idx → EReal
  a10 : (⟨1, ![768]⟩ : Shape).Idx → EReal
  a11 : (⟨1, ![768]⟩ : Shape).Idx → EReal
  a12 : (⟨2, ![768, 768]⟩ : Shape).Idx → EReal
  a13 : (⟨2, ![768, 768]⟩ : Shape).Idx → EReal
  a14 : (⟨1, ![768]⟩ : Shape).Idx → EReal
  a15 : (⟨1, ![768]⟩ : Shape).Idx → EReal
  a16 : (⟨2, ![1408, 768]⟩ : Shape).Idx → EReal
  a17 : (⟨2, ![1408, 768]⟩ : Shape).Idx → EReal
  a18 : (⟨1, ![768]⟩ : Shape).Idx → EReal
  a19 : (⟨1, ![768]⟩ : Shape).Idx → EReal
  a20 : (⟨1, ![768]⟩ : Shape).Idx → EReal
  a21 : (⟨1, ![768]⟩ : Shape).Idx → EReal
  a22 : (⟨1, ![768]⟩ : Shape).Idx → EReal
  a23 : (⟨2, ![768, 3072]⟩ : Shape).Idx → EReal
  a24 : (⟨1, ![3072]⟩ : Shape).Idx → EReal
  a25 : (⟨1, ![3072]⟩ : Shape).Idx → EReal
  a26 : (⟨2, ![3072, 768]⟩ : Shape).Idx → EReal
  a27 : (⟨1, ![768]⟩ : Shape).Idx → EReal
  a28 : (⟨1, ![768]⟩ : Shape).Idx → EReal
  a29 : (⟨1, ![768]⟩ : Shape).Idx → EReal
  a30 : (⟨1, ![768]⟩ : Shape).Idx → EReal

namespace Args

variable (A : Args)

/-- The layer's weights. -/
def params : Params where
  wq := fun i j => A.a3 (ix2 i j)
  wk := fun i j => A.a4 (ix2 i j)
  wv := fun i j => A.a5 (ix2 i j)
  wo := fun i j => A.a6 (ix2 i j)
  bq := fun j => A.a7 (ix1 j)
  bv := fun j => A.a8 (ix1 j)
  bo := fun j => A.a9 (ix1 j)
  g1 := fun j => A.a10 (ix1 j)
  b1 := fun j => A.a11 (ix1 j)
  wcq := fun i j => A.a12 (ix2 i j)
  wco := fun i j => A.a13 (ix2 i j)
  bcq := fun j => A.a14 (ix1 j)
  bco := fun j => A.a15 (ix1 j)
  wck := fun i j => A.a16 (ix2 i j)
  wcv := fun i j => A.a17 (ix2 i j)
  sck := fun j => A.a18 (ix1 j)
  scv := fun j => A.a19 (ix1 j)
  bcv := fun j => A.a20 (ix1 j)
  g2 := fun j => A.a21 (ix1 j)
  b2 := fun j => A.a22 (ix1 j)
  wf1 := fun i j => A.a23 (ix2 i j)
  sf1 := fun j => A.a24 (ix1 j)
  bf1 := fun j => A.a25 (ix1 j)
  wf2 := fun i j => A.a26 (ix2 i j)
  sf2 := fun j => A.a27 (ix1 j)
  bf2 := fun j => A.a28 (ix1 j)
  g3 := fun j => A.a29 (ix1 j)
  b3 := fun j => A.a30 (ix1 j)

/-- The tokens of image `b`. -/
def X (b : Fin 64) (r : Fin 32) : Row := fun c => A.a0 (ix3 b r c)
/-- The codes of image `b`. -/
def codes (b : Fin 64) (l : Fin 257) : Fin 1408 → EReal := fun c => A.a1 (ix3 b l c)
/-- The scales of image `b`'s codes. -/
def tok (b : Fin 64) (l : Fin 257) : EReal := A.a2 (ix2 b l)
/-- Token `r` of image `b` after the cross-attention. -/
def h2 (b : Fin 64) (r : Fin 32) : Row := Spec.h2 A.params (A.X b) (A.codes b) (A.tok b) r

/-- A row's image. -/
def img (n : Fin 2048) : Fin 64 := ⟨n / 32, by have := n.2; omega⟩
/-- A row's token. -/
def tokOf (n : Fin 2048) : Fin 32 := ⟨n % 32, by omega⟩

/-- The layer's output. -/
def out : (⟨2, ![2048, 768]⟩ : Shape).Idx → EReal := fun i => Spec.out A.params (A.h2 (img (i 0)) (tokOf (i 0))) (i 1)
/-- The codes of the rows after the cross-attention. -/
def h2c : (⟨2, ![2048, 768]⟩ : Shape).Idx → EReal := fun i => codesOf (A.h2 (img (i 0)) (tokOf (i 0))) (i 1)
/-- Their scales. -/
def h2s : (⟨2, ![64, 32]⟩ : Shape).Idx → EReal := fun i => scaleOf (peak (A.h2 (i 0) (i 1)))
/-- The codes of the feed-forward part's rows. -/
def gc : (⟨2, ![2048, 3072]⟩ : Shape).Idx → EReal := fun i => codesOf (ff A.params (A.h2 (img (i 0)) (tokOf (i 0)))) (i 1)
/-- Their scales. -/
def gs : (⟨2, ![64, 32]⟩ : Shape).Idx → EReal := fun i => scaleOf (peak (ff A.params (A.h2 (i 0) (i 1))))

end Args

end Cert

end
-- ==== Proof.Quant.lean ====
/- The power-of-two scale: the exponent as a count of powers of two, in the kernel by a word and in the reference by a
largest exponent. -/
module

public import proofs.«01_k».proof.Proof.Spec
public import Idealize.ShloMosaic.Lib.Pointwise

@[expose] public section

set_option maxRecDepth 16384

noncomputable section

namespace Cert.Spec

open Idealize.ShloMosaic Idealize.SL.Sem

/-- A power of two is at most `y` if its number is at most the count. -/
theorem le_count {y : EReal} {n : ℕ} (h1 : 1 ≤ n) (h2 : n ≤ 246) :
    ((((2 : ℝ) ^ ((n : ℤ) - 127) : ℝ) : EReal) ≤ y) ↔ n ≤ count y := by
  classical
  constructor
  · intro h
    exact Nat.le_findGreatest h2 h
  · intro h
    have hp := Nat.findGreatest_of_ne_zero (P := fun n : ℕ => (((2 : ℝ) ^ ((n : ℤ) - 127) : ℝ) : EReal) ≤ y) (n := 246) (m := count y)
      (by unfold count; congr) (by omega)
    refine le_trans ?_ hp
    exact EReal.coe_le_coe_iff.mpr (zpow_le_zpow_right₀ (by norm_num) (by omega))

theorem count_le (y : EReal) : count y ≤ 246 := Nat.findGreatest_le _

/-- The word of a number shifted to the exponent's place, as a number. -/
theorem word_toNat {n : ℕ} (h : n ≤ 254) : (BitVec.ofNat 32 n <<< 23).toNat = n * 8388608 := by
  simp only [BitVec.toNat_shiftLeft, BitVec.toNat_ofNat, Nat.shiftLeft_eq]
  omega

/-- That word read as a float: the power of two. -/
theorem ofBits_word {n : ℕ} (h1 : 1 ≤ n) (h2 : n ≤ 254) :
    Ideal.ofBits .f32 (BitVec.ofNat 32 n <<< 23) = (((2 : ℝ) ^ ((n : ℤ) - 127) : ℝ) : EReal) := by
  have e1 : ((BitVec.ofNat 32 n <<< 23).extractLsb' 31 1).toNat = 0 := by
    rw [BitVec.extractLsb'_toNat, word_toNat h2, Nat.shiftRight_eq_div_pow]
    omega
  have e2 : ((BitVec.ofNat 32 n <<< 23).extractLsb' 23 8).toNat = n := by
    rw [BitVec.extractLsb'_toNat, word_toNat h2, Nat.shiftRight_eq_div_pow]
    omega
  have e3 : ((BitVec.ofNat 32 n <<< 23).extractLsb' 0 23).toNat = 0 := by
    rw [BitVec.extractLsb'_toNat, word_toNat h2, Nat.shiftRight_eq_div_pow]
    omega
  have e1' : ((BitVec.ofNat 32 n <<< 23).extractLsb' 31 1) = 0#1 := BitVec.eq_of_toNat_eq e1
  simp only [Ideal.ofBits, Ideal.ieee, Nat.reduceAdd, e1', e2, e3]
  rw [if_neg (by omega), if_neg (by omega)]
  have : ((n : ℤ) - 127) = 23 + ((n : ℤ) - (2 ^ (8 - 1) - 1) - 23) := by norm_num
  rw [this, zpow_add₀ (by norm_num)]
  norm_num

theorem shl_word (n : ℕ) : IntOp.shli ArithUnit.vector (BitVec.ofNat 32 n) 23#32 = BitVec.ofNat 32 n <<< 23 := by
  simp only [IntOp.shli]
  rw [if_pos (by decide)]
  rfl

/-- The kernel's count, as a sum of ones. -/
theorem sum_count (y : EReal) :
    (∑ x : Fin 256, Scalar.select
      (IntOp.andi (IntOp.andi (BitVec.ofBool (decide
        (Ideal.ofBits .f32 (IntOp.shli ArithUnit.vector (BitVec.ofNat 32 x.1) 23#32) ≤ y)))
        (IntOp.cmpi CmpIPredicate.sge (BitVec.ofNat 32 x.1) 1#32))
      (IntOp.cmpi CmpIPredicate.sle (BitVec.ofNat 32 x.1) 246#32)) (1 : EReal) 0) = ((count y : ℝ) : EReal) := by
  have hc := count_le y
  have key : ∀ x : Fin 256, Scalar.select
      (IntOp.andi (IntOp.andi (BitVec.ofBool (decide
        (Ideal.ofBits .f32 (IntOp.shli ArithUnit.vector (BitVec.ofNat 32 x.1) 23#32) ≤ y)))
        (IntOp.cmpi CmpIPredicate.sge (BitVec.ofNat 32 x.1) 1#32))
      (IntOp.cmpi CmpIPredicate.sle (BitVec.ofNat 32 x.1) 246#32)) (1 : EReal) 0 = if x.1 ∈ Finset.Icc 1 (count y) then 1 else 0 := by
    intro x
    have hx := x.2
    have ht : (BitVec.ofNat 32 x.1).toInt = (x.1 : ℤ) := by
      rw [BitVec.toInt_eq_toNat_cond, BitVec.toNat_ofNat]
      have : x.1 % 2 ^ 32 = x.1 := Nat.mod_eq_of_lt (by omega)
      rw [this, if_pos (by omega)]
    have s1 : IntOp.cmpi CmpIPredicate.sge (BitVec.ofNat 32 x.1) 1#32 = BitVec.ofBool (decide (1 ≤ x.1)) := by
      simp only [IntOp.cmpi, BitVec.sle, ht]
      congr 1
      refine decide_eq_decide.mpr ?_
      have : (1#32).toInt = 1 := by decide
      rw [this]
      omega
    have s2 : IntOp.cmpi CmpIPredicate.sle (BitVec.ofNat 32 x.1) 246#32 = BitVec.ofBool (decide (x.1 ≤ 246)) := by
      simp only [IntOp.cmpi, BitVec.sle, ht]
      congr 1
      refine decide_eq_decide.mpr ?_
      have : (246#32).toInt = 246 := by decide
      rw [this]
      omega
    rw [s1, s2, shl_word]
    simp only [Finset.mem_Icc]
    by_cases h1 : 1 ≤ x.1
    · by_cases h2 : x.1 ≤ 246
      · rw [ofBits_word h1 (by omega)]
        by_cases h3 : x.1 ≤ count y
        · simp [Scalar.select, IntOp.andi, h1, h2, h3, (le_count h1 h2).mpr h3]
        · have := mt (le_count (y := y) h1 h2).mp h3
          simp [Scalar.select, IntOp.andi, h1, h2, h3, this]
      · have h3 : ¬ x.1 ≤ count y := by omega
        simp [Scalar.select, IntOp.andi, h1, h2, h3]
    · simp [Scalar.select, IntOp.andi, h1]
  rw [Finset.sum_congr rfl fun x _ => key x, Fin.sum_univ_eq_sum_range (fun i => if i ∈ Finset.Icc 1 (count y) then (1 : EReal) else 0) 256,
    ← Finset.sum_filter, Finset.filter_mem_eq_inter, Finset.inter_eq_right.mpr (fun i hi => by
      rw [Finset.mem_Icc] at hi
      rw [Finset.mem_range]
      omega), Finset.sum_const, Nat.card_Icc, Nat.add_sub_cancel]
  simp

/-- The count read as an integer word. -/
theorem word_count (y : EReal) : Ideal.fptosi 32 ((count y : ℝ) : EReal) = BitVec.ofNat 32 (count y) := by
  have hc := count_le y
  have h0 : (0 : ℝ) ≤ (count y : ℝ) := Nat.cast_nonneg _
  show BitVec.ofInt 32 (max (-(2 ^ (32 - 1) : ℕ) : ℤ) (min (((2 ^ (32 - 1) : ℕ) : ℤ) - 1)
    (if 0 ≤ (count y : ℝ) then ⌊(count y : ℝ)⌋ else ⌈(count y : ℝ)⌉))) = _
  rw [if_pos h0, Int.floor_natCast, min_eq_right (by norm_num; omega), max_eq_right (by norm_num)]
  exact BitVec.ofInt_natCast ..

/-- The exponent word. -/
def expWord (y : EReal) : BitVec 32 :=
  Scalar.select (IntOp.cmpi CmpIPredicate.eq (BitVec.ofNat 32 (count y)) 0#32) (0#32)
    (IntOp.subi (BitVec.ofNat 32 (count y)) 126#32)

theorem expWord_zero {y : EReal} (h : count y = 0) : expWord y = 0#32 := by
  unfold expWord
  rw [h]
  rfl

theorem expWord_pos {y : EReal} (h : count y ≠ 0) : expWord y = BitVec.ofNat 32 (count y) - 126#32 := by
  have hc := count_le y
  have : ¬ (BitVec.ofNat 32 (count y) = 0#32) := fun e => by
    have := congrArg BitVec.toNat e
    simp only [BitVec.toNat_ofNat] at this
    omega
  have h2 : (BitVec.ofNat 32 (count y) == 0#32) = false := beq_eq_false_iff_ne.mpr this
  simp only [expWord, IntOp.cmpi, IntOp.subi, Scalar.select, h2]
  rfl

/-- The scale from the exponent's word. -/
theorem scale_word (y : EReal) :
    Ideal.ofBits .f32 (IntOp.shli ArithUnit.vector (IntOp.addi (expWord y) 127#32) 23#32) = scaleOf y := by
  have hc := count_le y
  unfold scaleOf expo
  by_cases h : count y = 0
  · rw [expWord_zero h, if_pos h, show IntOp.addi 0#32 127#32 = BitVec.ofNat 32 127 from rfl, shl_word, ofBits_word (by omega) (by omega)]
    rfl
  · have e : IntOp.addi (expWord y) 127#32 = BitVec.ofNat 32 (count y + 1) := by
      rw [expWord_pos h]
      apply BitVec.eq_of_toNat_eq
      simp only [IntOp.addi, BitVec.toNat_add, BitVec.toNat_sub, BitVec.toNat_ofNat]
      omega
    rw [e, if_neg h, shl_word, ofBits_word (by omega) (by omega)]
    congr 2
    push_cast
    omega

/-- The inverse scale from the exponent's word. -/
theorem inv_word (y : EReal) :
    Ideal.ofBits .f32 (IntOp.shli ArithUnit.vector (IntOp.subi 127#32 (expWord y)) 23#32) = invOf y := by
  have hc := count_le y
  unfold invOf expo
  by_cases h : count y = 0
  · rw [expWord_zero h, if_pos h, show IntOp.subi 127#32 0#32 = BitVec.ofNat 32 127 from rfl, shl_word, ofBits_word (by omega) (by omega)]
    rfl
  · have e : IntOp.subi 127#32 (expWord y) = BitVec.ofNat 32 (253 - count y) := by
      rw [expWord_pos h]
      apply BitVec.eq_of_toNat_eq
      simp only [IntOp.subi, BitVec.toNat_sub, BitVec.toNat_ofNat]
      omega
    rw [e, if_neg h, shl_word, ofBits_word (by omega) (by omega)]
    congr 2
    push_cast [Nat.cast_sub (show count y ≤ 253 by omega)]
    omega

/-! ### The largest exponent -/

/-- The exponents, -125 to 120. -/
theorem pow_exponent (x : Fin 246) : Ideal.exp2 ((((x.1 : ℝ) - 125 : ℝ) : EReal) - 1) = (((2 : ℝ) ^ (((x.1 + 1 : ℕ) : ℤ) - 127) : ℝ) : EReal) := by
  have : ((((x.1 : ℝ) - 125 : ℝ) : EReal) - 1) = (((x.1 : ℝ) - 126 : ℝ) : EReal) := by
    rw [show (1 : EReal) = ((1 : ℝ) : EReal) from rfl, ← EReal.coe_sub]
    congr 1
    ring
  rw [this, Ideal.exp2_coe]
  congr 1
  rw [← Real.rpow_intCast]
  show (2 : ℝ) ^ ((x.1 : ℝ) - 126) = _
  congr 1
  push_cast
  ring

/-- The largest exponent whose power of two is at most `y`, with -126 for the others. -/
theorem fold_exponent (y b : EReal) (hb : b = ⊥) (g : Fin 246 → EReal)
    (hg : ∀ x, g x = if Ideal.exp2 ((((x.1 : ℝ) - 125 : ℝ) : EReal) - 1) ≤ y then (((x.1 : ℝ) - 125 : ℝ) : EReal) else ((-126 : ℝ) : EReal)) :
    (Finset.univ : Finset (Fin 246)).fold max b g = (((count y : ℝ) - 126 : ℝ) : EReal) := by
  have hc := count_le y
  have hg' : ∀ x : Fin 246, g x = if x.1 + 1 ≤ count y then (((x.1 : ℝ) - 125 : ℝ) : EReal) else ((-126 : ℝ) : EReal) := by
    intro x
    have hx := x.2
    rw [hg, pow_exponent]
    exact if_congr (le_count (by omega) (by omega)) rfl rfl
  apply le_antisymm
  · rw [Finset.fold_max_le]
    refine ⟨hb ▸ bot_le, fun x _ => ?_⟩
    rw [hg']
    split
    · rename_i h
      refine EReal.coe_le_coe_iff.mpr ?_
      have : ((x.1 + 1 : ℕ) : ℝ) ≤ count y := Nat.cast_le.mpr h
      push_cast at this
      linarith
    · refine EReal.coe_le_coe_iff.mpr ?_
      have : (0 : ℝ) ≤ count y := Nat.cast_nonneg _
      linarith
  · rw [Finset.le_fold_max]
    right
    by_cases h : count y = 0
    · refine ⟨⟨0, by omega⟩, Finset.mem_univ _, ?_⟩
      rw [hg', if_neg (by omega), h]
      refine EReal.coe_le_coe_iff.mpr ?_
      norm_num
    · refine ⟨⟨count y - 1, by omega⟩, Finset.mem_univ _, ?_⟩
      rw [hg', if_pos (by simp only; omega)]
      refine EReal.coe_le_coe_iff.mpr ?_
      push_cast [Nat.cast_sub (show 1 ≤ count y by omega)]
      linarith

/-- The exponent, with 0 for none. -/
theorem fix_exponent (y : EReal) :
    (if (((count y : ℝ) - 126 : ℝ) : EReal) = ((-126 : ℝ) : EReal) then (0 : EReal) else (((count y : ℝ) - 126 : ℝ) : EReal))
      = (((expo y : ℤ) : ℝ) : EReal) := by
  unfold expo
  by_cases h : count y = 0
  · rw [h]
    norm_num
  · rw [if_neg, if_neg h]
    · push_cast
      rfl
    · rw [EReal.coe_eq_coe_iff]
      intro e
      apply h
      have : (count y : ℝ) = 0 := by linarith
      exact_mod_cast this

theorem exp2_expo (y : EReal) : Ideal.exp2 (((expo y : ℤ) : ℝ) : EReal) = scaleOf y := by
  rw [Ideal.exp2_coe]
  unfold scaleOf
  congr 1
  exact Real.rpow_intCast 2 _

theorem exp2_neg_expo (y : EReal) : Ideal.exp2 (0 - (((expo y : ℤ) : ℝ) : EReal)) = invOf y := by
  rw [zero_sub, ← EReal.coe_neg, Ideal.exp2_coe]
  unfold invOf
  congr 1
  rw [← Real.rpow_intCast]
  push_cast
  rfl

/-- The word of -126. -/
theorem ofBits_neg126 : Ideal.ofBits .f32 0xC2FC0000#32 = ((-126 : ℝ) : EReal) := by
  simp [Ideal.ofBits, Ideal.ieee]
  rw [← EReal.coe_mul]
  norm_num

/-- The word of 125. -/
theorem ofBits_125 : Ideal.ofBits .f32 0x42FA0000#32 = ((125 : ℝ) : EReal) := by
  simp [Ideal.ofBits, Ideal.ieee]
  rw [← EReal.coe_mul]
  norm_num

/-- The word of minus infinity. -/
theorem ofBits_bot : Ideal.ofBits .f32 0xFF800000#32 = (⊥ : EReal) := by
  simp [Ideal.ofBits, Ideal.ieee]

end Cert.Spec

end
-- ==== Proof.Ref.Ops.lean ====
/- What the operations of the reference compute, at an index. -/
module

public import proofs.«01_k».proof.Proof.Quant
public import proofs.«01_k».proof.Proof.Gen.ReferenceIdeal.Skeleton
public import Idealize.ShloMosaic.Lib.Pointwise

@[expose] public section

set_option maxRecDepth 16384

noncomputable section

namespace Cert.ReferenceIdeal.Ops

open Cert.ReferenceIdeal Cert.ReferenceIdeal.Gen Cert.Spec Idealize.ShloMosaic Idealize.SL.Sem

variable {F : FTy → Type} [FloatOps F]

/-- The exponents, -125 to 120. -/
def exps : FVec F S1x246 .f32 :=
  subf (sitofp .f32 (iota .tc S1x246 32 [1] iota_S1x246_d1_w32)) (broadcast S1x246 (Scalar.ofBits .f32 0x42FA0000#32))

/-- The largest exponent whose power is below, of exponents `k`. -/
def pick (k : FVec F S1x246 .f32) (y : FVec F S2048x1 .f32) : FVec F S2048x1 .f32 :=
  shapeCast S2048x1 (multiReduction .maximumf [1] S2048 (select
    (cmpf .ole (broadcastTo S2048x246 (exp2 (subf k (broadcast S1x246 (Scalar.ofBits .f32 0x3F800000#32)))) broadcasts_S1x246_S2048x246)
      (broadcastTo S2048x246 y broadcasts_S2048x1_S2048x246))
    (broadcastTo S2048x246 (shapeCast S1x246 k shapeCasts_S1x246_S1x246) broadcasts_S1x246_S2048x246)
    (broadcast S2048x246 (Scalar.ofBits .f32 0xC2FC0000#32)))
    0xFF800000#32 reduces_S2048x246_S2048 (.inl rfl) rfl) shapeCasts_S2048_S2048x1

/-- Zero for none. -/
def fix (e : FVec F S2048x1 .f32) : FVec F S2048x1 .f32 :=
  select (cmpf .oeq e (broadcast S2048x1 (Scalar.ofBits .f32 0xC2FC0000#32))) (broadcast S2048x1 (Scalar.ofBits .f32 0x00000000#32)) e

theorem exps_apply (x : Fin 246) : (exps : FVec Ideal S1x246 .f32) (ix2 0 x) = (((x.1 : ℝ) - 125 : ℝ) : EReal) := by
  pointwise [exps]
  have hx := x.2
  have e : FloatOps.sitofp (F := Ideal) .f32 (BitVec.ofNat 32 x.1) = ((x.1 : ℝ) : EReal) := by
    show ((((BitVec.ofNat 32 x.1).toInt : ℤ) : ℝ) : EReal) = _
    rw [BitVec.toInt_eq_toNat_cond, BitVec.toNat_ofNat, Nat.mod_eq_of_lt (by omega), if_pos (by omega)]
    rfl
  have h : (FloatOps.sitofp (F := Ideal) .f32 (BitVec.ofNat 32 x.1) : EReal) - Ideal.ofBits .f32 0x42FA0000#32 = (((x.1 : ℝ) - 125 : ℝ) : EReal) := by
    rw [e, ofBits_125, ← EReal.coe_sub]
  exact h

theorem pick_apply (k : FVec Ideal S1x246 .f32) (y : FVec Ideal S2048x1 .f32) (n : Fin 2048)
    (hk : ∀ x : Fin 246, k (ix2 0 x) = (((x.1 : ℝ) - 125 : ℝ) : EReal)) :
    pick k y (ix2 n 0) = (((count (y (ix2 n 0)) : ℝ) - 126 : ℝ) : EReal) := by
  pointwise [pick]
  refine fold_exponent _ _ ofBits_bot _ fun x => ?_
  simp only [hk, ofBits_neg126]
  rfl

theorem fix_apply (e : FVec Ideal S2048x1 .f32) (n : Fin 2048) (y : EReal) (he : e (ix2 n 0) = (((count y : ℝ) - 126 : ℝ) : EReal)) :
    fix e (ix2 n 0) = (((expo y : ℤ) : ℝ) : EReal) := by
  pointwise [fix]
  simp only [he, ofBits_neg126]
  exact fix_exponent y

/-- The exponent of the scale of each row, of the rows' peaks. -/
theorem exponent_apply (y : FVec Ideal S2048x1 .f32) (n : Fin 2048) :
    fix (pick exps y) (ix2 n 0) = (((expo (y (ix2 n 0)) : ℤ) : ℝ) : EReal) :=
  fix_apply _ n _ (pick_apply _ y n exps_apply)

/-- The rows' largest magnitudes over 448. -/
def peak768 (z : FVec F S2048x768 .f32) : FVec F S2048x1 .f32 :=
  mulf (shapeCast S2048x1 (multiReduction .maximumf [1] S2048 (absf z) 0xFF800000#32 reduces_S2048x768_S2048 (.inl rfl) rfl) shapeCasts_S2048_S2048x1)
    (broadcast S2048x1 (Scalar.ofBits .f32 0x3B124925#32))

/-- The rows' largest magnitudes over 448. -/
def peak3072 (z : FVec F S2048x3072 .f32) : FVec F S2048x1 .f32 :=
  mulf (shapeCast S2048x1 (multiReduction .maximumf [1] S2048 (absf z) 0xFF800000#32 reduces_S2048x3072_S2048 (.inl rfl) rfl) shapeCasts_S2048_S2048x1)
    (broadcast S2048x1 (Scalar.ofBits .f32 0x3B124925#32))

theorem mulf_eq {S : Shape} (a b : FVec Ideal S .f32) (i) : mulf a b i = (a i * b i : EReal) := rfl

theorem top768_apply (u : FVec Ideal S2048x768 .f32) (n : Fin 2048) :
    shapeCast S2048x1 (multiReduction .maximumf [1] S2048 u 0xFF800000#32 reduces_S2048x768_S2048 (.inl rfl) rfl) shapeCasts_S2048_S2048x1 (ix2 n 0)
      = fmax fun c => u (ix2 n c) := by
  pointwise []
  rfl

theorem peak768_apply (z : FVec Ideal S2048x768 .f32) (n : Fin 2048) : peak768 z (ix2 n 0) = peak fun c => z (ix2 n c) := by
  have hz : ∀ c, absf z (ix2 n c) = max (z (ix2 n c)) (-(z (ix2 n c))) := fun c => rfl
  have hb : broadcast S2048x1 (Scalar.ofBits (F := Ideal) .f32 0x3B124925#32) (ix2 n 0) = Ideal.ofBits .f32 0x3B124925#32 := rfl
  unfold peak768 peak
  rw [mulf_eq, top768_apply, hb]
  simp only [hz]

theorem top3072_apply (u : FVec Ideal S2048x3072 .f32) (n : Fin 2048) :
    shapeCast S2048x1 (multiReduction .maximumf [1] S2048 u 0xFF800000#32 reduces_S2048x3072_S2048 (.inl rfl) rfl) shapeCasts_S2048_S2048x1 (ix2 n 0)
      = fmax fun c => u (ix2 n c) := by
  pointwise []
  rfl

theorem peak3072_apply (z : FVec Ideal S2048x3072 .f32) (n : Fin 2048) : peak3072 z (ix2 n 0) = peak fun c => z (ix2 n c) := by
  have hz : ∀ c, absf z (ix2 n c) = max (z (ix2 n c)) (-(z (ix2 n c))) := fun c => rfl
  have hb : broadcast S2048x1 (Scalar.ofBits (F := Ideal) .f32 0x3B124925#32) (ix2 n 0) = Ideal.ofBits .f32 0x3B124925#32 := rfl
  unfold peak3072 peak
  rw [mulf_eq, top3072_apply, hb]
  simp only [hz]

theorem pay20_eq (a b : FVec F S1x768 .f32) (h : FVec F S2048x768 .f32) (v : FVec F S2048x1 .f32) :
    k0_pay20 a b h v = fix (pick exps (peak768 (k0_pay19 a b h v))) := rfl

theorem pay24_eq (c : FVec F S2048x768 .fp8e4m3) (s : FVec F S2048x1 .f32) (w : FVec F S768x3072 .fp8e4m3) (sf bf : FVec F S1x3072 .f32) :
    k0_pay24 c s w sf bf = fix (pick exps (peak3072 (k0_pay23 c s w sf bf))) := rfl

/-! ### Codes and scales, of an exponent -/

theorem exp2_fix (e : FVec Ideal S2048x1 .f32) (n : Fin 2048) (y : EReal) (he : e (ix2 n 0) = (((expo y : ℤ) : ℝ) : EReal)) :
    exp2 e (ix2 n 0) = scaleOf y :=
  (congrArg Ideal.exp2 he).trans (exp2_expo y)

theorem inv_fix (e : FVec Ideal S2048x1 .f32) (n : Fin 2048) (y : EReal) (he : e (ix2 n 0) = (((expo y : ℤ) : ℝ) : EReal)) :
    exp2 (subf (broadcast S2048x1 (Scalar.ofBits .f32 0x00000000#32)) e) (ix2 n 0) = invOf y := by
  have h : exp2 (subf (broadcast S2048x1 (Scalar.ofBits .f32 0x00000000#32)) e) (ix2 n 0) = Ideal.exp2 (Ideal.ofBits .f32 0x00000000#32 - e (ix2 n 0)) := rfl
  rw [h, he, show Ideal.ofBits .f32 0x00000000#32 = (0 : EReal) from Ideal.ofBits_zero_f32]
  exact exp2_neg_expo y

/-- Scaled and clipped codes. -/
def clip768 (u : FVec F S2048x768 .f32) (i : FVec F S2048x1 .f32) : FVec F S2048x768 .fp8e4m3 :=
  truncf .fp8e4m3 (minimumf (broadcast S2048x768 (Scalar.ofBits .f32 0x43E00000#32)) (maximumf (broadcast S2048x768 (Scalar.ofBits .f32 0xC3E00000#32))
    (mulf u (broadcastTo S2048x768 i broadcasts_S2048x1_S2048x768)))) bitsLt_fp8e4m3_f32

theorem clip768_apply (u : FVec Ideal S2048x768 .f32) (i : FVec Ideal S2048x1 .f32) (n : Fin 2048) (c : Fin 768)
    (hi : i (ix2 n 0) = invOf (peak fun c => u (ix2 n c))) : clip768 u i (ix2 n c) = codesOf (fun c => u (ix2 n c)) c := by
  unfold codesOf
  rw [← hi]
  pointwise [clip768]

/-- Scaled and clipped codes. -/
def clip3072 (u : FVec F S2048x3072 .f32) (i : FVec F S2048x1 .f32) : FVec F S2048x3072 .fp8e4m3 :=
  truncf .fp8e4m3 (minimumf (broadcast S2048x3072 (Scalar.ofBits .f32 0x43E00000#32)) (maximumf (broadcast S2048x3072 (Scalar.ofBits .f32 0xC3E00000#32))
    (mulf u (broadcastTo S2048x3072 i broadcasts_S2048x1_S2048x3072)))) bitsLt_fp8e4m3_f32

theorem clip3072_apply (u : FVec Ideal S2048x3072 .f32) (i : FVec Ideal S2048x1 .f32) (n : Fin 2048) (c : Fin 3072)
    (hi : i (ix2 n 0) = invOf (peak fun c => u (ix2 n c))) : clip3072 u i (ix2 n c) = codesOf (fun c => u (ix2 n c)) c := by
  unfold codesOf
  rw [← hi]
  pointwise [clip3072]

/-! ### The feed-forward part, of the rows `h2` -/

section
variable (a b : FVec Ideal S1x768 .f32) (h : FVec Ideal S2048x768 .f32) (v : FVec Ideal S2048x1 .f32) (n : Fin 2048)

theorem exponent1 : k0_pay20 a b h v (ix2 n 0) = (((expo (peak fun c => k0_pay19 a b h v (ix2 n c)) : ℤ) : ℝ) : EReal) := by
  have e := exponent_apply (peak768 (k0_pay19 a b h v)) n
  rw [peak768_apply] at e
  rw [pay20_eq]
  exact e

theorem scale_apply : k0_pay22 a b h v (ix2 n 0) = scaleOf (peak fun c => k0_pay19 a b h v (ix2 n c)) :=
  exp2_fix _ n _ (exponent1 a b h v n)

theorem codes_apply (c : Fin 768) : k0_pay21 a b h v (ix2 n c) = codesOf (fun c => k0_pay19 a b h v (ix2 n c)) c :=
  clip768_apply _ _ n c (inv_fix _ n _ (exponent1 a b h v n))

end

theorem ff_apply (c : FVec Ideal S2048x768 .fp8e4m3) (s : FVec Ideal S2048x1 .f32) (w : FVec Ideal S768x3072 .fp8e4m3) (sf bf : FVec Ideal S1x3072 .f32)
    (n : Fin 2048) (j : Fin 3072) :
    k0_pay23 c s w sf bf (ix2 n j) = gelu (lin (fun i j => w (ix2 i j)) (fun i => c (ix2 n i)) j * (s (ix2 n 0) * sf (ix2 0 j)) + bf (ix2 0 j)) := by
  pointwise [k0_pay23]
  rfl

section
variable (c : FVec Ideal S2048x768 .fp8e4m3) (s : FVec Ideal S2048x1 .f32) (w : FVec Ideal S768x3072 .fp8e4m3) (sf bf : FVec Ideal S1x3072 .f32) (n : Fin 2048)

theorem exponent2 : k0_pay24 c s w sf bf (ix2 n 0) = (((expo (peak fun j => k0_pay23 c s w sf bf (ix2 n j)) : ℤ) : ℝ) : EReal) := by
  have e := exponent_apply (peak3072 (k0_pay23 c s w sf bf)) n
  rw [peak3072_apply] at e
  rw [pay24_eq]
  exact e

theorem scale2_apply : k0_pay26 (k0_pay24 c s w sf bf) (ix2 n 0) = scaleOf (peak fun j => k0_pay23 c s w sf bf (ix2 n j)) :=
  exp2_fix _ n _ (exponent2 c s w sf bf n)

theorem codes2_apply (j : Fin 3072) : k0_pay25 (k0_pay23 c s w sf bf) (k0_pay24 c s w sf bf) (ix2 n j)
    = codesOf (fun j => k0_pay23 c s w sf bf (ix2 n j)) j :=
  clip3072_apply _ _ n j (inv_fix _ n _ (exponent2 c s w sf bf n))

end

/-- The row before the last normalisation. -/
def pre3 (h : FVec Ideal S2048x768 .f32) (g : FVec Ideal S2048x3072 .f32) (e : FVec Ideal S2048x1 .f32) (w : FVec Ideal S3072x768 .fp8e4m3)
    (sf bf : FVec Ideal S1x768 .f32) (n : Fin 2048) : Row := fun c =>
  h (ix2 n c) + (lin (fun i j => w (ix2 i j)) (fun i => k0_pay25 g e (ix2 n i)) c * (k0_pay26 e (ix2 n 0) * sf (ix2 0 c)) + bf (ix2 0 c))

theorem cen3_apply (h g e w sf bf) (n : Fin 2048) (c : Fin 768) :
    k0_pay29 (F := Ideal) h g e w sf bf (ix2 n c) = cen (pre3 h g e w sf bf n) c := by
  unfold k0_pay29 pre3
  generalize k0_pay25 g e = gc
  generalize k0_pay26 e = s
  pointwise []
  rfl

theorem var3_apply (h g e w sf bf) (n : Fin 2048) :
    k0_pay30 (F := Ideal) h g e w sf bf (ix2 n 0)
      = mean (fun c => cen (pre3 h g e w sf bf n) c * cen (pre3 h g e w sf bf n) c) + Ideal.ofBits .f32 0x2B8CBCCC#32 := by
  have e := cen3_apply h g e w sf bf n
  unfold k0_pay30
  generalize k0_pay29 h g _ w sf bf = z at e ⊢
  pointwise []
  simp only [e]
  rfl

theorem out_apply (h g e w sf bf ga be) (n : Fin 2048) (c : Fin 768) :
    k0_pay1 (F := Ideal) (k0_pay27 ga) (k0_pay28 be) (k0_pay29 h g e w sf bf) (k0_pay30 h g e w sf bf) (ix2 n c)
      = norm (fun c => ga (ix2 0 c)) (fun c => be (ix2 0 c)) (pre3 h g e w sf bf n) c := by
  have e1 := cen3_apply h g e w sf bf n
  have e2 := var3_apply h g e w sf bf n
  generalize k0_pay29 h g e w sf bf = z at e1 ⊢
  generalize k0_pay30 h g e w sf bf = z' at e2 ⊢
  pointwise [k0_pay1, k0_pay27, k0_pay28]
  rw [e1, e2]
  rfl

end Cert.ReferenceIdeal.Ops

end
-- ==== Proof.Ref.Att.lean ====
/- The attentions of the reference: a head of an image is a group of 32 queries. -/
module

public import proofs.«01_k».proof.Proof.Spec
public import proofs.«01_k».proof.Proof.Ker.Band
public import proofs.«01_k».proof.Proof.Gen.ReferenceIdeal.Skeleton
public import Idealize.ShloMosaic.Lib.Pointwise

@[expose] public section

set_option maxRecDepth 16384

noncomputable section

namespace Cert.ReferenceIdeal.Att

open Cert.ReferenceIdeal Cert.ReferenceIdeal.Gen Cert.Spec Cert.Band Idealize.ShloMosaic Idealize.SL.Sem

variable {F : FTy → Type} [FloatOps F]

/-- Token `r` of image `b` among the rows. -/
def tokR (b : Fin 64) (r : Fin 32) : Fin 2048 := ⟨32 * b + r, by have := b.2; have := r.2; omega⟩
/-- Image token `l` of image `b` among the rows. -/
def imgR (b : Fin 64) (l : Fin 257) : Fin 16448 := ⟨257 * b + l, by have := b.2; have := l.2; omega⟩
/-- Head `h` of image `b` among the groups. -/
def grp (b : Fin 64) (h : Fin 8) : Fin 512 := ⟨8 * b + h, by have := b.2; have := h.2; omega⟩
/-- A lane's place in its head. -/
def place (c : Fin 768) : Fin 96 := ⟨c % 96, Nat.mod_lt _ (by decide)⟩

theorem lane_place (c : Fin 768) : lane (headOf c) (place c) = c := by
  apply Fin.ext
  simp only [lane, headOf, place]
  omega

/-- Rows by heads. -/
def heads32 (z : FVec F S2048x768 .bf16) : FVec F S512x32x96 .bf16 :=
  shapeCast S512x32x96 (transpose S64x8x32x96 [0, 2, 1, 3] (shapeCast S64x32x8x96 z shapeCasts_S2048x768_S64x32x8x96)
    transposes_S64x32x8x96_p0_2_1_3_S64x8x32x96) shapeCasts_S64x8x32x96_S512x32x96

theorem heads32_apply (z : FVec Ideal S2048x768 .bf16) (b : Fin 64) (h : Fin 8) (r : Fin 32) (d : Fin 96) :
    heads32 z (ix3 (grp b h) r d) = z (ix2 (tokR b r) (lane h d)) := by
  have := b.2; have := h.2; have := r.2; have := d.2
  pointwise [heads32]
  congr 2 <;> (apply Fin.ext; simp only [grp, tokR, lane]; omega)

/-- Image rows by heads. -/
def heads257 (z : FVec F S16448x768 .bf16) : FVec F S512x257x96 .bf16 :=
  shapeCast S512x257x96 (transpose S64x8x257x96 [0, 2, 1, 3] (shapeCast S64x257x8x96 z shapeCasts_S16448x768_S64x257x8x96)
    transposes_S64x257x8x96_p0_2_1_3_S64x8x257x96) shapeCasts_S64x8x257x96_S512x257x96

theorem heads257_apply (z : FVec Ideal S16448x768 .bf16) (b : Fin 64) (h : Fin 8) (l : Fin 257) (d : Fin 96) :
    heads257 z (ix3 (grp b h) l d) = z (ix2 (imgR b l) (lane h d)) := by
  have := b.2; have := h.2; have := l.2; have := d.2
  pointwise [heads257]
  congr 2 <;> (apply Fin.ext; simp only [grp, imgR, lane]; omega)

/-- Groups back to rows. -/
def rows (z : FVec F S512x32x96 .f32) : FVec F S2048x768 .f32 :=
  shapeCast S2048x768 (transpose S64x32x8x96 [0, 2, 1, 3] (shapeCast S64x8x32x96 z shapeCasts_S512x32x96_S64x8x32x96)
    transposes_S64x8x32x96_p0_2_1_3_S64x32x8x96) shapeCasts_S64x32x8x96_S2048x768

theorem rows_apply (z : FVec Ideal S512x32x96 .f32) (b : Fin 64) (r : Fin 32) (c : Fin 768) :
    rows z (ix2 (tokR b r) c) = z (ix3 (grp b (headOf c)) r (place c)) := by
  have := b.2; have := r.2; have := c.2
  pointwise [rows]
  congr 2 <;> (apply Fin.ext; simp only [grp, tokR, headOf, place]; omega)

/-- Scaled scores of 32 keys. -/
def scr32 (q : FVec F S512x32x96 .bf16) (k : FVec F S512x32x96 .bf16) : FVec F S512x32x32 .f32 :=
  mulf (matmul dot_S512x32x96_S512x32x96_S512x32x32_2_2_1_1_0_0 none q k (constant S512x32x32 .f32 0x00000000#32))
    (broadcast S512x32x32 (Scalar.ofBits .f32 0x3DD105EC#32))

theorem scr32_apply (q : FVec Ideal S512x32x96 .bf16) (k : FVec Ideal S512x32x96 .bf16) (g : Fin 512) (r : Fin 32) (l : Fin 32) :
    scr32 q k (ix3 g r l) = (∑ d : Fin 96, q (ix3 g r d) * k (ix3 g l d)) * Ideal.ofBits .f32 0x3DD105EC#32 := by
  pointwise [scr32]

/-- Exponentials of the scores less the largest. -/
def exps32 (s : FVec F S512x32x32 .f32) : FVec F S512x32x32 .f32 :=
  exp (subf s (broadcastTo S512x32x32 (shapeCast S512x32x1 (multiReduction .maximumf [2] S512x32 s 0xFF800000#32 reduces_S512x32x32_S512x32 (.inl rfl) rfl)
    shapeCasts_S512x32_S512x32x1) broadcasts_S512x32x1_S512x32x32))

theorem exps32_apply (s : FVec Ideal S512x32x32 .f32) (g : Fin 512) (r : Fin 32) (l : Fin 32) :
    exps32 s (ix3 g r l) = ex (fun l => s (ix3 g r l)) l := by
  pointwise [exps32]
  rfl

/-- One over the sum of the exponentials. -/
def inv32 (e : FVec F S512x32x32 .f32) : FVec F S512x32x1 .f32 :=
  divf (broadcast S512x32x1 (Scalar.ofBits .f32 0x3F800000#32)) (shapeCast S512x32x1 (multiReduction .add [2] S512x32 e 0x00000000#32
    reduces_S512x32x32_S512x32 (.inl rfl) rfl) shapeCasts_S512x32_S512x32x1)

theorem inv32_apply (e : FVec Ideal S512x32x32 .f32) (g : Fin 512) (r : Fin 32) :
    inv32 e (ix3 g r 0) = Ideal.div 1 (∑ l, e (ix3 g r l)) := by
  pointwise [inv32]

/-- The weighted values. -/
def mix32 (e : FVec F S512x32x32 .f32) (i : FVec F S512x32x1 .f32) (v : FVec F S512x32x96 .bf16) : FVec F S512x32x96 .f32 :=
  matmul dot_S512x32x32_S512x32x96_S512x32x96_2_1_1_2_0_0 none (truncf .bf16 (mulf e (broadcastTo S512x32x32 i broadcasts_S512x32x1_S512x32x32)) bitsLt_bf16_f32) v
    (constant S512x32x96 .f32 0x00000000#32)

theorem mix32_apply (e : FVec Ideal S512x32x32 .f32) (i : FVec Ideal S512x32x1 .f32) (v : FVec Ideal S512x32x96 .bf16) (g : Fin 512) (r : Fin 32) (d : Fin 96) :
    mix32 e i v (ix3 g r d) = ∑ l, e (ix3 g r l) * i (ix3 g r 0) * v (ix3 g l d) := by
  pointwise [mix32]

theorem attend32 (q : FVec Ideal S512x32x96 .bf16) (k v : FVec Ideal S512x32x96 .bf16) (g : Fin 512) (r : Fin 32) (d : Fin 96) :
    mix32 (exps32 (scr32 q k)) (inv32 (exps32 (scr32 q k))) v (ix3 g r d)
      = attend (fun l => (∑ d : Fin 96, q (ix3 g r d) * k (ix3 g l d)) * Ideal.ofBits .f32 0x3DD105EC#32) (fun l => v (ix3 g l d)) := by
  rw [mix32_apply, inv32_apply]
  simp only [exps32_apply, scr32_apply]
  rfl

/-- Scaled scores of 257 keys. -/
def scr257 (q : FVec F S512x32x96 .bf16) (k : FVec F S512x257x96 .bf16) : FVec F S512x32x257 .f32 :=
  mulf (matmul dot_S512x32x96_S512x257x96_S512x32x257_2_2_1_1_0_0 none q k (constant S512x32x257 .f32 0x00000000#32))
    (broadcast S512x32x257 (Scalar.ofBits .f32 0x3DD105EC#32))

theorem scr257_apply (q : FVec Ideal S512x32x96 .bf16) (k : FVec Ideal S512x257x96 .bf16) (g : Fin 512) (r : Fin 32) (l : Fin 257) :
    scr257 q k (ix3 g r l) = (∑ d : Fin 96, q (ix3 g r d) * k (ix3 g l d)) * Ideal.ofBits .f32 0x3DD105EC#32 := by
  pointwise [scr257]

/-- Exponentials of the scores less the largest. -/
def exps257 (s : FVec F S512x32x257 .f32) : FVec F S512x32x257 .f32 :=
  exp (subf s (broadcastTo S512x32x257 (shapeCast S512x32x1 (multiReduction .maximumf [2] S512x32 s 0xFF800000#32 reduces_S512x32x257_S512x32 (.inl rfl) rfl)
    shapeCasts_S512x32_S512x32x1) broadcasts_S512x32x1_S512x32x257))

theorem exps257_apply (s : FVec Ideal S512x32x257 .f32) (g : Fin 512) (r : Fin 32) (l : Fin 257) :
    exps257 s (ix3 g r l) = ex (fun l => s (ix3 g r l)) l := by
  pointwise [exps257]
  rfl

/-- One over the sum of the exponentials. -/
def inv257 (e : FVec F S512x32x257 .f32) : FVec F S512x32x1 .f32 :=
  divf (broadcast S512x32x1 (Scalar.ofBits .f32 0x3F800000#32)) (shapeCast S512x32x1 (multiReduction .add [2] S512x32 e 0x00000000#32
    reduces_S512x32x257_S512x32 (.inl rfl) rfl) shapeCasts_S512x32_S512x32x1)

theorem inv257_apply (e : FVec Ideal S512x32x257 .f32) (g : Fin 512) (r : Fin 32) :
    inv257 e (ix3 g r 0) = Ideal.div 1 (∑ l, e (ix3 g r l)) := by
  pointwise [inv257]

/-- The weighted values. -/
def mix257 (e : FVec F S512x32x257 .f32) (i : FVec F S512x32x1 .f32) (v : FVec F S512x257x96 .bf16) : FVec F S512x32x96 .f32 :=
  matmul dot_S512x32x257_S512x257x96_S512x32x96_2_1_1_2_0_0 none (truncf .bf16 (mulf e (broadcastTo S512x32x257 i broadcasts_S512x32x1_S512x32x257)) bitsLt_bf16_f32) v
    (constant S512x32x96 .f32 0x00000000#32)

theorem mix257_apply (e : FVec Ideal S512x32x257 .f32) (i : FVec Ideal S512x32x1 .f32) (v : FVec Ideal S512x257x96 .bf16) (g : Fin 512) (r : Fin 32) (d : Fin 96) :
    mix257 e i v (ix3 g r d) = ∑ l, e (ix3 g r l) * i (ix3 g r 0) * v (ix3 g l d) := by
  pointwise [mix257]

theorem attend257 (q : FVec Ideal S512x32x96 .bf16) (k v : FVec Ideal S512x257x96 .bf16) (g : Fin 512) (r : Fin 32) (d : Fin 96) :
    mix257 (exps257 (scr257 q k)) (inv257 (exps257 (scr257 q k))) v (ix3 g r d)
      = attend (fun l => (∑ d : Fin 96, q (ix3 g r d) * k (ix3 g l d)) * Ideal.ofBits .f32 0x3DD105EC#32) (fun l => v (ix3 g l d)) := by
  rw [mix257_apply, inv257_apply]
  simp only [exps257_apply, scr257_apply]
  rfl

/-- A row and what is added to it, of a context. -/
def addR (x : FVec F S2048x768 .f32) (c : FVec F S2048x768 .bf16) (w : FVec F S768x768 .bf16) (o : FVec F S1x768 .f32) : FVec F S2048x768 .f32 :=
  addf x (addf (matmul dot_S2048x768_S768x768_S2048x768_1_0_0_1_n_n none c w (constant S2048x768 .f32 0x00000000#32))
    (broadcastTo S2048x768 (shapeCast S1x768 o shapeCasts_S1x768_S1x768) broadcasts_S1x768_S2048x768))

theorem addR_apply (x : FVec Ideal S2048x768 .f32) (k : FVec Ideal S2048x768 .bf16) (w : FVec Ideal S768x768 .bf16) (o : FVec Ideal S1x768 .f32)
    (n : Fin 2048) (c : Fin 768) :
    addR x k w o (ix2 n c) = x (ix2 n c) + (lin (fun i j => w (ix2 i j)) (fun i => k (ix2 n i)) c + o (ix2 0 c)) := by
  pointwise [addR]
  rfl

/-- The rows' means. -/
def meanR (u : FVec F S2048x768 .f32) : FVec F S2048x1 .f32 :=
  divf (shapeCast S2048x1 (multiReduction .add [1] S2048 u 0x00000000#32 reduces_S2048x768_S2048 (.inl rfl) rfl) shapeCasts_S2048_S2048x1)
    (broadcast S2048x1 (Scalar.ofBits .f32 0x44400000#32))

theorem meanR_apply (u : FVec Ideal S2048x768 .f32) (n : Fin 2048) : meanR u (ix2 n 0) = mean fun c => u (ix2 n c) := by
  pointwise [meanR]
  rfl

/-- The rows less their means. -/
def cenR (u : FVec F S2048x768 .f32) : FVec F S2048x768 .f32 := subf u (broadcastTo S2048x768 (meanR u) broadcasts_S2048x1_S2048x768)

theorem cenR_apply (u : FVec Ideal S2048x768 .f32) (n : Fin 2048) (c : Fin 768) : cenR u (ix2 n c) = cen (fun c => u (ix2 n c)) c := by
  have e := meanR_apply u n
  unfold cenR
  generalize meanR u = z at e ⊢
  pointwise []
  rw [e]
  rfl

/-- The normalised rows. -/
def normR (c : FVec F S2048x768 .f32) (v : FVec F S2048x1 .f32) (g o : FVec F S1x768 .f32) : FVec F S2048x768 .f32 :=
  addf (mulf (mulf c (broadcastTo S2048x768 (rsqrt (addf v (broadcast S2048x1 (Scalar.ofBits .f32 0x2B8CBCCC#32)))) broadcasts_S2048x1_S2048x768))
    (broadcastTo S2048x768 g broadcasts_S1x768_S2048x768)) (broadcastTo S2048x768 o broadcasts_S1x768_S2048x768)

theorem normR_apply (u : FVec Ideal S2048x768 .f32) (g o : FVec Ideal S1x768 .f32) (n : Fin 2048) (c : Fin 768) :
    normR (cenR u) (meanR (mulf (cenR u) (cenR u))) (shapeCast S1x768 g shapeCasts_S1x768_S1x768) (shapeCast S1x768 o shapeCasts_S1x768_S1x768) (ix2 n c)
      = norm (fun c => g (ix2 0 c)) (fun c => o (ix2 0 c)) (fun c => u (ix2 n c)) c := by
  have e1 := cenR_apply u n
  have e2 := meanR_apply (mulf (cenR u) (cenR u)) n
  have e3 : (fun c => mulf (cenR u) (cenR u) (ix2 n c)) = fun c => cen (fun c => u (ix2 n c)) c * cen (fun c => u (ix2 n c)) c := by
    funext c
    rw [← e1]
    rfl
  rw [e3] at e2
  generalize meanR (mulf (cenR u) (cenR u)) = z at e2 ⊢
  generalize cenR u = w at e1 ⊢
  pointwise [normR]
  rw [e1, e2]
  rfl

/-- A projection with a bias. -/
def projB (x : FVec F S2048x768 .bf16) (w : FVec F S768x768 .bf16) (o : FVec F S1x768 .f32) : FVec F S2048x768 .bf16 :=
  truncf .bf16 (addf (matmul dot_S2048x768_S768x768_S2048x768_1_0_0_1_n_n none x w (constant S2048x768 .f32 0x00000000#32))
    (broadcastTo S2048x768 (shapeCast S1x768 o shapeCasts_S1x768_S1x768) broadcasts_S1x768_S2048x768)) bitsLt_bf16_f32

theorem projB_apply (x : FVec Ideal S2048x768 .bf16) (w : FVec Ideal S768x768 .bf16) (o : FVec Ideal S1x768 .f32) (n : Fin 2048) (c : Fin 768) :
    projB x w o (ix2 n c) = lin (fun i j => w (ix2 i j)) (fun i => x (ix2 n i)) c + o (ix2 0 c) := by
  pointwise [projB]
  rfl

/-- A projection. -/
def proj (x : FVec F S2048x768 .bf16) (w : FVec F S768x768 .bf16) : FVec F S2048x768 .bf16 :=
  truncf .bf16 (matmul dot_S2048x768_S768x768_S2048x768_1_0_0_1_n_n none x w (constant S2048x768 .f32 0x00000000#32)) bitsLt_bf16_f32

theorem proj_apply (x : FVec Ideal S2048x768 .bf16) (w : FVec Ideal S768x768 .bf16) (n : Fin 2048) (c : Fin 768) :
    proj x w (ix2 n c) = lin (fun i j => w (ix2 i j)) (fun i => x (ix2 n i)) c := by
  pointwise [proj]
  rfl

/-- An image's keys: codes times weights, times the token's scale and the lane's. -/
def deq (x : FVec F S16448x1408 .fp8e4m3) (t : FVec F S16448x1 .f32) (w : FVec F S1408x768 .fp8e4m3) (s : FVec F S1x768 .f32) : FVec F S16448x768 .f32 :=
  mulf (mulf (matmul dot_S16448x1408_S1408x768_S16448x768_1_0_0_1_n_n none x w (constant S16448x768 .f32 0x00000000#32))
    (broadcastTo S16448x768 t broadcasts_S16448x1_S16448x768)) (broadcastTo S16448x768 (shapeCast S1x768 s shapeCasts_S1x768_S1x768) broadcasts_S1x768_S16448x768)

theorem deq_apply (x : FVec Ideal S16448x1408 .fp8e4m3) (t : FVec Ideal S16448x1 .f32) (w : FVec Ideal S1408x768 .fp8e4m3) (s : FVec Ideal S1x768 .f32)
    (n : Fin 16448) (c : Fin 768) :
    deq x t w s (ix2 n c) = lin (fun i j => w (ix2 i j)) (fun i => x (ix2 n i)) c * t (ix2 n 0) * s (ix2 0 c) := by
  pointwise [deq]
  rfl

/-- The keys, and the values with their bias. -/
def keys (x : FVec F S16448x1408 .fp8e4m3) (t : FVec F S16448x1 .f32) (w : FVec F S1408x768 .fp8e4m3) (s : FVec F S1x768 .f32) : FVec F S16448x768 .bf16 :=
  truncf .bf16 (deq x t w s) bitsLt_bf16_f32
@[inherit_doc keys]
def vals (x : FVec F S16448x1408 .fp8e4m3) (t : FVec F S16448x1 .f32) (w : FVec F S1408x768 .fp8e4m3) (s o : FVec F S1x768 .f32) : FVec F S16448x768 .bf16 :=
  truncf .bf16 (addf (deq x t w s) (broadcastTo S16448x768 (shapeCast S1x768 o shapeCasts_S1x768_S1x768) broadcasts_S1x768_S16448x768)) bitsLt_bf16_f32

theorem keys_apply (x : FVec Ideal S16448x1408 .fp8e4m3) (t : FVec Ideal S16448x1 .f32) (w : FVec Ideal S1408x768 .fp8e4m3) (s : FVec Ideal S1x768 .f32)
    (n : Fin 16448) (c : Fin 768) :
    keys x t w s (ix2 n c) = lin (fun i j => w (ix2 i j)) (fun i => x (ix2 n i)) c * t (ix2 n 0) * s (ix2 0 c) := by
  rw [← deq_apply]
  rfl

theorem vals_apply (x : FVec Ideal S16448x1408 .fp8e4m3) (t : FVec Ideal S16448x1 .f32) (w : FVec Ideal S1408x768 .fp8e4m3) (s o : FVec Ideal S1x768 .f32)
    (n : Fin 16448) (c : Fin 768) :
    vals x t w s o (ix2 n c) = lin (fun i j => w (ix2 i j)) (fun i => x (ix2 n i)) c * t (ix2 n 0) * s (ix2 0 c) + o (ix2 0 c) := by
  rw [← deq_apply]
  unfold vals
  generalize deq x t w s = z
  pointwise []

/-! ### The reference's arrays -/

theorem pay5_eq (x : FVec F S2048x768 .bf16) (w : FVec F S768x768 .bf16) (o : FVec F S1x768 .f32) :
    k0_pay5 x w o = heads32 (projB (k0_pay4 x) w o) := rfl
theorem pay6_eq (x : FVec F S2048x768 .bf16) (w : FVec F S768x768 .bf16) (o : FVec F S1x768 .f32) (w' : FVec F S768x768 .bf16) :
    k0_pay6 x w o w' = exps32 (scr32 (heads32 (projB (k0_pay4 x) w o)) (heads32 (proj (k0_pay4 x) w'))) := rfl
theorem pay7_eq (x : FVec F S2048x768 .bf16) (w : FVec F S768x768 .bf16) (o : FVec F S1x768 .f32) (w' : FVec F S768x768 .bf16) :
    k0_pay7 x w o w' = inv32 (k0_pay6 x w o w') := rfl
theorem pay8_eq (x : FVec F S2048x768 .bf16) (v : FVec F S512x32x96 .bf16) (e : FVec F S512x32x32 .f32) (i : FVec F S512x32x1 .f32)
    (w : FVec F S768x768 .bf16) (o g b : FVec F S1x768 .f32) :
    k0_pay8 x v e i w o g b = normR (cenR (addR (extf .f32 x bitsLt_bf16_f32) (truncf .bf16 (rows (mix32 e i v)) bitsLt_bf16_f32) w o))
      (meanR (mulf (cenR (addR (extf .f32 x bitsLt_bf16_f32) (truncf .bf16 (rows (mix32 e i v)) bitsLt_bf16_f32) w o))
        (cenR (addR (extf .f32 x bitsLt_bf16_f32) (truncf .bf16 (rows (mix32 e i v)) bitsLt_bf16_f32) w o))))
      (shapeCast S1x768 g shapeCasts_S1x768_S1x768) (shapeCast S1x768 b shapeCasts_S1x768_S1x768) := rfl
theorem pay10_eq (x : FVec F S2048x768 .bf16) (w : FVec F S768x768 .bf16) (o : FVec F S1x768 .f32) :
    k0_pay10 x w (constant S2048x768 .f32 0x00000000#32) o = heads32 (projB x w o) := rfl
theorem pay13_eq (x : FVec F S16448x1408 .fp8e4m3) (t : FVec F S16448x1 .f32) (w : FVec F S1408x768 .fp8e4m3) (s : FVec F S1x768 .f32) :
    k0_pay13 x t w s = heads257 (keys (k0_pay11 x) (k0_pay12 t) w s) := rfl
theorem pay14_eq (x : FVec F S16448x1408 .fp8e4m3) (t : FVec F S16448x1 .f32) (w : FVec F S1408x768 .fp8e4m3) (s o : FVec F S1x768 .f32) :
    k0_pay14 x t w s o = heads257 (vals (k0_pay11 x) (k0_pay12 t) w s o) := rfl
theorem pay17_eq (h : FVec F S2048x768 .f32) (q : FVec F S512x32x96 .bf16) (k v : FVec F S512x257x96 .bf16) (w : FVec F S768x768 .bf16) (o : FVec F S1x768 .f32) :
    k0_pay17 h q k v (constant S512x32x257 .f32 0x00000000#32) w o
      = cenR (addR h (truncf .bf16 (rows (mix257 (exps257 (scr257 q k)) (inv257 (exps257 (scr257 q k))) v)) bitsLt_bf16_f32) w o) := rfl
theorem pay18_eq (h : FVec F S2048x768 .f32) (q : FVec F S512x32x96 .bf16) (k v : FVec F S512x257x96 .bf16) (c : FVec F S512x32x257 .f32) (w : FVec F S768x768 .bf16) (o : FVec F S1x768 .f32) :
    k0_pay18 h q k v c w o = meanR (mulf (k0_pay17 h q k v c w o) (k0_pay17 h q k v c w o)) := rfl
theorem pay19_eq (g b : FVec F S1x768 .f32) (c : FVec F S2048x768 .f32) (v : FVec F S2048x1 .f32) :
    k0_pay19 (k0_pay15 g) (k0_pay16 b) c v = normR c v (shapeCast S1x768 g shapeCasts_S1x768_S1x768) (shapeCast S1x768 b shapeCasts_S1x768_S1x768) := rfl

theorem pay4_apply (x : FVec Ideal S2048x768 .bf16) (n : Fin 2048) (c : Fin 768) : k0_pay4 x (ix2 n c) = x (ix2 n c) := by
  pointwise [k0_pay4]
theorem pay11_apply (x : FVec Ideal S16448x1408 .fp8e4m3) (n : Fin 16448) (c : Fin 1408) : k0_pay11 x (ix2 n c) = x (ix2 n c) := by
  pointwise [k0_pay11]
theorem pay12_apply (x : FVec Ideal S16448x1 .f32) (n : Fin 16448) : k0_pay12 x (ix2 n 0) = x (ix2 n 0) := by
  pointwise [k0_pay12]

theorem trunc_apply (z : FVec Ideal S2048x768 .f32) (n : Fin 2048) (c : Fin 768) :
    truncf .bf16 z bitsLt_bf16_f32 (ix2 n c) = (z (ix2 n c) : EReal) := rfl

/-- After the self-attention. -/
theorem h1_apply (P : Params) (x : FVec Ideal S2048x768 .bf16) (wq wk wv wo : FVec Ideal S768x768 .bf16) (bq bv bo g1 b1 : FVec Ideal S1x768 .f32)
    (hwq : ∀ i j, wq (ix2 i j) = P.wq i j) (hwk : ∀ i j, wk (ix2 i j) = P.wk i j) (hwv : ∀ i j, wv (ix2 i j) = P.wv i j) (hwo : ∀ i j, wo (ix2 i j) = P.wo i j)
    (hbq : ∀ j, bq (ix2 0 j) = P.bq j) (hbv : ∀ j, bv (ix2 0 j) = P.bv j) (hbo : ∀ j, bo (ix2 0 j) = P.bo j) (hg1 : ∀ j, g1 (ix2 0 j) = P.g1 j) (hb1 : ∀ j, b1 (ix2 0 j) = P.b1 j)
    (b : Fin 64) (r : Fin 32) (c : Fin 768) :
    k0_pay8 (F := Ideal) (k0_pay4 x) (k0_pay5 x wv bv) (k0_pay6 x wq bq wk) (k0_pay7 x wq bq wk) wo bo g1 b1 (ix2 (tokR b r) c)
      = Spec.h1 P (fun r c => x (ix2 (tokR b r) c)) r c := by
  have hc : ∀ c, rows (F := Ideal) (mix32 (k0_pay6 x wq bq wk) (k0_pay7 x wq bq wk) (k0_pay5 x wv bv)) (ix2 (tokR b r) c)
      = sctx P (fun r c => x (ix2 (tokR b r) c)) r c := by
    intro c
    rw [rows_apply, pay7_eq, pay6_eq, pay5_eq, attend32]
    simp only [heads32_apply, projB_apply, proj_apply, pay4_apply, lane_place, hwq, hwk, hwv, hbq, hbv]
    rfl
  rw [pay8_eq, normR_apply]
  simp only [addR_apply, hg1, hb1, hbo, hwo]
  have e : ∀ i, truncf .bf16 (rows (F := Ideal) (mix32 (k0_pay6 x wq bq wk) (k0_pay7 x wq bq wk) (k0_pay5 x wv bv))) bitsLt_bf16_f32 (ix2 (tokR b r) i)
      = sctx P (fun r c => x (ix2 (tokR b r) c)) r i := hc
  have e' : ∀ i, extf (F := Ideal) .f32 (k0_pay4 x) bitsLt_bf16_f32 (ix2 (tokR b r) i) = x (ix2 (tokR b r) i) := fun i => pay4_apply x (tokR b r) i
  simp only [e, e']
  rfl

/-- After the cross-attention. -/
theorem h2_apply (P : Params) (X : Fin 32 → Row) (h : FVec Ideal S2048x768 .f32) (y : FVec Ideal S2048x768 .bf16) (x : FVec Ideal S16448x1408 .fp8e4m3) (t : FVec Ideal S16448x1 .f32)
    (wcq wco : FVec Ideal S768x768 .bf16) (bcq bco : FVec Ideal S1x768 .f32) (wck wcv : FVec Ideal S1408x768 .fp8e4m3) (sck scv bcv g2 b2 : FVec Ideal S1x768 .f32)
    (hwcq : ∀ i j, wcq (ix2 i j) = P.wcq i j) (hwco : ∀ i j, wco (ix2 i j) = P.wco i j) (hbcq : ∀ j, bcq (ix2 0 j) = P.bcq j) (hbco : ∀ j, bco (ix2 0 j) = P.bco j)
    (hwck : ∀ i j, wck (ix2 i j) = P.wck i j) (hwcv : ∀ i j, wcv (ix2 i j) = P.wcv i j) (hsck : ∀ j, sck (ix2 0 j) = P.sck j) (hscv : ∀ j, scv (ix2 0 j) = P.scv j)
    (hbcv : ∀ j, bcv (ix2 0 j) = P.bcv j) (hg2 : ∀ j, g2 (ix2 0 j) = P.g2 j) (hb2 : ∀ j, b2 (ix2 0 j) = P.b2 j)
    (b : Fin 64) (r : Fin 32) (c : Fin 768) (hh : ∀ c, h (ix2 (tokR b r) c) = Spec.h1 P X r c) (hy : ∀ c, y (ix2 (tokR b r) c) = Spec.h1 P X r c) :
    k0_pay19 (F := Ideal) (k0_pay15 g2) (k0_pay16 b2)
      (k0_pay17 h (k0_pay10 y wcq (constant S2048x768 .f32 0x00000000#32) bcq) (k0_pay13 x t wck sck) (k0_pay14 x t wcv scv bcv)
        (constant S512x32x257 .f32 0x00000000#32) wco bco)
      (k0_pay18 h (k0_pay10 y wcq (constant S2048x768 .f32 0x00000000#32) bcq) (k0_pay13 x t wck sck) (k0_pay14 x t wcv scv bcv)
        (constant S512x32x257 .f32 0x00000000#32) wco bco) (ix2 (tokR b r) c)
      = Spec.h2 P X (fun l c => x (ix2 (imgR b l) c)) (fun l => t (ix2 (imgR b l) 0)) r c := by
  rw [pay18_eq, pay17_eq, pay19_eq, normR_apply, pay10_eq, pay13_eq, pay14_eq]
  simp only [addR_apply, hg2, hb2, hbco, hwco]
  have e : ∀ i, truncf .bf16 (rows (mix257 (exps257 (scr257 (heads32 (projB y wcq bcq)) (heads257 (keys (k0_pay11 x) (k0_pay12 t) wck sck))))
      (inv257 (exps257 (scr257 (heads32 (projB y wcq bcq)) (heads257 (keys (k0_pay11 x) (k0_pay12 t) wck sck))))) (heads257 (vals (k0_pay11 x) (k0_pay12 t) wcv scv bcv))))
      bitsLt_bf16_f32 (ix2 (tokR b r) i)
      = cctx P (Spec.h1 P X r) (fun l c => x (ix2 (imgR b l) c)) (fun l => t (ix2 (imgR b l) 0)) i := by
    intro i
    rw [trunc_apply, rows_apply, attend257]
    simp only [heads32_apply, heads257_apply, projB_apply, keys_apply, vals_apply, pay11_apply, pay12_apply, lane_place, hwcq, hbcq, hwck, hwcv, hsck, hscv, hbcv, hy]
    rfl
  simp only [e, hh]
  rfl

end Cert.ReferenceIdeal.Att

end
-- ==== Proof.Ref.Out.lean ====
/- What the reference's body leaves in its result blocks, of the arguments. -/
module

public import proofs.«01_k».proof.Proof.Ref.Frame
public import proofs.«01_k».proof.Proof.Args
public import proofs.«01_k».proof.Proof.Ref.Ops
public import proofs.«01_k».proof.Proof.Ref.Att
public import Idealize.ShloMosaic.Lib.Pipeline.Value
public import Idealize.ShloMosaic.Lib.Pointwise

@[expose] public section

set_option maxRecDepth 16384

noncomputable section

namespace Cert.ReferenceIdeal.Out

open Cert.ReferenceIdeal Cert.ReferenceIdeal.Gen Cert.Spec Cert.Band Cert.ReferenceIdeal.Att Cert.ReferenceIdeal.Ops Idealize.ShloMosaic Idealize.SL.Sem

/-! ### Loads of whole blocks -/

theorem ld0 {e : EltTy} (x : Vec Ideal S2048x768 e) : View.ld x r0_0 = x :=
  View.ld_unit_zero (funext fun a => by fin_cases a <;> rfl) _ x
theorem ld1 {e : EltTy} (x : Vec Ideal S768x768 e) : View.ld x r0_1 = x :=
  View.ld_unit_zero (funext fun a => by fin_cases a <;> rfl) _ x
theorem ld2 {e : EltTy} (x : Vec Ideal S1x768 e) : View.ld x r0_2 = x :=
  View.ld_unit_zero (funext fun a => by fin_cases a <;> rfl) _ x
theorem ld3 {e : EltTy} (x : Vec Ideal S16448x1408 e) : View.ld x r0_3 = x :=
  View.ld_unit_zero (funext fun a => by fin_cases a <;> rfl) _ x
theorem ld4 {e : EltTy} (x : Vec Ideal S16448x1 e) : View.ld x r0_4 = x :=
  View.ld_unit_zero (funext fun a => by fin_cases a <;> rfl) _ x
theorem ld5 {e : EltTy} (x : Vec Ideal S1408x768 e) : View.ld x r0_5 = x :=
  View.ld_unit_zero (funext fun a => by fin_cases a <;> rfl) _ x
theorem ld6 {e : EltTy} (x : Vec Ideal S768x3072 e) : View.ld x r0_6 = x :=
  View.ld_unit_zero (funext fun a => by fin_cases a <;> rfl) _ x
theorem ld7 {e : EltTy} (x : Vec Ideal S1x3072 e) : View.ld x r0_7 = x :=
  View.ld_unit_zero (funext fun a => by fin_cases a <;> rfl) _ x
theorem ld8 {e : EltTy} (x : Vec Ideal S3072x768 e) : View.ld x r0_8 = x :=
  View.ld_unit_zero (funext fun a => by fin_cases a <;> rfl) _ x

/-! ### The arguments, reshaped -/

theorem row768 (x : FVec Ideal S768 .f32) (j : Fin 768) : shapeCast S1x768 x shapeCasts_S768_S1x768 (ix2 0 j) = x (ix1 j) := by
  pointwise []
theorem row3072 (x : FVec Ideal S3072 .f32) (j : Fin 3072) : shapeCast S1x3072 x shapeCasts_S3072_S1x3072 (ix2 0 j) = x (ix1 j) := by
  pointwise []
theorem rowsX (x : FVec Ideal S64x32x768 .bf16) (b : Fin 64) (r : Fin 32) (c : Fin 768) :
    shapeCast S2048x768 x shapeCasts_S64x32x768_S2048x768 (ix2 (tokR b r) c) = x (ix3 b r c) := by
  have := b.2; have := r.2
  pointwise []
  congr 2 <;> (apply Fin.ext; simp only [tokR]; omega)
theorem rowsC (x : FVec Ideal S64x257x1408 .fp8e4m3) (b : Fin 64) (l : Fin 257) (c : Fin 1408) :
    shapeCast S16448x1408 x shapeCasts_S64x257x1408_S16448x1408 (ix2 (imgR b l) c) = x (ix3 b l c) := by
  have := b.2; have := l.2
  pointwise []
  congr 2 <;> (apply Fin.ext; simp only [imgR]; omega)
theorem rowsT (x : FVec Ideal S64x257 .f32) (b : Fin 64) (l : Fin 257) :
    shapeCast S16448x1 x shapeCasts_S64x257_S16448x1 (ix2 (imgR b l) 0) = x (ix2 b l) := by
  have := b.2; have := l.2
  pointwise []
  congr 2 <;> (apply Fin.ext; simp only [imgR]; omega)

/-! ### The values -/

variable (A : Args)

/-- The rows after the cross-attention. -/
def h2R : FVec Ideal S2048x768 .f32 := k0_pay44 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)
/-- The feed-forward part's rows. -/
def ffR : FVec Ideal S2048x3072 .f32 := k0_pay47 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)

theorem h1_val (b : Fin 64) (r : Fin 32) (c : Fin 768) : k0_pay35 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) (ix2 (tokR b r) c) = Spec.h1 A.params (A.X b) r c := by
  unfold k0_pay35 k0_pay31 k0_pay32 k0_pay33 k0_pay34
  simp only [ld0, ld1, ld2, ld3, ld4, ld5, ld6, ld7, ld8]
  rw [h1_apply A.params _ _ _ _ _ _ _ _ _ _ (fun _ _ => rfl) (fun _ _ => rfl) (fun _ _ => rfl) (fun _ _ => rfl) (row768 _) (row768 _) (row768 _) (row768 _) (row768 _)]
  simp only [rowsX]
  rfl

theorem h2_val (b : Fin 64) (r : Fin 32) (c : Fin 768) : h2R A (ix2 (tokR b r) c) = A.h2 b r c := by
  have e := h1_val A b r
  unfold h2R k0_pay44 k0_pay40 k0_pay41 k0_pay42 k0_pay43 k0_pay37 k0_pay38 k0_pay39 k0_pay36
  simp only [ld0, ld1, ld2, ld3, ld4, ld5, ld6, ld7, ld8]
  have e' : ∀ c, k0_pay9 (F := Ideal) (k0_pay31 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)) (k0_pay32 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)) (k0_pay33 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)) (k0_pay34 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)) A.a6
      (shapeCast S1x768 A.a9 shapeCasts_S768_S1x768) (shapeCast S1x768 A.a10 shapeCasts_S768_S1x768) (shapeCast S1x768 A.a11 shapeCasts_S768_S1x768) (ix2 (tokR b r) c) = Spec.h1 A.params (A.X b) r c := by
    intro c
    have := e c
    unfold k0_pay35 at this
    simp only [ld0, ld1, ld2, ld3, ld4, ld5, ld6, ld7, ld8] at this
    exact this
  rw [h2_apply A.params (A.X b) _ _ _ _ _ _ _ _ _ _ _ _ _ _ _ (fun _ _ => rfl) (fun _ _ => rfl) (row768 _) (row768 _) (fun _ _ => rfl) (fun _ _ => rfl)
    (row768 _) (row768 _) (row768 _) (row768 _) (row768 _) b r c e e']
  exact congrArg₂ (fun u v => Spec.h2 A.params (A.X b) u v r c) (funext fun l => funext fun c => rowsC _ b l c) (funext fun l => rowsT _ b l)

theorem c_val (b : Fin 64) (r : Fin 32) (c : Fin 768) : k0_pay45 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) (ix2 (tokR b r) c) = codesOf (A.h2 b r) c :=
  (codes_apply _ _ _ _ _ c).trans (congrArg (fun u => codesOf u c) (funext (h2_val A b r)))

theorem s_val (b : Fin 64) (r : Fin 32) : k0_pay46 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) (ix2 (tokR b r) 0) = scaleOf (peak (A.h2 b r)) :=
  (scale_apply _ _ _ _ _).trans (congrArg (fun u => scaleOf (peak u)) (funext (h2_val A b r)))

theorem ff_val (b : Fin 64) (r : Fin 32) (j : Fin 3072) : ffR A (ix2 (tokR b r) j) = ff A.params (A.h2 b r) j := by
  unfold ffR k0_pay47
  simp only [ld0, ld1, ld2, ld3, ld4, ld5, ld6, ld7, ld8]
  rw [ff_apply, s_val, row3072, row3072]
  exact congrArg (fun u => gelu (lin A.params.wf1 u j * (scaleOf (peak (A.h2 b r)) * A.a24 (ix1 j)) + A.a25 (ix1 j))) (funext (c_val A b r))

theorem gc_val (b : Fin 64) (r : Fin 32) (j : Fin 3072) : k0_pay25 (F := Ideal) (k0_pay47 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)) (k0_pay48 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)) (ix2 (tokR b r) j)
    = codesOf (ff A.params (A.h2 b r)) j :=
  (codes2_apply _ _ _ _ _ _ j).trans (congrArg (fun u => codesOf u j) (funext (ff_val A b r)))

theorem gs_val (b : Fin 64) (r : Fin 32) : k0_pay26 (F := Ideal) (k0_pay48 (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768)) (ix2 (tokR b r) 0) = scaleOf (peak (ff A.params (A.h2 b r))) :=
  (scale2_apply _ _ _ _ _ _).trans (congrArg (fun u => scaleOf (peak u)) (funext (ff_val A b r)))

/-- Every row is a token of an image. -/
theorem tok_img (n : Fin 2048) : tokR (Args.img n) (Args.tokOf n) = n := by
  apply Fin.ext
  simp only [tokR, Args.img, Args.tokOf]
  omega

theorem eta2 {a b : ℕ} (i : (⟨2, ![a, b]⟩ : Shape).Idx) : ∃ (n : Fin a) (c : Fin b), i = ix2 n c :=
  ⟨i 0, i 1, funext fun x => by fin_cases x <;> rfl⟩

theorem out31 : out0_31 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) = A.out := by
  funext i
  obtain ⟨n, c, rfl⟩ := eta2 i
  unfold out0_31
  rw [View.canon_unit_zero (funext fun a => by fin_cases a <;> rfl)]
  simp only [ld0, ld1, ld2, ld3, ld4, ld5, ld6, ld7, ld8]
  have e := fun c => h2_val A (Args.img n) (Args.tokOf n) c
  have e1 := fun c => gc_val A (Args.img n) (Args.tokOf n) c
  have e2 := gs_val A (Args.img n) (Args.tokOf n)
  rw [tok_img] at e e1 e2
  rw [out_apply]
  simp only [row768]
  unfold pre3
  simp only [e1, e2, row768]
  unfold h2R at e
  simp only [e]
  rfl

theorem out32 : out0_32 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) = A.h2c := by
  funext i
  obtain ⟨n, c, rfl⟩ := eta2 i
  unfold out0_32
  rw [View.canon_unit_zero (funext fun a => by fin_cases a <;> rfl)]
  have e := c_val A (Args.img n) (Args.tokOf n) c
  rw [tok_img] at e
  exact e

theorem cols (x : FVec Ideal S2048x1 .f32) (b : Fin 64) (r : Fin 32) : shapeCast S64x32 x shapeCasts_S2048x1_S64x32 (ix2 b r) = x (ix2 (tokR b r) 0) := by
  have := b.2; have := r.2
  pointwise []
  congr 2 <;> (apply Fin.ext; simp only [tokR]; omega)

theorem out33 : out0_33 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) = A.h2s := by
  funext i
  obtain ⟨b, r, rfl⟩ := eta2 i
  unfold out0_33
  rw [View.canon_unit_zero (funext fun a => by fin_cases a <;> rfl)]
  unfold k0_pay2
  rw [cols, s_val]
  rfl

theorem out34 : out0_34 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) = A.gc := by
  funext i
  obtain ⟨n, c, rfl⟩ := eta2 i
  unfold out0_34
  rw [View.canon_unit_zero (funext fun a => by fin_cases a <;> rfl)]
  have e := gc_val A (Args.img n) (Args.tokOf n) c
  rw [tok_img] at e
  exact e

theorem out35 : out0_35 (F := Ideal) (shapeCast S2048x768 A.a0 shapeCasts_S64x32x768_S2048x768) (shapeCast S16448x1408 A.a1 shapeCasts_S64x257x1408_S16448x1408) (shapeCast S16448x1 A.a2 shapeCasts_S64x257_S16448x1) A.a3 A.a4 A.a5 A.a6 (shapeCast S1x768 A.a7 shapeCasts_S768_S1x768) (shapeCast S1x768 A.a8 shapeCasts_S768_S1x768) (shapeCast S1x768 A.a9 shapeCasts_S768_S1x768) (shapeCast S1x768 A.a10 shapeCasts_S768_S1x768) (shapeCast S1x768 A.a11 shapeCasts_S768_S1x768) A.a12 A.a13 (shapeCast S1x768 A.a14 shapeCasts_S768_S1x768) (shapeCast S1x768 A.a15 shapeCasts_S768_S1x768) A.a16 A.a17 (shapeCast S1x768 A.a18 shapeCasts_S768_S1x768) (shapeCast S1x768 A.a19 shapeCasts_S768_S1x768) (shapeCast S1x768 A.a20 shapeCasts_S768_S1x768) (shapeCast S1x768 A.a21 shapeCasts_S768_S1x768) (shapeCast S1x768 A.a22 shapeCasts_S768_S1x768) A.a23 (shapeCast S1x3072 A.a24 shapeCasts_S3072_S1x3072) (shapeCast S1x3072 A.a25 shapeCasts_S3072_S1x3072) A.a26 (shapeCast S1x768 A.a27 shapeCasts_S768_S1x768) (shapeCast S1x768 A.a28 shapeCasts_S768_S1x768) (shapeCast S1x768 A.a29 shapeCasts_S768_S1x768) (shapeCast S1x768 A.a30 shapeCasts_S768_S1x768) = A.gs := by
  funext i
  obtain ⟨b, r, rfl⟩ := eta2 i
  unfold out0_35
  rw [View.canon_unit_zero (funext fun a => by fin_cases a <;> rfl)]
  unfold k0_pay3
  rw [cols, gs_val]
  rfl

end Cert.ReferenceIdeal.Out

end
-- ==== Proof.Ref.Run.lean ====
/- The reference's run: each result array is what its one grid point writes, and that is a function of the arguments. -/
module

public import proofs.«01_k».proof.Proof.Ref.Frame
public import Idealize.ShloMosaic.Lib.Pipeline.Value
public import proofs.«01_k».proof.Proof.Ref.Out

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one grid point. -/
def t₀ : Fin cfg0.N := ⟨0, by decide⟩

/-! ### The blocks of the one point are the arrays, as launched or reshaped -/

theorem in0 (c : Dev nD) : iblk m c 0 t₀ = shapeCast S2048x768 (m ((c : Thread nD τ).loc main_arg0)) shapeCasts_S64x32x768_S2048x768 :=
  (Memref.read_access_unit_zero (Elt F) main_v0 (show (fun a => (win0_0.index t₀) a * main_v0.ty.shape.size a) = fun _ => 0 from funext fun a => by fin_cases a <;> decide)
    (fun a => by fin_cases a <;> decide) (V m c main_v0)).trans (rfl)
theorem in1 (c : Dev nD) : iblk m c 1 t₀ = shapeCast S16448x1408 (m ((c : Thread nD τ).loc main_arg1)) shapeCasts_S64x257x1408_S16448x1408 :=
  (Memref.read_access_unit_zero (Elt F) main_v1 (show (fun a => (win0_1.index t₀) a * main_v1.ty.shape.size a) = fun _ => 0 from funext fun a => by fin_cases a <;> decide)
    (fun a => by fin_cases a <;> decide) (V m c main_v1)).trans (rfl)
theorem in2 (c : Dev nD) : iblk m c 2 t₀ = shapeCast S16448x1 (m ((c : Thread nD τ).loc main_arg2)) shapeCasts_S64x257_S16448x1 :=
  (Memref.read_access_unit_zero (Elt F) main_v2 (show (fun a => (win0_2.index t₀) a * main_v2.ty.shape.size a) = fun _ => 0 from funext fun a => by fin_cases a <;> decide)
    (fun a => by fin_cases a <;> decide) (V m c main_v2)).trans (rfl)
theorem in3 (c : Dev nD) : iblk m c 3 t₀ = m ((c : Thread nD τ).loc main_arg3) :=
  (Memref.read_access_unit_zero (Elt F) main_arg3 (show (fun a => (win0_3.index t₀) a * main_arg3.ty.shape.size a) = fun _ => 0 from funext fun a => by fin_cases a <;> decide)
    (fun a => by fin_cases a <;> decide) (V m c main_arg3)).trans (V_main_arg3 m c)
theorem in4 (c : Dev nD) : iblk m c 4 t₀ = m ((c : Thread nD τ).loc main_arg4) :=
  (Memref.read_access_unit_zero (Elt F) main_arg4 (show (fun a => (win0_4.index t₀) a * main_arg4.ty.shape.size a) = fun _ => 0 from funext fun a => by fin_cases a <;> decide)
    (fun a => by fin_cases a <;> decide) (V m c main_arg4)).trans (V_main_arg4 m c)
theorem in5 (c : Dev nD) : iblk m c 5 t₀ = m ((c : Thread nD τ).loc main_arg5) :=
  (Memref.read_access_unit_zero (Elt F) main_arg5 (show (fun a => (win0_5.index t₀) a * main_arg5.ty.shape.size a) = fun _ => 0 from funext fun a => by fin_cases a <;> decide)
    (fun a => by fin_cases a <;> decide) (V m c main_arg5)).trans (V_main_arg5 m c)
theorem in6 (c : Dev nD) : iblk m c 6 t₀ = m ((c : Thread nD τ).loc main_arg6) :=
  (Memref.read_access_unit_zero (Elt F) main_arg6 (show (fun a => (win0_6.index t₀) a * main_arg6.ty.shape.size a) = fun _ => 0 from funext fun a => by fin_cases a <;> decide)
    (fun a => by fin_cases a <;> decide) (V m c main_arg6)).trans (V_main_arg6 m c)
theorem in7 (c : Dev nD) : iblk m c 7 t₀ = shapeCast S1x768 (m ((c : Thread nD τ).loc main_arg7)) shapeCasts_S768_S1x768 :=
  (Memref.read_access_unit_zero (Elt F) main_v3 (show (fun a => (win0_7.index t₀) a * main_v3.ty.shape.size a) = fun _ => 0 from funext fun a => by fin_cases a <;> decide)
    (fun a => by fin_cases a <;> decide) (V m c main_v3)).trans (rfl)
theorem in8 (c : Dev nD) : iblk m c 8 t₀ = shapeCast S1x768 (m ((c : Thread nD τ).loc main_arg8)) shapeCasts_S768_S1x768 :=
  (Memref.read_access_unit_zero (Elt F) main_v4 (show (fun a => (win0_8.index t₀) a * main_v4.ty.shape.size a) = fun _ => 0 from funext fun a => by fin_cases a <;> decide)
    (fun a => by fin_cases a <;> decide) (V m c main_v4)).trans (rfl)
theorem in9 (c : Dev nD) : iblk m c 9 t₀ = shapeCast S1x768 (m ((c : Thread nD τ).loc main_arg9)) shapeCasts_S768_S1x768 :=
  (Memref.read_access_unit_zero (Elt F) main_v5 (show (fun a => (win0_9.index t₀) a * main_v5.ty.shape.size a) = fun _ => 0 from funext fun a => by fin_cases a <;> decide)
    (fun a => by fin_cases a <;> decide) (V m c main_v5)).trans (rfl)
theorem in10 (c : Dev nD) : iblk m c 10 t₀ = shapeCast S1x768 (m ((c : Thread nD τ).loc main_arg10)) shapeCasts_S768_S1x768 :=
  (Memref.read_access_unit_zero (Elt F) main_v6 (show (fun a => (win0_10.index t₀) a * main_v6.ty.shape.size a) = fun _ => 0 from funext fun a => by fin_cases a <;> decide)
    (fun a => by fin_cases a <;> decide) (V m c main_v6)).trans (rfl)
theorem in11 (c : Dev nD) : iblk m c 11 t₀ = shapeCast S1x768 (m ((c : Thread nD τ).loc main_arg11)) shapeCasts_S768_S1x768 :=
  (Memref.read_access_unit_zero (Elt F) main_v7 (show (fun a => (win0_11.index t₀) a * main_v7.ty.shape.size a) = fun _ => 0 from funext fun a => by fin_cases a <;> decide)
    (fun a => by fin_cases a <;> decide) (V m c main_v7)).trans (rfl)
theorem in12 (c : Dev nD) : iblk m c 12 t₀ = m ((c : Thread nD τ).loc main_arg12) :=
  (Memref.read_access_unit_zero (Elt F) main_arg12 (show (fun a => (win0_12.index t₀) a * main_arg12.ty.shape.size a) = fun _ => 0 from funext fun a => by fin_cases a <;> decide)
    (fun a => by fin_cases a <;> decide) (V m c main_arg12)).trans (V_main_arg12 m c)
theorem in13 (c : Dev nD) : iblk m c 13 t₀ = m ((c : Thread nD τ).loc main_arg13) :=
  (Memref.read_access_unit_zero (Elt F) main_arg13 (show (fun a => (win0_13.index t₀) a * main_arg13.ty.shape.size a) = fun _ => 0 from funext fun a => by fin_cases a <;> decide)
    (fun a => by fin_cases a <;> decide) (V m c main_arg13)).trans (V_main_arg13 m c)
theorem in14 (c : Dev nD) : iblk m c 14 t₀ = shapeCast S1x768 (m ((c : Thread nD τ).loc main_arg14)) shapeCasts_S768_S1x768 :=
  (Memref.read_access_unit_zero (Elt F) main_v8 (show (fun a => (win0_14.index t₀) a * main_v8.ty.shape.size a) = fun _ => 0 from funext fun a => by fin_cases a <;> decide)
    (fun a => by fin_cases a <;> decide) (V m c main_v8)).trans (rfl)
theorem in15 (c : Dev nD) : iblk m c 15 t₀ = shapeCast S1x768 (m ((c : Thread nD τ).loc main_arg15)) shapeCasts_S768_S1x768 :=
  (Memref.read_access_unit_zero (Elt F) main_v9 (show (fun a => (win0_15.index t₀) a * main_v9.ty.shape.size a) = fun _ => 0 from funext fun a => by fin_cases a <;> decide)
    (fun a => by fin_cases a <;> decide) (V m c main_v9)).trans (rfl)
theorem in16 (c : Dev nD) : iblk m c 16 t₀ = m ((c : Thread nD τ).loc main_arg16) :=
  (Memref.read_access_unit_zero (Elt F) main_arg16 (show (fun a => (win0_16.index t₀) a * main_arg16.ty.shape.size a) = fun _ => 0 from funext fun a => by fin_cases a <;> decide)
    (fun a => by fin_cases a <;> decide) (V m c main_arg16)).trans (V_main_arg16 m c)
theorem in17 (c : Dev nD) : iblk m c 17 t₀ = m ((c : Thread nD τ).loc main_arg17) :=
  (Memref.read_access_unit_zero (Elt F) main_arg17 (show (fun a => (win0_17.index t₀) a * main_arg17.ty.shape.size a) = fun _ => 0 from funext fun a => by fin_cases a <;> decide)
    (fun a => by fin_cases a <;> decide) (V m c main_arg17)).trans (V_main_arg17 m c)
theorem in18 (c : Dev nD) : iblk m c 18 t₀ = shapeCast S1x768 (m ((c : Thread nD τ).loc main_arg18)) shapeCasts_S768_S1x768 :=
  (Memref.read_access_unit_zero (Elt F) main_v10 (show (fun a => (win0_18.index t₀) a * main_v10.ty.shape.size a) = fun _ => 0 from funext fun a => by fin_cases a <;> decide)
    (fun a => by fin_cases a <;> decide) (V m c main_v10)).trans (rfl)
theorem in19 (c : Dev nD) : iblk m c 19 t₀ = shapeCast S1x768 (m ((c : Thread nD τ).loc main_arg19)) shapeCasts_S768_S1x768 :=
  (Memref.read_access_unit_zero (Elt F) main_v11 (show (fun a => (win0_19.index t₀) a * main_v11.ty.shape.size a) = fun _ => 0 from funext fun a => by fin_cases a <;> decide)
    (fun a => by fin_cases a <;> decide) (V m c main_v11)).trans (rfl)
theorem in20 (c : Dev nD) : iblk m c 20 t₀ = shapeCast S1x768 (m ((c : Thread nD τ).loc main_arg20)) shapeCasts_S768_S1x768 :=
  (Memref.read_access_unit_zero (Elt F) main_v12 (show (fun a => (win0_20.index t₀) a * main_v12.ty.shape.size a) = fun _ => 0 from funext fun a => by fin_cases a <;> decide)
    (fun a => by fin_cases a <;> decide) (V m c main_v12)).trans (rfl)
theorem in21 (c : Dev nD) : iblk m c 21 t₀ = shapeCast S1x768 (m ((c : Thread nD τ).loc main_arg21)) shapeCasts_S768_S1x768 :=
  (Memref.read_access_unit_zero (Elt F) main_v13 (show (fun a => (win0_21.index t₀) a * main_v13.ty.shape.size a) = fun _ => 0 from funext fun a => by fin_cases a <;> decide)
    (fun a => by fin_cases a <;> decide) (V m c main_v13)).trans (rfl)
theorem in22 (c : Dev nD) : iblk m c 22 t₀ = shapeCast S1x768 (m ((c : Thread nD τ).loc main_arg22)) shapeCasts_S768_S1x768 :=
  (Memref.read_access_unit_zero (Elt F) main_v14 (show (fun a => (win0_22.index t₀) a * main_v14.ty.shape.size a) = fun _ => 0 from funext fun a => by fin_cases a <;> decide)
    (fun a => by fin_cases a <;> decide) (V m c main_v14)).trans (rfl)
theorem in23 (c : Dev nD) : iblk m c 23 t₀ = m ((c : Thread nD τ).loc main_arg23) :=
  (Memref.read_access_unit_zero (Elt F) main_arg23 (show (fun a => (win0_23.index t₀) a * main_arg23.ty.shape.size a) = fun _ => 0 from funext fun a => by fin_cases a <;> decide)
    (fun a => by fin_cases a <;> decide) (V m c main_arg23)).trans (V_main_arg23 m c)
theorem in24 (c : Dev nD) : iblk m c 24 t₀ = shapeCast S1x3072 (m ((c : Thread nD τ).loc main_arg24)) shapeCasts_S3072_S1x3072 :=
  (Memref.read_access_unit_zero (Elt F) main_v15 (show (fun a => (win0_24.index t₀) a * main_v15.ty.shape.size a) = fun _ => 0 from funext fun a => by fin_cases a <;> decide)
    (fun a => by fin_cases a <;> decide) (V m c main_v15)).trans (rfl)
theorem in25 (c : Dev nD) : iblk m c 25 t₀ = shapeCast S1x3072 (m ((c : Thread nD τ).loc main_arg25)) shapeCasts_S3072_S1x3072 :=
  (Memref.read_access_unit_zero (Elt F) main_v16 (show (fun a => (win0_25.index t₀) a * main_v16.ty.shape.size a) = fun _ => 0 from funext fun a => by fin_cases a <;> decide)
    (fun a => by fin_cases a <;> decide) (V m c main_v16)).trans (rfl)
theorem in26 (c : Dev nD) : iblk m c 26 t₀ = m ((c : Thread nD τ).loc main_arg26) :=
  (Memref.read_access_unit_zero (Elt F) main_arg26 (show (fun a => (win0_26.index t₀) a * main_arg26.ty.shape.size a) = fun _ => 0 from funext fun a => by fin_cases a <;> decide)
    (fun a => by fin_cases a <;> decide) (V m c main_arg26)).trans (V_main_arg26 m c)
theorem in27 (c : Dev nD) : iblk m c 27 t₀ = shapeCast S1x768 (m ((c : Thread nD τ).loc main_arg27)) shapeCasts_S768_S1x768 :=
  (Memref.read_access_unit_zero (Elt F) main_v17 (show (fun a => (win0_27.index t₀) a * main_v17.ty.shape.size a) = fun _ => 0 from funext fun a => by fin_cases a <;> decide)
    (fun a => by fin_cases a <;> decide) (V m c main_v17)).trans (rfl)
theorem in28 (c : Dev nD) : iblk m c 28 t₀ = shapeCast S1x768 (m ((c : Thread nD τ).loc main_arg28)) shapeCasts_S768_S1x768 :=
  (Memref.read_access_unit_zero (Elt F) main_v18 (show (fun a => (win0_28.index t₀) a * main_v18.ty.shape.size a) = fun _ => 0 from funext fun a => by fin_cases a <;> decide)
    (fun a => by fin_cases a <;> decide) (V m c main_v18)).trans (rfl)
theorem in29 (c : Dev nD) : iblk m c 29 t₀ = shapeCast S1x768 (m ((c : Thread nD τ).loc main_arg29)) shapeCasts_S768_S1x768 :=
  (Memref.read_access_unit_zero (Elt F) main_v19 (show (fun a => (win0_29.index t₀) a * main_v19.ty.shape.size a) = fun _ => 0 from funext fun a => by fin_cases a <;> decide)
    (fun a => by fin_cases a <;> decide) (V m c main_v19)).trans (rfl)
theorem in30 (c : Dev nD) : iblk m c 30 t₀ = shapeCast S1x768 (m ((c : Thread nD τ).loc main_arg30)) shapeCasts_S768_S1x768 :=
  (Memref.read_access_unit_zero (Elt F) main_v20 (show (fun a => (win0_30.index t₀) a * main_v20.ty.shape.size a) = fun _ => 0 from funext fun a => by fin_cases a <;> decide)
    (fun a => by fin_cases a <;> decide) (V m c main_v20)).trans (rfl)

/-! ### The result arrays after the run are the result blocks after the body -/

theorem final31 (c : Dev nD) : (dats m 0 c).arrAt 31 cfg0.N = (dats m 0 c).after 31 t₀ := by
  have e : ((cfg0.win 31).blk t₀).view.read (Elt F) ((dats (F := F) m 0 c).arrAt 31 cfg0.N) = (dats (F := F) m 0 c).flushed 31 t₀ := by
    rw [show cfg0.N = (t₀ : Fin cfg0.N).val + 1 from rfl, (dats (F := F) m 0 c).arrAt_succ 31 t₀]
    rw [show (cfg0.win 31).flush t₀ = true from by decide, if_pos rfl]
    exact View.read_write_univ _ _
  have hz : (fun a => (win0_31.index t₀) a * main_v21_0.ty.shape.size a) = fun _ => 0 := funext fun a => by fin_cases a <;> decide
  rw [fun f => Memref.read_access_unit_zero (Elt F) main_v21_0 hz (fun a => by fin_cases a <;> decide) f] at e
  exact e

theorem final32 (c : Dev nD) : (dats m 0 c).arrAt 32 cfg0.N = (dats m 0 c).after 32 t₀ := by
  have e : ((cfg0.win 32).blk t₀).view.read (Elt F) ((dats (F := F) m 0 c).arrAt 32 cfg0.N) = (dats (F := F) m 0 c).flushed 32 t₀ := by
    rw [show cfg0.N = (t₀ : Fin cfg0.N).val + 1 from rfl, (dats (F := F) m 0 c).arrAt_succ 32 t₀]
    rw [show (cfg0.win 32).flush t₀ = true from by decide, if_pos rfl]
    exact View.read_write_univ _ _
  have hz : (fun a => (win0_32.index t₀) a * main_v21_1.ty.shape.size a) = fun _ => 0 := funext fun a => by fin_cases a <;> decide
  rw [fun f => Memref.read_access_unit_zero (Elt F) main_v21_1 hz (fun a => by fin_cases a <;> decide) f] at e
  exact e

theorem final33 (c : Dev nD) : (dats m 0 c).arrAt 33 cfg0.N = (dats m 0 c).after 33 t₀ := by
  have e : ((cfg0.win 33).blk t₀).view.read (Elt F) ((dats (F := F) m 0 c).arrAt 33 cfg0.N) = (dats (F := F) m 0 c).flushed 33 t₀ := by
    rw [show cfg0.N = (t₀ : Fin cfg0.N).val + 1 from rfl, (dats (F := F) m 0 c).arrAt_succ 33 t₀]
    rw [show (cfg0.win 33).flush t₀ = true from by decide, if_pos rfl]
    exact View.read_write_univ _ _
  have hz : (fun a => (win0_33.index t₀) a * main_v21_2.ty.shape.size a) = fun _ => 0 := funext fun a => by fin_cases a <;> decide
  rw [fun f => Memref.read_access_unit_zero (Elt F) main_v21_2 hz (fun a => by fin_cases a <;> decide) f] at e
  exact e

theorem final34 (c : Dev nD) : (dats m 0 c).arrAt 34 cfg0.N = (dats m 0 c).after 34 t₀ := by
  have e : ((cfg0.win 34).blk t₀).view.read (Elt F) ((dats (F := F) m 0 c).arrAt 34 cfg0.N) = (dats (F := F) m 0 c).flushed 34 t₀ := by
    rw [show cfg0.N = (t₀ : Fin cfg0.N).val + 1 from rfl, (dats (F := F) m 0 c).arrAt_succ 34 t₀]
    rw [show (cfg0.win 34).flush t₀ = true from by decide, if_pos rfl]
    exact View.read_write_univ _ _
  have hz : (fun a => (win0_34.index t₀) a * main_v21_3.ty.shape.size a) = fun _ => 0 := funext fun a => by fin_cases a <;> decide
  rw [fun f => Memref.read_access_unit_zero (Elt F) main_v21_3 hz (fun a => by fin_cases a <;> decide) f] at e
  exact e

theorem final35 (c : Dev nD) : (dats m 0 c).arrAt 35 cfg0.N = (dats m 0 c).after 35 t₀ := by
  have e : ((cfg0.win 35).blk t₀).view.read (Elt F) ((dats (F := F) m 0 c).arrAt 35 cfg0.N) = (dats (F := F) m 0 c).flushed 35 t₀ := by
    rw [show cfg0.N = (t₀ : Fin cfg0.N).val + 1 from rfl, (dats (F := F) m 0 c).arrAt_succ 35 t₀]
    rw [show (cfg0.win 35).flush t₀ = true from by decide, if_pos rfl]
    exact View.read_write_univ _ _
  have hz : (fun a => (win0_35.index t₀) a * main_v21_4.ty.shape.size a) = fun _ => 0 := funext fun a => by fin_cases a <;> decide
  rw [fun f => Memref.read_access_unit_zero (Elt F) main_v21_4 hz (fun a => by fin_cases a <;> decide) f] at e
  exact e

section
variable (m : (ℓ : Loc nD τ sig) → Buf (Elt Ideal) ℓ)

/-- The arguments as launched. -/
def args (c : Dev nD) : Args := Args.mk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

set_option maxHeartbeats 2000000 in
theorem value31 (c : Dev nD) : (dats m 0 c).arrAt 31 cfg0.N = (args m c).out := by
  rw [final31, after0_31]
  rw [in0, in1, in2, in3, in4, in5, in6, in7, in8, in9, in10, in11, in12, in13, in14, in15, in16, in17, in18, in19, in20, in21, in22, in23, in24, in25, in26, in27, in28, in29, in30]
  exact Out.out31 (args m c)

set_option maxHeartbeats 2000000 in
theorem value32 (c : Dev nD) : (dats m 0 c).arrAt 32 cfg0.N = (args m c).h2c := by
  rw [final32, after0_32]
  rw [in0, in1, in2, in3, in4, in5, in6, in7, in8, in9, in10, in11, in12, in13, in14, in15, in16, in17, in18, in19, in20, in21, in22, in23, in24, in25, in26, in27, in28, in29, in30]
  exact Out.out32 (args m c)

set_option maxHeartbeats 2000000 in
theorem value33 (c : Dev nD) : (dats m 0 c).arrAt 33 cfg0.N = (args m c).h2s := by
  rw [final33, after0_33]
  rw [in0, in1, in2, in3, in4, in5, in6, in7, in8, in9, in10, in11, in12, in13, in14, in15, in16, in17, in18, in19, in20, in21, in22, in23, in24, in25, in26, in27, in28, in29, in30]
  exact Out.out33 (args m c)

set_option maxHeartbeats 2000000 in
theorem value34 (c : Dev nD) : (dats m 0 c).arrAt 34 cfg0.N = (args m c).gc := by
  rw [final34, after0_34]
  rw [in0, in1, in2, in3, in4, in5, in6, in7, in8, in9, in10, in11, in12, in13, in14, in15, in16, in17, in18, in19, in20, in21, in22, in23, in24, in25, in26, in27, in28, in29, in30]
  exact Out.out34 (args m c)

set_option maxHeartbeats 2000000 in
theorem value35 (c : Dev nD) : (dats m 0 c).arrAt 35 cfg0.N = (args m c).gs := by
  rw [final35, after0_35]
  rw [in0, in1, in2, in3, in4, in5, in6, in7, in8, in9, in10, in11, in12, in13, in14, in15, in16, in17, in18, in19, in20, in21, in22, in23, in24, in25, in26, in27, in28, in29, in30]
  exact Out.out35 (args m c)

end

end Cert.ReferenceIdeal.Value

end
-- ==== Proof.Ker.Cross.lean ====
/- The cross-attention of one image in the kernel, written once: eight heads of 96 lanes, of which the
   256 first image tokens go through the matrix unit in tiles of 256 lanes and the last token is
   scored by lane sums. Every image of a block runs these operations over its own rows. -/
module

public import proofs.«01_k».proof.Proof.Gen.KernelIdeal.Skeleton

@[expose] public section

set_option maxRecDepth 16384

noncomputable section

namespace Cert.KernelIdeal.Cross

open Cert.KernelIdeal Cert.KernelIdeal.Gen Idealize.ShloMosaic Idealize.SL.Sem

variable {F : FTy → Type} [FloatOps F]

/-- Which of the 256 lanes from lane `at'` on lie in `[lo, hi)`. -/
def mask256 (at' lo hi : BitVec 32) : IVec S1x256 1 :=
  andi (cmpi .sge (addi (iota .tc S1x256 32 [1] iota_S1x256_d1_w32) (broadcast S1x256 at')) (broadcast S1x256 lo))
    (cmpi .slt (addi (iota .tc S1x256 32 [1] iota_S1x256_d1_w32) (broadcast S1x256 at')) (broadcast S1x256 hi))

/-- Which of the 128 lanes from lane `at'` on lie in `[lo, hi)`. -/
def mask128 (at' lo hi : BitVec 32) : IVec S1x128 1 :=
  andi (cmpi .sge (addi (iota .tc S1x128 32 [1] iota_S1x128_d1_w32) (broadcast S1x128 at')) (broadcast S1x128 lo))
    (cmpi .slt (addi (iota .tc S1x128 32 [1] iota_S1x128_d1_w32) (broadcast S1x128 at')) (broadcast S1x128 hi))

/-- The query tile with the lanes outside a head set to zero. -/
def headLanes (q : FVec F S32x256 .bf16) (m : IVec S1x256 1) : FVec F S32x256 .bf16 :=
  select (broadcastTo S32x256 (shapeCast S1x256 m shapeCasts_S1x256_S1x256) broadcasts_S1x256_S32x256) q
    (broadcast S32x256 (Scalar.ofBits .bf16 0x0000#16))

/-- The scores of the three heads that meet lanes 0–255, stacked. -/
def tile0 (q : FVec F S32x768 .bf16) (k : FVec F S256x768 .bf16) : FVec F S96x256 .f32 :=
  have a : FVec F S32x256 .bf16 := extractStridedSlice S32x256 ![0, 0] q slices_S32x768_o0_0_S32x256
  matmul dot_S96x256_S256x256_S96x256_1_1_0_0_n_n none
    (concatenate S96x256 0 [⟨S32x256, headLanes a (mask256 0#32 0#32 96#32)⟩,
      ⟨S32x256, headLanes a (mask256 0#32 96#32 192#32)⟩, ⟨S32x256, headLanes a (mask256 0#32 192#32 288#32)⟩]
      concatenates_S32x256_S32x256_S32x256_S96x256_d0)
    (extractStridedSlice S256x256 ![0, 0] k slices_S256x768_o0_0_S256x256) (constant S96x256 .f32 0x00000000#32)

/-- The scores of the four heads that meet lanes 256–511, stacked. -/
def tile1 (q : FVec F S32x768 .bf16) (k : FVec F S256x768 .bf16) : FVec F S128x256 .f32 :=
  have a : FVec F S32x256 .bf16 := extractStridedSlice S32x256 ![0, 256] q slices_S32x768_o0_256_S32x256
  matmul dot_S128x256_S256x256_S128x256_1_1_0_0_n_n none
    (concatenate S128x256 0 [⟨S32x256, headLanes a (mask256 256#32 192#32 288#32)⟩,
      ⟨S32x256, headLanes a (mask256 256#32 288#32 384#32)⟩, ⟨S32x256, headLanes a (mask256 256#32 384#32 480#32)⟩,
      ⟨S32x256, headLanes a (mask256 256#32 480#32 576#32)⟩]
      concatenates_S32x256_S32x256_S32x256_S32x256_S128x256_d0)
    (extractStridedSlice S256x256 ![0, 256] k slices_S256x768_o0_256_S256x256) (constant S128x256 .f32 0x00000000#32)

/-- The scores of the three heads that meet lanes 512–767, stacked. -/
def tile2 (q : FVec F S32x768 .bf16) (k : FVec F S256x768 .bf16) : FVec F S96x256 .f32 :=
  have a : FVec F S32x256 .bf16 := extractStridedSlice S32x256 ![0, 512] q slices_S32x768_o0_512_S32x256
  matmul dot_S96x256_S256x256_S96x256_1_1_0_0_n_n none
    (concatenate S96x256 0 [⟨S32x256, headLanes a (mask256 512#32 480#32 576#32)⟩,
      ⟨S32x256, headLanes a (mask256 512#32 576#32 672#32)⟩, ⟨S32x256, headLanes a (mask256 512#32 672#32 768#32)⟩]
      concatenates_S32x256_S32x256_S32x256_S96x256_d0)
    (extractStridedSlice S256x256 ![0, 512] k slices_S256x768_o0_512_S256x256) (constant S96x256 .f32 0x00000000#32)

/-- The scores of each head against the 256 first tokens. -/
def score (q : FVec F S32x768 .bf16) (k : FVec F S256x768 .bf16) : Fin 8 → FVec F S32x256 .f32
  | 0 => extractStridedSlice S32x256 ![0, 0] (tile0 q k) slices_S96x256_o0_0_S32x256
  | 1 => extractStridedSlice S32x256 ![32, 0] (tile0 q k) slices_S96x256_o32_0_S32x256
  | 2 => addf (extractStridedSlice S32x256 ![64, 0] (tile0 q k) slices_S96x256_o64_0_S32x256)
      (extractStridedSlice S32x256 ![0, 0] (tile1 q k) slices_S128x256_o0_0_S32x256)
  | 3 => extractStridedSlice S32x256 ![32, 0] (tile1 q k) slices_S128x256_o32_0_S32x256
  | 4 => extractStridedSlice S32x256 ![64, 0] (tile1 q k) slices_S128x256_o64_0_S32x256
  | 5 => addf (extractStridedSlice S32x256 ![96, 0] (tile1 q k) slices_S128x256_o96_0_S32x256)
      (extractStridedSlice S32x256 ![0, 0] (tile2 q k) slices_S96x256_o0_0_S32x256)
  | 6 => extractStridedSlice S32x256 ![32, 0] (tile2 q k) slices_S96x256_o32_0_S32x256
  | 7 => extractStridedSlice S32x256 ![64, 0] (tile2 q k) slices_S96x256_o64_0_S32x256

/-- The products of the queries with the last token's keys. -/
def lastProd (q : FVec F S32x768 .bf16) (kl : FVec F S1x768 .f32) : FVec F S32x768 .f32 :=
  mulf (extf .f32 q bitsLt_bf16_f32) (broadcastTo S32x768 kl broadcasts_S1x768_S32x768)

/-- A head's lane sum over a 128-lane window of the products, scaled. -/
def lastSum128 (p : FVec F S32x128 .f32) (m : IVec S1x128 1) : FVec F S32x1 .f32 :=
  mulf (shapeCast S32x1 (multiReduction .add [1] S32
    (select (broadcastTo S32x128 (shapeCast S1x128 m shapeCasts_S1x128_S1x128) broadcasts_S1x128_S32x128) p
      (broadcast S32x128 (Scalar.ofBits .f32 0x00000000#32)))
    0x00000000#32 reduces_S32x128_S32 (.inl rfl) rfl) shapeCasts_S32_S32x1) (broadcast S32x1 (Scalar.ofBits .f32 0x3DD105EC#32))

/-- A head's lane sum over a 256-lane window of the products, scaled. -/
def lastSum256 (p : FVec F S32x256 .f32) (m : IVec S1x256 1) : FVec F S32x1 .f32 :=
  mulf (shapeCast S32x1 (multiReduction .add [1] S32
    (select (broadcastTo S32x256 (shapeCast S1x256 m shapeCasts_S1x256_S1x256) broadcasts_S1x256_S32x256) p
      (broadcast S32x256 (Scalar.ofBits .f32 0x00000000#32)))
    0x00000000#32 reduces_S32x256_S32 (.inl rfl) rfl) shapeCasts_S32_S32x1) (broadcast S32x1 (Scalar.ofBits .f32 0x3DD105EC#32))

/-- The score of each head against the last token. -/
def lastScore (q : FVec F S32x768 .bf16) (kl : FVec F S1x768 .f32) : Fin 8 → FVec F S32x1 .f32
  | 0 => lastSum128 (extractStridedSlice S32x128 ![0, 0] (lastProd q kl) slices_S32x768_o0_0_S32x128) (mask128 0#32 0#32 96#32)
  | 1 => lastSum256 (extractStridedSlice S32x256 ![0, 0] (lastProd q kl) slices_S32x768_o0_0_S32x256) (mask256 0#32 96#32 192#32)
  | 2 => lastSum256 (extractStridedSlice S32x256 ![0, 128] (lastProd q kl) slices_S32x768_o0_128_S32x256) (mask256 128#32 192#32 288#32)
  | 3 => lastSum128 (extractStridedSlice S32x128 ![0, 256] (lastProd q kl) slices_S32x768_o0_256_S32x128) (mask128 256#32 288#32 384#32)
  | 4 => lastSum128 (extractStridedSlice S32x128 ![0, 384] (lastProd q kl) slices_S32x768_o0_384_S32x128) (mask128 384#32 384#32 480#32)
  | 5 => lastSum256 (extractStridedSlice S32x256 ![0, 384] (lastProd q kl) slices_S32x768_o0_384_S32x256) (mask256 384#32 480#32 576#32)
  | 6 => lastSum256 (extractStridedSlice S32x256 ![0, 512] (lastProd q kl) slices_S32x768_o0_512_S32x256) (mask256 512#32 576#32 672#32)
  | 7 => lastSum128 (extractStridedSlice S32x128 ![0, 640] (lastProd q kl) slices_S32x768_o0_640_S32x128) (mask128 640#32 672#32 768#32)

/-- A head's scores, scaled. -/
def scaled (s : FVec F S32x256 .f32) : FVec F S32x256 .f32 :=
  mulf s (broadcast S32x256 (Scalar.ofBits .f32 0x3DD105EC#32))

/-- The largest of a row's scores, the last token's among them. -/
def top (s : FVec F S32x256 .f32) (sl : FVec F S32x1 .f32) : FVec F S32x1 .f32 :=
  maximumf (shapeCast S32x1 (multiReduction .maximumf [1] S32 (scaled s) 0xFF800000#32 reduces_S32x256_S32 (.inl rfl) rfl)
    shapeCasts_S32_S32x1) sl

/-- The exponentials of the scores of the 256 first tokens. -/
def expMain (s : FVec F S32x256 .f32) (sl : FVec F S32x1 .f32) : FVec F S32x256 .f32 :=
  exp (subf (scaled s) (broadcastTo S32x256 (top s sl) broadcasts_S32x1_S32x256))

/-- The exponential of the last token's score. -/
def expLast (s : FVec F S32x256 .f32) (sl : FVec F S32x1 .f32) : FVec F S32x1 .f32 := exp (subf sl (top s sl))

/-- One over the sum of a row's exponentials. -/
def inv (s : FVec F S32x256 .f32) (sl : FVec F S32x1 .f32) : FVec F S32x1 .f32 :=
  divf (broadcast S32x1 (Scalar.ofBits .f32 0x3F800000#32))
    (addf (shapeCast S32x1 (multiReduction .add [1] S32 (expMain s sl) 0x00000000#32 reduces_S32x256_S32 (.inl rfl) rfl)
      shapeCasts_S32_S32x1) (expLast s sl))

/-- The weights of the 256 first tokens. -/
def probMain (s : FVec F S32x256 .f32) (sl : FVec F S32x1 .f32) : FVec F S32x256 .bf16 :=
  truncf .bf16 (mulf (expMain s sl) (broadcastTo S32x256 (inv s sl) broadcasts_S32x1_S32x256)) bitsLt_bf16_f32

/-- The weight of the last token. -/
def probLast (s : FVec F S32x256 .f32) (sl : FVec F S32x1 .f32) : FVec F S32x1 .f32 :=
  extf .f32 (truncf .bf16 (mulf (expLast s sl) (inv s sl)) bitsLt_bf16_f32 : FVec F S32x1 .bf16) bitsLt_bf16_f32

/-- The weighted values of lanes 0–255 under heads 0, 1, 2, stacked. -/
def mix0 (p0 p1 p2 : FVec F S32x256 .bf16) (v : FVec F S256x768 .bf16) : FVec F S96x256 .f32 :=
  matmul dot_S96x256_S256x256_S96x256_1_0_0_1_n_n none
    (concatenate S96x256 0 [⟨S32x256, p0⟩, ⟨S32x256, p1⟩, ⟨S32x256, p2⟩] concatenates_S32x256_S32x256_S32x256_S96x256_d0)
    (extractStridedSlice S256x256 ![0, 0] v slices_S256x768_o0_0_S256x256) (constant S96x256 .f32 0x00000000#32)

/-- The weighted values of lanes 256–511 under heads 2, 3, 4, 5, stacked. -/
def mix1 (p0 p1 p2 p3 : FVec F S32x256 .bf16) (v : FVec F S256x768 .bf16) : FVec F S128x256 .f32 :=
  matmul dot_S128x256_S256x256_S128x256_1_0_0_1_n_n none
    (concatenate S128x256 0 [⟨S32x256, p0⟩, ⟨S32x256, p1⟩, ⟨S32x256, p2⟩, ⟨S32x256, p3⟩]
      concatenates_S32x256_S32x256_S32x256_S32x256_S128x256_d0)
    (extractStridedSlice S256x256 ![0, 256] v slices_S256x768_o0_256_S256x256) (constant S128x256 .f32 0x00000000#32)

/-- The weighted values of lanes 512–767 under heads 5, 6, 7, stacked. -/
def mix2 (p0 p1 p2 : FVec F S32x256 .bf16) (v : FVec F S256x768 .bf16) : FVec F S96x256 .f32 :=
  matmul dot_S96x256_S256x256_S96x256_1_0_0_1_n_n none
    (concatenate S96x256 0 [⟨S32x256, p0⟩, ⟨S32x256, p1⟩, ⟨S32x256, p2⟩] concatenates_S32x256_S32x256_S32x256_S96x256_d0)
    (extractStridedSlice S256x256 ![0, 512] v slices_S256x768_o0_512_S256x256) (constant S96x256 .f32 0x00000000#32)

/-- 128 lanes of the context: of the two heads that meet them, the one each lane belongs to. -/
def join (m : IVec S1x128 1) (a b : FVec F S32x128 .f32) (pa pb : FVec F S32x1 .f32) (vl : FVec F S1x128 .f32) : FVec F S32x128 .bf16 :=
  shapeCast S32x128 (truncf .bf16 (addf
    (select (broadcastTo S32x128 (shapeCast S1x128 m shapeCasts_S1x128_S1x128) broadcasts_S1x128_S32x128) a b)
    (mulf (select (broadcastTo S32x128 (shapeCast S1x128 m shapeCasts_S1x128_S1x128) broadcasts_S1x128_S32x128)
        (broadcastTo S32x128 (shapeCast S32x1 pa shapeCasts_S32x1_S32x1) broadcasts_S32x1_S32x128)
        (broadcastTo S32x128 (shapeCast S32x1 pb shapeCasts_S32x1_S32x1) broadcasts_S32x1_S32x128))
      (broadcastTo S32x128 vl broadcasts_S1x128_S32x128))) bitsLt_bf16_f32) shapeCasts_S32x128_S32x128

section
variable (q : FVec F S32x768 .bf16) (k v : FVec F S256x768 .bf16) (kl : FVec F S1x768 .f32)

/-- The weights of head `h`. -/
def pm (h : Fin 8) : FVec F S32x256 .bf16 := probMain (score q k h) (lastScore q kl h)
/-- The last token's weight of head `h`. -/
def pl (h : Fin 8) : FVec F S32x1 .f32 := probLast (score q k h) (lastScore q kl h)

/-- The context of one image, 128 lanes at a time. -/
def ctx (vl : FVec F S1x128 .f32) : Fin 6 → FVec F S32x128 .bf16
  | 0 => have w := mix0 (pm q k kl 0) (pm q k kl 1) (pm q k kl 2) v
      join (mask128 0#32 0#32 96#32) (extractStridedSlice S32x128 ![0, 0] w slices_S96x256_o0_0_S32x128)
        (extractStridedSlice S32x128 ![32, 0] w slices_S96x256_o32_0_S32x128) (pl q k kl 0) (pl q k kl 1) vl
  | 1 => have w := mix0 (pm q k kl 0) (pm q k kl 1) (pm q k kl 2) v
      join (mask128 128#32 96#32 192#32) (extractStridedSlice S32x128 ![32, 128] w slices_S96x256_o32_128_S32x128)
        (extractStridedSlice S32x128 ![64, 128] w slices_S96x256_o64_128_S32x128) (pl q k kl 1) (pl q k kl 2) vl
  | 2 => have w := mix1 (pm q k kl 2) (pm q k kl 3) (pm q k kl 4) (pm q k kl 5) v
      join (mask128 256#32 192#32 288#32) (extractStridedSlice S32x128 ![0, 0] w slices_S128x256_o0_0_S32x128)
        (extractStridedSlice S32x128 ![32, 0] w slices_S128x256_o32_0_S32x128) (pl q k kl 2) (pl q k kl 3) vl
  | 3 => have w := mix1 (pm q k kl 2) (pm q k kl 3) (pm q k kl 4) (pm q k kl 5) v
      join (mask128 384#32 384#32 480#32) (extractStridedSlice S32x128 ![64, 128] w slices_S128x256_o64_128_S32x128)
        (extractStridedSlice S32x128 ![96, 128] w slices_S128x256_o96_128_S32x128) (pl q k kl 4) (pl q k kl 5) vl
  | 4 => have w := mix2 (pm q k kl 5) (pm q k kl 6) (pm q k kl 7) v
      join (mask128 512#32 480#32 576#32) (extractStridedSlice S32x128 ![0, 0] w slices_S96x256_o0_0_S32x128)
        (extractStridedSlice S32x128 ![32, 0] w slices_S96x256_o32_0_S32x128) (pl q k kl 5) (pl q k kl 6) vl
  | 5 => have w := mix2 (pm q k kl 5) (pm q k kl 6) (pm q k kl 7) v
      join (mask128 640#32 576#32 672#32) (extractStridedSlice S32x128 ![32, 128] w slices_S96x256_o32_128_S32x128)
        (extractStridedSlice S32x128 ![64, 128] w slices_S96x256_o64_128_S32x128) (pl q k kl 6) (pl q k kl 7) vl

end

end Cert.KernelIdeal.Cross

end
-- ==== Proof.Ker.SelfAtt.lean ====
/- The self-attention of four images in the kernel, written once: 128 rows, a mask that keeps the pairs
   of one image, eight heads of 96 lanes taken through the matrix unit in tiles of 256 lanes, and the
   context 128 lanes at a time from the two heads that meet them. -/
module

public import proofs.«01_k».proof.Proof.Ker.Cross

@[expose] public section

set_option maxRecDepth 16384

noncomputable section

namespace Cert.KernelIdeal.SelfAtt

open Cert.KernelIdeal Cert.KernelIdeal.Gen Cert.KernelIdeal.Cross Idealize.ShloMosaic Idealize.SL.Sem

variable {F : FTy → Type} [FloatOps F]

/-- The query tile with the lanes outside a head set to zero. -/
def headRows (q : FVec F S128x256 .bf16) (m : IVec S1x256 1) : FVec F S128x256 .bf16 :=
  select (broadcastTo S128x256 (shapeCast S1x256 m shapeCasts_S1x256_S1x256) broadcasts_S1x256_S128x256) q
    (broadcast S128x256 (Scalar.ofBits .bf16 0x0000#16))

/-- The value tile with the lanes outside a head set to zero. -/
def headVals (v : FVec F S128x128 .bf16) (m : IVec S1x128 1) : FVec F S128x128 .bf16 :=
  select (broadcastTo S128x128 (shapeCast S1x128 m shapeCasts_S1x128_S1x128) broadcasts_S1x128_S128x128) v
    (broadcast S128x128 (Scalar.ofBits .bf16 0x0000#16))

/-- The scores of the heads that meet lanes 0–255, stacked. -/
def tile0 (a b : FVec F S128x256 .bf16) : FVec F S384x128 .f32 :=
  matmul dot_S384x256_S128x256_S384x128_1_1_0_0_n_n none
    (concatenate S384x256 0 [⟨S128x256, headRows a (mask256 0#32 0#32 96#32)⟩, ⟨S128x256, headRows a (mask256 0#32 96#32 192#32)⟩, ⟨S128x256, headRows a (mask256 0#32 192#32 288#32)⟩]
      concatenates_S128x256_S128x256_S128x256_S384x256_d0) b (constant S384x128 .f32 0x00000000#32)

/-- The scores of the heads that meet lanes 256–511, stacked. -/
def tile1 (a b : FVec F S128x256 .bf16) : FVec F S512x128 .f32 :=
  matmul dot_S512x256_S128x256_S512x128_1_1_0_0_n_n none
    (concatenate S512x256 0 [⟨S128x256, headRows a (mask256 256#32 192#32 288#32)⟩, ⟨S128x256, headRows a (mask256 256#32 288#32 384#32)⟩, ⟨S128x256, headRows a (mask256 256#32 384#32 480#32)⟩, ⟨S128x256, headRows a (mask256 256#32 480#32 576#32)⟩]
      concatenates_S128x256_S128x256_S128x256_S128x256_S512x256_d0) b (constant S512x128 .f32 0x00000000#32)

/-- The scores of the heads that meet lanes 512–767, stacked. -/
def tile2 (a b : FVec F S128x256 .bf16) : FVec F S384x128 .f32 :=
  matmul dot_S384x256_S128x256_S384x128_1_1_0_0_n_n none
    (concatenate S384x256 0 [⟨S128x256, headRows a (mask256 512#32 480#32 576#32)⟩, ⟨S128x256, headRows a (mask256 512#32 576#32 672#32)⟩, ⟨S128x256, headRows a (mask256 512#32 672#32 768#32)⟩]
      concatenates_S128x256_S128x256_S128x256_S384x256_d0) b (constant S384x128 .f32 0x00000000#32)

/-- The scores of each head. -/
def score (q k : Fin 3 → FVec F S128x256 .bf16) : Fin 8 → FVec F S128x128 .f32
  | 0 => extractStridedSlice S128x128 ![0, 0] (tile0 (q 0) (k 0)) slices_S384x128_o0_0_S128x128
  | 1 => extractStridedSlice S128x128 ![128, 0] (tile0 (q 0) (k 0)) slices_S384x128_o128_0_S128x128
  | 2 => addf (extractStridedSlice S128x128 ![256, 0] (tile0 (q 0) (k 0)) slices_S384x128_o256_0_S128x128) (extractStridedSlice S128x128 ![0, 0] (tile1 (q 1) (k 1)) slices_S512x128_o0_0_S128x128)
  | 3 => extractStridedSlice S128x128 ![128, 0] (tile1 (q 1) (k 1)) slices_S512x128_o128_0_S128x128
  | 4 => extractStridedSlice S128x128 ![256, 0] (tile1 (q 1) (k 1)) slices_S512x128_o256_0_S128x128
  | 5 => addf (extractStridedSlice S128x128 ![384, 0] (tile1 (q 1) (k 1)) slices_S512x128_o384_0_S128x128) (extractStridedSlice S128x128 ![0, 0] (tile2 (q 2) (k 2)) slices_S384x128_o0_0_S128x128)
  | 6 => extractStridedSlice S128x128 ![128, 0] (tile2 (q 2) (k 2)) slices_S384x128_o128_0_S128x128
  | 7 => extractStridedSlice S128x128 ![256, 0] (tile2 (q 2) (k 2)) slices_S384x128_o256_0_S128x128

/-- The scores scaled, with minus infinity off the image. -/
def masked (m : IVec S128x128 1) (s : FVec F S128x128 .f32) : FVec F S128x128 .f32 :=
  select m (mulf s (broadcast S128x128 (Scalar.ofBits .f32 0x3DD105EC#32))) (broadcast S128x128 (Scalar.ofBits .f32 0xFF800000#32))

/-- The exponentials of the scores. -/
def exps (s : FVec F S128x128 .f32) : FVec F S128x128 .f32 :=
  exp (subf s (broadcastTo S128x128 (shapeCast S128x1 (multiReduction .maximumf [1] S128 s 0xFF800000#32
    reduces_S128x128_S128 (.inl rfl) rfl) shapeCasts_S128_S128x1) broadcasts_S128x1_S128x128))

/-- The weights. -/
def prob (e : FVec F S128x128 .f32) : FVec F S128x128 .bf16 :=
  truncf .bf16 (divf e (broadcastTo S128x128 (shapeCast S128x1 (multiReduction .add [1] S128 e 0x00000000#32
    reduces_S128x128_S128 (.inl rfl) rfl) shapeCasts_S128_S128x1) broadcasts_S128x1_S128x128)) bitsLt_bf16_f32

/-- 128 lanes of the context, from the two heads that meet them. -/
def mix (pa pb : FVec F S128x128 .bf16) (v : FVec F S128x128 .bf16) (ma mb : IVec S1x128 1) : FVec F S128x128 .bf16 :=
  shapeCast S128x128 (truncf .bf16 (matmul dot_S128x256_S256x128_S128x128_1_0_0_1_n_n none
    (concatenate S128x256 1 [⟨S128x128, pa⟩, ⟨S128x128, pb⟩] concatenates_S128x128_S128x128_S128x256_d1)
    (concatenate S256x128 0 [⟨S128x128, headVals v ma⟩, ⟨S128x128, headVals v mb⟩] concatenates_S128x128_S128x128_S256x128_d0)
    (constant S128x128 .f32 0x00000000#32)) bitsLt_bf16_f32) shapeCasts_S128x128_S128x128

/-- The weights of head `h`. -/
def pm (m : IVec S128x128 1) (q k : Fin 3 → FVec F S128x256 .bf16) (h : Fin 8) : FVec F S128x128 .bf16 :=
  prob (exps (masked m (score q k h)))

/-- The context of four images, 128 lanes at a time. -/
def ctx (m : IVec S128x128 1) (q k : Fin 3 → FVec F S128x256 .bf16) (v : FVec F S128x128 .bf16) : Fin 6 → FVec F S128x128 .bf16
  | 0 => mix (pm m q k 0) (pm m q k 1) v (mask128 0#32 0#32 96#32) (mask128 0#32 96#32 192#32)
  | 1 => mix (pm m q k 1) (pm m q k 2) v (mask128 128#32 96#32 192#32) (mask128 128#32 192#32 288#32)
  | 2 => mix (pm m q k 2) (pm m q k 3) v (mask128 256#32 192#32 288#32) (mask128 256#32 288#32 384#32)
  | 3 => mix (pm m q k 4) (pm m q k 5) v (mask128 384#32 384#32 480#32) (mask128 384#32 480#32 576#32)
  | 4 => mix (pm m q k 5) (pm m q k 6) v (mask128 512#32 480#32 576#32) (mask128 512#32 576#32 672#32)
  | 5 => mix (pm m q k 6) (pm m q k 7) v (mask128 640#32 576#32 672#32) (mask128 640#32 672#32 768#32)

end Cert.KernelIdeal.SelfAtt

end
-- ==== Proof.Ker.Cells.lean ====
/- What one grid point of the kernel computes, named: the values that the rest of its body reads. -/
module

public import proofs.«01_k».proof.Proof.Ideal.Frame
public import proofs.«01_k».proof.Proof.Ker.SelfAtt

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)

/-- What one grid point runs on: its coordinates, its buffers and the blocks of the inputs. -/
structure Blk (F : FTy → Type) [FloatOps F] where
  c : Dev nD
  i : grid0.Coords
  arg1 : Memref sig .tc .vmem S256x768 .bf16
  harg1 : arg1.IsWhole
  arg2 : Memref sig .tc .vmem S8x257x1408 .fp8e4m3
  harg2 : arg2.IsWhole
  arg3 : Memref sig .tc .vmem S8x257 .f32
  harg3 : arg3.IsWhole
  arg4 : Memref sig .tc .vmem S768x768 .bf16
  harg4 : arg4.IsWhole
  arg5 : Memref sig .tc .vmem S768x768 .bf16
  harg5 : arg5.IsWhole
  arg6 : Memref sig .tc .vmem S768x768 .bf16
  harg6 : arg6.IsWhole
  arg7 : Memref sig .tc .vmem S768x768 .bf16
  harg7 : arg7.IsWhole
  arg8 : Memref sig .tc .vmem S1x768 .f32
  harg8 : arg8.IsWhole
  arg9 : Memref sig .tc .vmem S1x768 .f32
  harg9 : arg9.IsWhole
  arg10 : Memref sig .tc .vmem S1x768 .f32
  harg10 : arg10.IsWhole
  arg11 : Memref sig .tc .vmem S1x768 .f32
  harg11 : arg11.IsWhole
  arg12 : Memref sig .tc .vmem S1x768 .f32
  harg12 : arg12.IsWhole
  arg13 : Memref sig .tc .vmem S768x768 .bf16
  harg13 : arg13.IsWhole
  arg14 : Memref sig .tc .vmem S768x768 .bf16
  harg14 : arg14.IsWhole
  arg15 : Memref sig .tc .vmem S1x768 .f32
  harg15 : arg15.IsWhole
  arg16 : Memref sig .tc .vmem S1x768 .f32
  harg16 : arg16.IsWhole
  arg17 : Memref sig .tc .vmem S1408x768 .fp8e4m3
  harg17 : arg17.IsWhole
  arg18 : Memref sig .tc .vmem S1408x768 .fp8e4m3
  harg18 : arg18.IsWhole
  arg19 : Memref sig .tc .vmem S1x768 .f32
  harg19 : arg19.IsWhole
  arg20 : Memref sig .tc .vmem S1x768 .f32
  harg20 : arg20.IsWhole
  arg21 : Memref sig .tc .vmem S1x768 .f32
  harg21 : arg21.IsWhole
  arg22 : Memref sig .tc .vmem S1x768 .f32
  harg22 : arg22.IsWhole
  arg23 : Memref sig .tc .vmem S1x768 .f32
  harg23 : arg23.IsWhole
  arg24 : Memref sig .tc .vmem S768x3072 .fp8e4m3
  harg24 : arg24.IsWhole
  arg25 : Memref sig .tc .vmem S1x3072 .f32
  harg25 : arg25.IsWhole
  arg26 : Memref sig .tc .vmem S1x3072 .f32
  harg26 : arg26.IsWhole
  arg27 : Memref sig .tc .vmem S3072x768 .fp8e4m3
  harg27 : arg27.IsWhole
  arg28 : Memref sig .tc .vmem S1x768 .f32
  harg28 : arg28.IsWhole
  arg29 : Memref sig .tc .vmem S1x768 .f32
  harg29 : arg29.IsWhole
  arg30 : Memref sig .tc .vmem S1x768 .f32
  harg30 : arg30.IsWhole
  arg31 : Memref sig .tc .vmem S1x768 .f32
  harg31 : arg31.IsWhole
  arg32 : Memref sig .tc .vmem S256x768 .bf16
  harg32 : arg32.IsWhole
  arg33 : Memref sig .tc .vmem S256x768 .fp8e4m3
  harg33 : arg33.IsWhole
  arg34 : Memref sig .tc .vmem S8x32 .f32
  harg34 : arg34.IsWhole
  arg35 : Memref sig .tc .vmem S256x3072 .fp8e4m3
  harg35 : arg35.IsWhole
  arg36 : Memref sig .tc .vmem S8x32 .f32
  harg36 : arg36.IsWhole
  arg37 : Memref sig .tc .vmem S256x768 .bf16
  harg37 : arg37.IsWhole
  arg38 : Memref sig .tc .vmem S256x3072 .f32
  harg38 : arg38.IsWhole
  x0 : Vec F S256x768 .bf16
  x1 : Vec F S8x257x1408 .fp8e4m3
  x2 : Vec F S8x257 .f32
  x3 : Vec F S768x768 .bf16
  x4 : Vec F S768x768 .bf16
  x5 : Vec F S768x768 .bf16
  x6 : Vec F S768x768 .bf16
  x7 : Vec F S1x768 .f32
  x8 : Vec F S1x768 .f32
  x9 : Vec F S1x768 .f32
  x10 : Vec F S1x768 .f32
  x11 : Vec F S1x768 .f32
  x12 : Vec F S768x768 .bf16
  x13 : Vec F S768x768 .bf16
  x14 : Vec F S1x768 .f32
  x15 : Vec F S1x768 .f32
  x16 : Vec F S1408x768 .fp8e4m3
  x17 : Vec F S1408x768 .fp8e4m3
  x18 : Vec F S1x768 .f32
  x19 : Vec F S1x768 .f32
  x20 : Vec F S1x768 .f32
  x21 : Vec F S1x768 .f32
  x22 : Vec F S1x768 .f32
  x23 : Vec F S768x3072 .fp8e4m3
  x24 : Vec F S1x3072 .f32
  x25 : Vec F S1x3072 .f32
  x26 : Vec F S3072x768 .fp8e4m3
  x27 : Vec F S1x768 .f32
  x28 : Vec F S1x768 .f32
  x29 : Vec F S1x768 .f32
  x30 : Vec F S1x768 .f32

variable {F : FTy → Type} [FloatOps F]

/-- The queries of the self-attention. -/
def Blk.r1 (s : Blk F) : FVec F S256x768 .bf16 := kernelRun0_A.sl.r_1 s.c s.arg1 s.harg1 s.arg4 s.harg4 s.arg8 s.harg8 s.x0 s.x3 s.x7

/-- The keys of the self-attention. -/
def Blk.r2 (s : Blk F) : FVec F S256x768 .bf16 := kernelRun0_A.sl.r_2 s.c s.arg1 s.harg1 s.arg5 s.harg5 s.x0 s.x4

/-- The values of the self-attention. -/
def Blk.r3 (s : Blk F) : FVec F S256x768 .bf16 := kernelRun0_A.sl.r_3 s.c s.arg1 s.harg1 s.arg6 s.harg6 s.arg9 s.harg9 s.x0 s.x5 s.x8

/-- The rows after the first layer norm. -/
def Blk.r75 (s : Blk F) : FVec F S256x768 .f32 := kernelRun0_A.sl.r_75 s.c s.arg1 s.harg1 s.arg4 s.harg4 s.arg5 s.harg5 s.arg6 s.harg6 s.arg7 s.harg7 s.arg8 s.harg8 s.arg9 s.harg9 s.arg10 s.harg10 s.arg11 s.harg11 s.arg12 s.harg12 s.arg37 s.x0 s.x3 s.x4 s.x5 s.x6 s.x7 s.x8 s.x9 s.x10 s.x11

/-- The queries of the cross-attention. -/
def Blk.r76 (s : Blk F) : FVec F S256x768 .bf16 := kernelRun0_A.sl.r_76 s.c s.arg1 s.harg1 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg15 s.harg15 s.arg37 s.x0 s.x3 s.x4 s.x5 s.x6 s.x7 s.x8 s.x9 s.x10 s.x11 s.x12 s.x14

/-- The token scales, a column for each image. -/
def Blk.r77 (s : Blk F) : FVec F S256x8 .f32 := kernelRun0_A.sl.r_77 s.c s.arg3 s.harg3 s.x2

/-- The last tokens' keys, a row for each image. -/
def Blk.r85 (s : Blk F) : FVec F S8x768 .f32 := kernelRun0_A.sl.r_85 s.c s.arg2 s.harg2 s.arg3 s.harg3 s.arg17 s.harg17 s.arg19 s.harg19 s.x1 s.x2 s.x16 s.x18

/-- The last tokens' values, a row for each image. -/
def Blk.r86 (s : Blk F) : FVec F S8x768 .f32 := kernelRun0_A.sl.r_86 s.c s.arg2 s.harg2 s.arg3 s.harg3 s.arg18 s.harg18 s.arg20 s.harg20 s.arg21 s.harg21 s.x1 s.x2 s.x17 s.x19 s.x20

/-- The keys of the first 256 tokens of image 0. -/
def Blk.r87 (s : Blk F) : FVec F S256x768 .bf16 := kernelRun0_A.sl.r_87 s.c s.arg2 s.harg2 s.arg3 s.harg3 s.arg17 s.harg17 s.arg19 s.harg19 s.x1 s.x2 s.x16 s.x18

/-- The values of the first 256 tokens of image 0. -/
def Blk.r88 (s : Blk F) : FVec F S256x768 .bf16 := kernelRun0_A.sl.r_88 s.c s.arg2 s.harg2 s.arg3 s.harg3 s.arg18 s.harg18 s.arg20 s.harg20 s.arg21 s.harg21 s.x1 s.x2 s.x17 s.x19 s.x20

/-- The keys of the first 256 tokens of image 1. -/
def Blk.r135 (s : Blk F) : FVec F S256x768 .bf16 := kernelRun0_A.sl.r_135 s.c s.arg2 s.harg2 s.arg3 s.harg3 s.arg17 s.harg17 s.arg19 s.harg19 s.x1 s.x2 s.x16 s.x18

/-- The values of the first 256 tokens of image 1. -/
def Blk.r136 (s : Blk F) : FVec F S256x768 .bf16 := kernelRun0_A.sl.r_136 s.c s.arg2 s.harg2 s.arg3 s.harg3 s.arg18 s.harg18 s.arg20 s.harg20 s.arg21 s.harg21 s.x1 s.x2 s.x17 s.x19 s.x20

/-- The keys of the first 256 tokens of image 2. -/
def Blk.r187 (s : Blk F) : FVec F S256x768 .bf16 := kernelRun0_A.sl.r_187 s.c s.arg2 s.harg2 s.arg3 s.harg3 s.arg17 s.harg17 s.arg19 s.harg19 s.x1 s.x2 s.x16 s.x18

/-- The values of the first 256 tokens of image 2. -/
def Blk.r188 (s : Blk F) : FVec F S256x768 .bf16 := kernelRun0_A.sl.r_188 s.c s.arg2 s.harg2 s.arg3 s.harg3 s.arg18 s.harg18 s.arg20 s.harg20 s.arg21 s.harg21 s.x1 s.x2 s.x17 s.x19 s.x20

/-- The keys of the first 256 tokens of image 3. -/
def Blk.r249 (s : Blk F) : FVec F S256x768 .bf16 := kernelRun0_A.sl.r_249 s.c s.arg2 s.harg2 s.arg3 s.harg3 s.arg17 s.harg17 s.arg19 s.harg19 s.x1 s.x2 s.x16 s.x18

/-- The values of the first 256 tokens of image 3. -/
def Blk.r250 (s : Blk F) : FVec F S256x768 .bf16 := kernelRun0_A.sl.r_250 s.c s.arg2 s.harg2 s.arg3 s.harg3 s.arg18 s.harg18 s.arg20 s.harg20 s.arg21 s.harg21 s.x1 s.x2 s.x17 s.x19 s.x20

/-- The keys of the first 256 tokens of image 4. -/
def Blk.r306 (s : Blk F) : FVec F S256x768 .bf16 := kernelRun0_A.sl.r_306 s.c s.arg2 s.harg2 s.arg3 s.harg3 s.arg17 s.harg17 s.arg19 s.harg19 s.x1 s.x2 s.x16 s.x18

/-- The values of the first 256 tokens of image 4. -/
def Blk.r308 (s : Blk F) : FVec F S256x768 .bf16 := kernelRun0_A.sl.r_308 s.c s.arg2 s.harg2 s.arg3 s.harg3 s.arg18 s.harg18 s.arg20 s.harg20 s.arg21 s.harg21 s.x1 s.x2 s.x17 s.x19 s.x20

/-- The keys of the first 256 tokens of image 5. -/
def Blk.r359 (s : Blk F) : FVec F S256x768 .bf16 := kernelRun0_A.sl.r_359 s.c s.arg2 s.harg2 s.arg3 s.harg3 s.arg17 s.harg17 s.arg19 s.harg19 s.x1 s.x2 s.x16 s.x18

/-- The values of the first 256 tokens of image 5. -/
def Blk.r361 (s : Blk F) : FVec F S256x768 .bf16 := kernelRun0_A.sl.r_361 s.c s.arg2 s.harg2 s.arg3 s.harg3 s.arg18 s.harg18 s.arg20 s.harg20 s.arg21 s.harg21 s.x1 s.x2 s.x17 s.x19 s.x20

/-- The keys of the first 256 tokens of image 6. -/
def Blk.r414 (s : Blk F) : FVec F S256x768 .bf16 := kernelRun0_A.sl.r_414 s.c s.arg2 s.harg2 s.arg3 s.harg3 s.arg17 s.harg17 s.arg19 s.harg19 s.x1 s.x2 s.x16 s.x18

/-- The values of the first 256 tokens of image 6. -/
def Blk.r415 (s : Blk F) : FVec F S256x768 .bf16 := kernelRun0_A.sl.r_415 s.c s.arg2 s.harg2 s.arg3 s.harg3 s.arg18 s.harg18 s.arg20 s.harg20 s.arg21 s.harg21 s.x1 s.x2 s.x17 s.x19 s.x20

/-- The keys of the first 256 tokens of image 7. -/
def Blk.r464 (s : Blk F) : FVec F S256x768 .bf16 := kernelRun0_A.sl.r_464 s.c s.arg2 s.harg2 s.arg3 s.harg3 s.arg17 s.harg17 s.arg19 s.harg19 s.x1 s.x2 s.x16 s.x18

/-- The values of the first 256 tokens of image 7. -/
def Blk.r465 (s : Blk F) : FVec F S256x768 .bf16 := kernelRun0_A.sl.r_465 s.c s.arg2 s.harg2 s.arg3 s.harg3 s.arg18 s.harg18 s.arg20 s.harg20 s.arg21 s.harg21 s.x1 s.x2 s.x17 s.x19 s.x20

/-- The self-attention context, piece by piece. -/
def Blk.HS012 (s : Blk F) : List (View.Piece (Elt F) S256x768 .bf16) := kernelRun0_A.sl.HS0_12 s.c s.arg1 s.harg1 s.arg4 s.harg4 s.arg5 s.harg5 s.arg6 s.harg6 s.arg8 s.harg8 s.arg9 s.harg9 s.x0 s.x3 s.x4 s.x5 s.x7 s.x8

/-- The context with the first eight pieces of the cross-attention. -/
def Blk.HS020 (s : Blk F) : List (View.Piece (Elt F) S256x768 .bf16) := kernelRun0_A.sl.HS0_20 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg15 s.harg15 s.arg17 s.harg17 s.arg18 s.harg18 s.arg19 s.harg19 s.arg20 s.harg20 s.arg21 s.harg21 s.arg37 s.x0 s.x1 s.x2 s.x3 s.x4 s.x5 s.x6 s.x7 s.x8 s.x9 s.x10 s.x11 s.x12 s.x14 s.x16 s.x17 s.x18 s.x19 s.x20

/-- The context with 42 pieces of the cross-attention. -/
def Blk.HS054 (s : Blk F) : List (View.Piece (Elt F) S256x768 .bf16) := kernelRun0_A.sl.HS0_54 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg15 s.harg15 s.arg17 s.harg17 s.arg18 s.harg18 s.arg19 s.harg19 s.arg20 s.harg20 s.arg21 s.harg21 s.arg37 s.x0 s.x1 s.x2 s.x3 s.x4 s.x5 s.x6 s.x7 s.x8 s.x9 s.x10 s.x11 s.x12 s.x14 s.x16 s.x17 s.x18 s.x19 s.x20

/-- The cross-attention context, piece by piece. -/
def Blk.HS060 (s : Blk F) : List (View.Piece (Elt F) S256x768 .bf16) := kernelRun0_A.sl.HS0_60 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg15 s.harg15 s.arg17 s.harg17 s.arg18 s.harg18 s.arg19 s.harg19 s.arg20 s.harg20 s.arg21 s.harg21 s.arg37 s.x0 s.x1 s.x2 s.x3 s.x4 s.x5 s.x6 s.x7 s.x8 s.x9 s.x10 s.x11 s.x12 s.x14 s.x16 s.x17 s.x18 s.x19 s.x20

/-- Each image's queries. -/
def Blk.q (s : Blk F) : Fin 8 → FVec F S32x768 .bf16
  | 0 => extractStridedSlice S32x768 ![0, 0] s.r76 slices_S256x768_o0_0_S32x768
  | 1 => extractStridedSlice S32x768 ![32, 0] s.r76 slices_S256x768_o32_0_S32x768
  | 2 => extractStridedSlice S32x768 ![64, 0] s.r76 slices_S256x768_o64_0_S32x768
  | 3 => extractStridedSlice S32x768 ![96, 0] s.r76 slices_S256x768_o96_0_S32x768
  | 4 => extractStridedSlice S32x768 ![128, 0] s.r76 slices_S256x768_o128_0_S32x768
  | 5 => extractStridedSlice S32x768 ![160, 0] s.r76 slices_S256x768_o160_0_S32x768
  | 6 => extractStridedSlice S32x768 ![192, 0] s.r76 slices_S256x768_o192_0_S32x768
  | 7 => extractStridedSlice S32x768 ![224, 0] s.r76 slices_S256x768_o224_0_S32x768

/-- Each image's keys. -/
def Blk.k (s : Blk F) : Fin 8 → FVec F S256x768 .bf16
  | 0 => s.r87
  | 1 => s.r135
  | 2 => s.r187
  | 3 => s.r249
  | 4 => s.r306
  | 5 => s.r359
  | 6 => s.r414
  | 7 => s.r464

/-- Each image's values. -/
def Blk.v (s : Blk F) : Fin 8 → FVec F S256x768 .bf16
  | 0 => s.r88
  | 1 => s.r136
  | 2 => s.r188
  | 3 => s.r250
  | 4 => s.r308
  | 5 => s.r361
  | 6 => s.r415
  | 7 => s.r465

/-- Each image's last keys. -/
def Blk.kl (s : Blk F) : Fin 8 → FVec F S1x768 .f32
  | 0 => extractStridedSlice S1x768 ![0, 0] s.r85 slices_S8x768_o0_0_S1x768
  | 1 => extractStridedSlice S1x768 ![1, 0] s.r85 slices_S8x768_o1_0_S1x768
  | 2 => extractStridedSlice S1x768 ![2, 0] s.r85 slices_S8x768_o2_0_S1x768
  | 3 => extractStridedSlice S1x768 ![3, 0] s.r85 slices_S8x768_o3_0_S1x768
  | 4 => extractStridedSlice S1x768 ![4, 0] s.r85 slices_S8x768_o4_0_S1x768
  | 5 => extractStridedSlice S1x768 ![5, 0] s.r85 slices_S8x768_o5_0_S1x768
  | 6 => extractStridedSlice S1x768 ![6, 0] s.r85 slices_S8x768_o6_0_S1x768
  | 7 => extractStridedSlice S1x768 ![7, 0] s.r85 slices_S8x768_o7_0_S1x768

/-- Each image's last values, 128 lanes at a time. -/
def Blk.vl (s : Blk F) : Fin 8 → Fin 6 → FVec F S1x128 .f32
  | 0, 0 => extractStridedSlice S1x128 ![0, 0] s.r86 slices_S8x768_o0_0_S1x128
  | 0, 1 => extractStridedSlice S1x128 ![0, 128] s.r86 slices_S8x768_o0_128_S1x128
  | 0, 2 => extractStridedSlice S1x128 ![0, 256] s.r86 slices_S8x768_o0_256_S1x128
  | 0, 3 => extractStridedSlice S1x128 ![0, 384] s.r86 slices_S8x768_o0_384_S1x128
  | 0, 4 => extractStridedSlice S1x128 ![0, 512] s.r86 slices_S8x768_o0_512_S1x128
  | 0, 5 => extractStridedSlice S1x128 ![0, 640] s.r86 slices_S8x768_o0_640_S1x128
  | 1, 0 => extractStridedSlice S1x128 ![1, 0] s.r86 slices_S8x768_o1_0_S1x128
  | 1, 1 => extractStridedSlice S1x128 ![1, 128] s.r86 slices_S8x768_o1_128_S1x128
  | 1, 2 => extractStridedSlice S1x128 ![1, 256] s.r86 slices_S8x768_o1_256_S1x128
  | 1, 3 => extractStridedSlice S1x128 ![1, 384] s.r86 slices_S8x768_o1_384_S1x128
  | 1, 4 => extractStridedSlice S1x128 ![1, 512] s.r86 slices_S8x768_o1_512_S1x128
  | 1, 5 => extractStridedSlice S1x128 ![1, 640] s.r86 slices_S8x768_o1_640_S1x128
  | 2, 0 => extractStridedSlice S1x128 ![2, 0] s.r86 slices_S8x768_o2_0_S1x128
  | 2, 1 => extractStridedSlice S1x128 ![2, 128] s.r86 slices_S8x768_o2_128_S1x128
  | 2, 2 => extractStridedSlice S1x128 ![2, 256] s.r86 slices_S8x768_o2_256_S1x128
  | 2, 3 => extractStridedSlice S1x128 ![2, 384] s.r86 slices_S8x768_o2_384_S1x128
  | 2, 4 => extractStridedSlice S1x128 ![2, 512] s.r86 slices_S8x768_o2_512_S1x128
  | 2, 5 => extractStridedSlice S1x128 ![2, 640] s.r86 slices_S8x768_o2_640_S1x128
  | 3, 0 => extractStridedSlice S1x128 ![3, 0] s.r86 slices_S8x768_o3_0_S1x128
  | 3, 1 => extractStridedSlice S1x128 ![3, 128] s.r86 slices_S8x768_o3_128_S1x128
  | 3, 2 => extractStridedSlice S1x128 ![3, 256] s.r86 slices_S8x768_o3_256_S1x128
  | 3, 3 => extractStridedSlice S1x128 ![3, 384] s.r86 slices_S8x768_o3_384_S1x128
  | 3, 4 => extractStridedSlice S1x128 ![3, 512] s.r86 slices_S8x768_o3_512_S1x128
  | 3, 5 => extractStridedSlice S1x128 ![3, 640] s.r86 slices_S8x768_o3_640_S1x128
  | 4, 0 => extractStridedSlice S1x128 ![4, 0] s.r86 slices_S8x768_o4_0_S1x128
  | 4, 1 => extractStridedSlice S1x128 ![4, 128] s.r86 slices_S8x768_o4_128_S1x128
  | 4, 2 => extractStridedSlice S1x128 ![4, 256] s.r86 slices_S8x768_o4_256_S1x128
  | 4, 3 => extractStridedSlice S1x128 ![4, 384] s.r86 slices_S8x768_o4_384_S1x128
  | 4, 4 => extractStridedSlice S1x128 ![4, 512] s.r86 slices_S8x768_o4_512_S1x128
  | 4, 5 => extractStridedSlice S1x128 ![4, 640] s.r86 slices_S8x768_o4_640_S1x128
  | 5, 0 => extractStridedSlice S1x128 ![5, 0] s.r86 slices_S8x768_o5_0_S1x128
  | 5, 1 => extractStridedSlice S1x128 ![5, 128] s.r86 slices_S8x768_o5_128_S1x128
  | 5, 2 => extractStridedSlice S1x128 ![5, 256] s.r86 slices_S8x768_o5_256_S1x128
  | 5, 3 => extractStridedSlice S1x128 ![5, 384] s.r86 slices_S8x768_o5_384_S1x128
  | 5, 4 => extractStridedSlice S1x128 ![5, 512] s.r86 slices_S8x768_o5_512_S1x128
  | 5, 5 => extractStridedSlice S1x128 ![5, 640] s.r86 slices_S8x768_o5_640_S1x128
  | 6, 0 => extractStridedSlice S1x128 ![6, 0] s.r86 slices_S8x768_o6_0_S1x128
  | 6, 1 => extractStridedSlice S1x128 ![6, 128] s.r86 slices_S8x768_o6_128_S1x128
  | 6, 2 => extractStridedSlice S1x128 ![6, 256] s.r86 slices_S8x768_o6_256_S1x128
  | 6, 3 => extractStridedSlice S1x128 ![6, 384] s.r86 slices_S8x768_o6_384_S1x128
  | 6, 4 => extractStridedSlice S1x128 ![6, 512] s.r86 slices_S8x768_o6_512_S1x128
  | 6, 5 => extractStridedSlice S1x128 ![6, 640] s.r86 slices_S8x768_o6_640_S1x128
  | 7, 0 => extractStridedSlice S1x128 ![7, 0] s.r86 slices_S8x768_o7_0_S1x128
  | 7, 1 => extractStridedSlice S1x128 ![7, 128] s.r86 slices_S8x768_o7_128_S1x128
  | 7, 2 => extractStridedSlice S1x128 ![7, 256] s.r86 slices_S8x768_o7_256_S1x128
  | 7, 3 => extractStridedSlice S1x128 ![7, 384] s.r86 slices_S8x768_o7_384_S1x128
  | 7, 4 => extractStridedSlice S1x128 ![7, 512] s.r86 slices_S8x768_o7_512_S1x128
  | 7, 5 => extractStridedSlice S1x128 ![7, 640] s.r86 slices_S8x768_o7_640_S1x128

/-- The self-attention queries of four images, 256 lanes at a time. -/
def Blk.hq (s : Blk F) : Fin 2 → Fin 3 → FVec F S128x256 .bf16
  | 0, 0 => extractStridedSlice S128x256 ![0, 0] s.r1 slices_S256x768_o0_0_S128x256
  | 0, 1 => extractStridedSlice S128x256 ![0, 256] s.r1 slices_S256x768_o0_256_S128x256
  | 0, 2 => extractStridedSlice S128x256 ![0, 512] s.r1 slices_S256x768_o0_512_S128x256
  | 1, 0 => extractStridedSlice S128x256 ![128, 0] s.r1 slices_S256x768_o128_0_S128x256
  | 1, 1 => extractStridedSlice S128x256 ![128, 256] s.r1 slices_S256x768_o128_256_S128x256
  | 1, 2 => extractStridedSlice S128x256 ![128, 512] s.r1 slices_S256x768_o128_512_S128x256

/-- The self-attention keys of four images, 256 lanes at a time. -/
def Blk.hk (s : Blk F) : Fin 2 → Fin 3 → FVec F S128x256 .bf16
  | 0, 0 => extractStridedSlice S128x256 ![0, 0] s.r2 slices_S256x768_o0_0_S128x256
  | 0, 1 => extractStridedSlice S128x256 ![0, 256] s.r2 slices_S256x768_o0_256_S128x256
  | 0, 2 => extractStridedSlice S128x256 ![0, 512] s.r2 slices_S256x768_o0_512_S128x256
  | 1, 0 => extractStridedSlice S128x256 ![128, 0] s.r2 slices_S256x768_o128_0_S128x256
  | 1, 1 => extractStridedSlice S128x256 ![128, 256] s.r2 slices_S256x768_o128_256_S128x256
  | 1, 2 => extractStridedSlice S128x256 ![128, 512] s.r2 slices_S256x768_o128_512_S128x256

/-- The self-attention values of four images, 128 lanes at a time. -/
def Blk.hv (s : Blk F) : Fin 2 → Fin 6 → FVec F S128x128 .bf16
  | 0, 0 => extractStridedSlice S128x128 ![0, 0] s.r3 slices_S256x768_o0_0_S128x128
  | 0, 1 => extractStridedSlice S128x128 ![0, 128] s.r3 slices_S256x768_o0_128_S128x128
  | 0, 2 => extractStridedSlice S128x128 ![0, 256] s.r3 slices_S256x768_o0_256_S128x128
  | 0, 3 => extractStridedSlice S128x128 ![0, 384] s.r3 slices_S256x768_o0_384_S128x128
  | 0, 4 => extractStridedSlice S128x128 ![0, 512] s.r3 slices_S256x768_o0_512_S128x128
  | 0, 5 => extractStridedSlice S128x128 ![0, 640] s.r3 slices_S256x768_o0_640_S128x128
  | 1, 0 => extractStridedSlice S128x128 ![128, 0] s.r3 slices_S256x768_o128_0_S128x128
  | 1, 1 => extractStridedSlice S128x128 ![128, 128] s.r3 slices_S256x768_o128_128_S128x128
  | 1, 2 => extractStridedSlice S128x128 ![128, 256] s.r3 slices_S256x768_o128_256_S128x128
  | 1, 3 => extractStridedSlice S128x128 ![128, 384] s.r3 slices_S256x768_o128_384_S128x128
  | 1, 4 => extractStridedSlice S128x128 ![128, 512] s.r3 slices_S256x768_o128_512_S128x128
  | 1, 5 => extractStridedSlice S128x128 ![128, 640] s.r3 slices_S256x768_o128_640_S128x128

set_option maxHeartbeats 2000000 in
theorem pieces12 (s : Blk F) : s.HS012 = [⟨Rect.unit ![128, 640] ![128, 128] (by decide), SelfAtt.ctx kernelRun0_A.sl.r_4 (s.hq 1) (s.hk 1) (s.hv 1 5) 5⟩,
    ⟨Rect.unit ![128, 512] ![128, 128] (by decide), SelfAtt.ctx kernelRun0_A.sl.r_4 (s.hq 1) (s.hk 1) (s.hv 1 4) 4⟩,
    ⟨Rect.unit ![128, 384] ![128, 128] (by decide), SelfAtt.ctx kernelRun0_A.sl.r_4 (s.hq 1) (s.hk 1) (s.hv 1 3) 3⟩,
    ⟨Rect.unit ![128, 256] ![128, 128] (by decide), SelfAtt.ctx kernelRun0_A.sl.r_4 (s.hq 1) (s.hk 1) (s.hv 1 2) 2⟩,
    ⟨Rect.unit ![128, 128] ![128, 128] (by decide), SelfAtt.ctx kernelRun0_A.sl.r_4 (s.hq 1) (s.hk 1) (s.hv 1 1) 1⟩,
    ⟨Rect.unit ![128, 0] ![128, 128] (by decide), SelfAtt.ctx kernelRun0_A.sl.r_4 (s.hq 1) (s.hk 1) (s.hv 1 0) 0⟩,
    ⟨Rect.unit ![0, 640] ![128, 128] (by decide), SelfAtt.ctx kernelRun0_A.sl.r_4 (s.hq 0) (s.hk 0) (s.hv 0 5) 5⟩,
    ⟨Rect.unit ![0, 512] ![128, 128] (by decide), SelfAtt.ctx kernelRun0_A.sl.r_4 (s.hq 0) (s.hk 0) (s.hv 0 4) 4⟩,
    ⟨Rect.unit ![0, 384] ![128, 128] (by decide), SelfAtt.ctx kernelRun0_A.sl.r_4 (s.hq 0) (s.hk 0) (s.hv 0 3) 3⟩,
    ⟨Rect.unit ![0, 256] ![128, 128] (by decide), SelfAtt.ctx kernelRun0_A.sl.r_4 (s.hq 0) (s.hk 0) (s.hv 0 2) 2⟩,
    ⟨Rect.unit ![0, 128] ![128, 128] (by decide), SelfAtt.ctx kernelRun0_A.sl.r_4 (s.hq 0) (s.hk 0) (s.hv 0 1) 1⟩,
    ⟨Rect.unit ![0, 0] ![128, 128] (by decide), SelfAtt.ctx kernelRun0_A.sl.r_4 (s.hq 0) (s.hk 0) (s.hv 0 0) 0⟩] := rfl

set_option maxHeartbeats 2000000 in
theorem pieces20 (s : Blk F) : s.HS020 = ⟨Rect.unit ![32, 128] ![32, 128] (by decide), Cross.ctx (s.q 1) (s.k 1) (s.v 1) (s.kl 1) (s.vl 1 1) 1⟩ ::
    ⟨Rect.unit ![32, 0] ![32, 128] (by decide), Cross.ctx (s.q 1) (s.k 1) (s.v 1) (s.kl 1) (s.vl 1 0) 0⟩ ::
    ⟨Rect.unit ![0, 640] ![32, 128] (by decide), Cross.ctx (s.q 0) (s.k 0) (s.v 0) (s.kl 0) (s.vl 0 5) 5⟩ ::
    ⟨Rect.unit ![0, 512] ![32, 128] (by decide), Cross.ctx (s.q 0) (s.k 0) (s.v 0) (s.kl 0) (s.vl 0 4) 4⟩ ::
    ⟨Rect.unit ![0, 384] ![32, 128] (by decide), Cross.ctx (s.q 0) (s.k 0) (s.v 0) (s.kl 0) (s.vl 0 3) 3⟩ ::
    ⟨Rect.unit ![0, 256] ![32, 128] (by decide), Cross.ctx (s.q 0) (s.k 0) (s.v 0) (s.kl 0) (s.vl 0 2) 2⟩ ::
    ⟨Rect.unit ![0, 128] ![32, 128] (by decide), Cross.ctx (s.q 0) (s.k 0) (s.v 0) (s.kl 0) (s.vl 0 1) 1⟩ ::
    ⟨Rect.unit ![0, 0] ![32, 128] (by decide), Cross.ctx (s.q 0) (s.k 0) (s.v 0) (s.kl 0) (s.vl 0 0) 0⟩ ::
    s.HS012 := rfl

set_option maxHeartbeats 2000000 in
theorem pieces54 (s : Blk F) : s.HS054 = ⟨Rect.unit ![192, 640] ![32, 128] (by decide), Cross.ctx (s.q 6) (s.k 6) (s.v 6) (s.kl 6) (s.vl 6 5) 5⟩ ::
    ⟨Rect.unit ![192, 512] ![32, 128] (by decide), Cross.ctx (s.q 6) (s.k 6) (s.v 6) (s.kl 6) (s.vl 6 4) 4⟩ ::
    ⟨Rect.unit ![192, 384] ![32, 128] (by decide), Cross.ctx (s.q 6) (s.k 6) (s.v 6) (s.kl 6) (s.vl 6 3) 3⟩ ::
    ⟨Rect.unit ![192, 256] ![32, 128] (by decide), Cross.ctx (s.q 6) (s.k 6) (s.v 6) (s.kl 6) (s.vl 6 2) 2⟩ ::
    ⟨Rect.unit ![192, 128] ![32, 128] (by decide), Cross.ctx (s.q 6) (s.k 6) (s.v 6) (s.kl 6) (s.vl 6 1) 1⟩ ::
    ⟨Rect.unit ![192, 0] ![32, 128] (by decide), Cross.ctx (s.q 6) (s.k 6) (s.v 6) (s.kl 6) (s.vl 6 0) 0⟩ ::
    ⟨Rect.unit ![160, 640] ![32, 128] (by decide), Cross.ctx (s.q 5) (s.k 5) (s.v 5) (s.kl 5) (s.vl 5 5) 5⟩ ::
    ⟨Rect.unit ![160, 512] ![32, 128] (by decide), Cross.ctx (s.q 5) (s.k 5) (s.v 5) (s.kl 5) (s.vl 5 4) 4⟩ ::
    ⟨Rect.unit ![160, 384] ![32, 128] (by decide), Cross.ctx (s.q 5) (s.k 5) (s.v 5) (s.kl 5) (s.vl 5 3) 3⟩ ::
    ⟨Rect.unit ![160, 256] ![32, 128] (by decide), Cross.ctx (s.q 5) (s.k 5) (s.v 5) (s.kl 5) (s.vl 5 2) 2⟩ ::
    ⟨Rect.unit ![160, 128] ![32, 128] (by decide), Cross.ctx (s.q 5) (s.k 5) (s.v 5) (s.kl 5) (s.vl 5 1) 1⟩ ::
    ⟨Rect.unit ![160, 0] ![32, 128] (by decide), Cross.ctx (s.q 5) (s.k 5) (s.v 5) (s.kl 5) (s.vl 5 0) 0⟩ ::
    ⟨Rect.unit ![128, 640] ![32, 128] (by decide), Cross.ctx (s.q 4) (s.k 4) (s.v 4) (s.kl 4) (s.vl 4 5) 5⟩ ::
    ⟨Rect.unit ![128, 512] ![32, 128] (by decide), Cross.ctx (s.q 4) (s.k 4) (s.v 4) (s.kl 4) (s.vl 4 4) 4⟩ ::
    ⟨Rect.unit ![128, 384] ![32, 128] (by decide), Cross.ctx (s.q 4) (s.k 4) (s.v 4) (s.kl 4) (s.vl 4 3) 3⟩ ::
    ⟨Rect.unit ![128, 256] ![32, 128] (by decide), Cross.ctx (s.q 4) (s.k 4) (s.v 4) (s.kl 4) (s.vl 4 2) 2⟩ ::
    ⟨Rect.unit ![128, 128] ![32, 128] (by decide), Cross.ctx (s.q 4) (s.k 4) (s.v 4) (s.kl 4) (s.vl 4 1) 1⟩ ::
    ⟨Rect.unit ![128, 0] ![32, 128] (by decide), Cross.ctx (s.q 4) (s.k 4) (s.v 4) (s.kl 4) (s.vl 4 0) 0⟩ ::
    ⟨Rect.unit ![96, 640] ![32, 128] (by decide), Cross.ctx (s.q 3) (s.k 3) (s.v 3) (s.kl 3) (s.vl 3 5) 5⟩ ::
    ⟨Rect.unit ![96, 512] ![32, 128] (by decide), Cross.ctx (s.q 3) (s.k 3) (s.v 3) (s.kl 3) (s.vl 3 4) 4⟩ ::
    ⟨Rect.unit ![96, 384] ![32, 128] (by decide), Cross.ctx (s.q 3) (s.k 3) (s.v 3) (s.kl 3) (s.vl 3 3) 3⟩ ::
    ⟨Rect.unit ![96, 256] ![32, 128] (by decide), Cross.ctx (s.q 3) (s.k 3) (s.v 3) (s.kl 3) (s.vl 3 2) 2⟩ ::
    ⟨Rect.unit ![96, 128] ![32, 128] (by decide), Cross.ctx (s.q 3) (s.k 3) (s.v 3) (s.kl 3) (s.vl 3 1) 1⟩ ::
    ⟨Rect.unit ![96, 0] ![32, 128] (by decide), Cross.ctx (s.q 3) (s.k 3) (s.v 3) (s.kl 3) (s.vl 3 0) 0⟩ ::
    ⟨Rect.unit ![64, 640] ![32, 128] (by decide), Cross.ctx (s.q 2) (s.k 2) (s.v 2) (s.kl 2) (s.vl 2 5) 5⟩ ::
    ⟨Rect.unit ![64, 512] ![32, 128] (by decide), Cross.ctx (s.q 2) (s.k 2) (s.v 2) (s.kl 2) (s.vl 2 4) 4⟩ ::
    ⟨Rect.unit ![64, 384] ![32, 128] (by decide), Cross.ctx (s.q 2) (s.k 2) (s.v 2) (s.kl 2) (s.vl 2 3) 3⟩ ::
    ⟨Rect.unit ![64, 256] ![32, 128] (by decide), Cross.ctx (s.q 2) (s.k 2) (s.v 2) (s.kl 2) (s.vl 2 2) 2⟩ ::
    ⟨Rect.unit ![64, 128] ![32, 128] (by decide), Cross.ctx (s.q 2) (s.k 2) (s.v 2) (s.kl 2) (s.vl 2 1) 1⟩ ::
    ⟨Rect.unit ![64, 0] ![32, 128] (by decide), Cross.ctx (s.q 2) (s.k 2) (s.v 2) (s.kl 2) (s.vl 2 0) 0⟩ ::
    ⟨Rect.unit ![32, 640] ![32, 128] (by decide), Cross.ctx (s.q 1) (s.k 1) (s.v 1) (s.kl 1) (s.vl 1 5) 5⟩ ::
    ⟨Rect.unit ![32, 512] ![32, 128] (by decide), Cross.ctx (s.q 1) (s.k 1) (s.v 1) (s.kl 1) (s.vl 1 4) 4⟩ ::
    ⟨Rect.unit ![32, 384] ![32, 128] (by decide), Cross.ctx (s.q 1) (s.k 1) (s.v 1) (s.kl 1) (s.vl 1 3) 3⟩ ::
    ⟨Rect.unit ![32, 256] ![32, 128] (by decide), Cross.ctx (s.q 1) (s.k 1) (s.v 1) (s.kl 1) (s.vl 1 2) 2⟩ ::
    s.HS020 := rfl

set_option maxHeartbeats 2000000 in
theorem pieces60 (s : Blk F) : s.HS060 = ⟨Rect.unit ![224, 640] ![32, 128] (by decide), Cross.ctx (s.q 7) (s.k 7) (s.v 7) (s.kl 7) (s.vl 7 5) 5⟩ ::
    ⟨Rect.unit ![224, 512] ![32, 128] (by decide), Cross.ctx (s.q 7) (s.k 7) (s.v 7) (s.kl 7) (s.vl 7 4) 4⟩ ::
    ⟨Rect.unit ![224, 384] ![32, 128] (by decide), Cross.ctx (s.q 7) (s.k 7) (s.v 7) (s.kl 7) (s.vl 7 3) 3⟩ ::
    ⟨Rect.unit ![224, 256] ![32, 128] (by decide), Cross.ctx (s.q 7) (s.k 7) (s.v 7) (s.kl 7) (s.vl 7 2) 2⟩ ::
    ⟨Rect.unit ![224, 128] ![32, 128] (by decide), Cross.ctx (s.q 7) (s.k 7) (s.v 7) (s.kl 7) (s.vl 7 1) 1⟩ ::
    ⟨Rect.unit ![224, 0] ![32, 128] (by decide), Cross.ctx (s.q 7) (s.k 7) (s.v 7) (s.kl 7) (s.vl 7 0) 0⟩ ::
    s.HS054 := rfl

end Cert.KernelIdeal.Gen

end
-- ==== Proof.Ker.Tail.lean ====
/- What the row-wise operations of the kernel compute, at an index. -/
module

public import proofs.«01_k».proof.Proof.Quant
public import proofs.«01_k».proof.Proof.Ker.Cells
public import Idealize.ShloMosaic.Lib.Pointwise

@[expose] public section

set_option maxRecDepth 16384

noncomputable section

namespace Cert.KernelIdeal.Tail

open Cert.KernelIdeal Cert.KernelIdeal.Gen Cert.Spec Idealize.ShloMosaic Idealize.SL.Sem

theorem q_apply (x : FVec Ideal S256x768 .bf16) (w : FVec Ideal S768x768 .bf16) (b : FVec Ideal S1x768 .f32) (n : Fin 256) (c : Fin 768) :
    k0_pay3 (F := Ideal) x w b (ix2 n c) = lin (fun i j => w (ix2 i j)) (fun i => x (ix2 n i)) c + b (ix2 0 c) := by
  pointwise [k0_pay3, k0_pay2]
  rfl

theorem k_apply (x : FVec Ideal S256x768 .bf16) (w : FVec Ideal S768x768 .bf16) (n : Fin 256) (c : Fin 768) :
    k0_pay4 (F := Ideal) x w (ix2 n c) = lin (fun i j => w (ix2 i j)) (fun i => x (ix2 n i)) c := by
  pointwise [k0_pay4, k0_pay2]
  rfl

theorem v_apply (x : FVec Ideal S256x768 .bf16) (w : FVec Ideal S768x768 .bf16) (b : FVec Ideal S1x768 .f32) (n : Fin 256) (c : Fin 768) :
    k0_pay5 (F := Ideal) x w b (ix2 n c) = lin (fun i j => w (ix2 i j)) (fun i => x (ix2 n i)) c + b (ix2 0 c) := by
  pointwise [k0_pay5, k0_pay2]
  rfl

theorem post1_apply (x ctx : FVec Ideal S256x768 .bf16) (w : FVec Ideal S768x768 .bf16) (b g e : FVec Ideal S1x768 .f32) (n : Fin 256) (c : Fin 768) :
    k0_pay113 (k0_pay109 x ctx w b) (k0_pay110 g) (k0_pay111 e) (k0_pay112 x ctx w b) (ix2 n c)
      = norm (fun c => g (ix2 0 c)) (fun c => e (ix2 0 c))
        (fun c => x (ix2 n c) + (lin (fun i j => w (ix2 i j)) (fun i => ctx (ix2 n i)) c + b (ix2 0 c))) c := by
  pointwise [k0_pay113, k0_pay109, k0_pay110, k0_pay111, k0_pay112]
  rfl

theorem cq_apply (h : FVec Ideal S256x768 .f32) (g e : FVec Ideal S1x768 .f32) (m : FVec Ideal S256x1 .f32) (w : FVec Ideal S768x768 .bf16)
    (b : FVec Ideal S1x768 .f32) (n : Fin 256) (c : Fin 768) :
    k0_pay114 h g e m w b (ix2 n c) = lin (fun i j => w (ix2 i j)) (fun i => k0_pay113 h g e m (ix2 n i)) c + b (ix2 0 c) := by
  unfold k0_pay114
  generalize k0_pay113 h g e m = z
  pointwise []
  rfl

theorem post2_apply (x : FVec Ideal S256x768 .f32) (ctx : FVec Ideal S256x768 .bf16) (w : FVec Ideal S768x768 .bf16) (b g e : FVec Ideal S1x768 .f32) (n : Fin 256) (c : Fin 768) :
    k0_pay1028 x ctx w b g e (ix2 n c)
      = norm (fun c => g (ix2 0 c)) (fun c => e (ix2 0 c))
        (fun c => x (ix2 n c) + (lin (fun i j => w (ix2 i j)) (fun i => ctx (ix2 n i)) c + b (ix2 0 c))) c := by
  pointwise [k0_pay1028]
  rfl

theorem peak_apply (x : FVec Ideal S256x768 .f32) (ctx : FVec Ideal S256x768 .bf16) (w : FVec Ideal S768x768 .bf16) (b g e : FVec Ideal S1x768 .f32) (n : Fin 256) :
    k0_pay1029 x ctx w b g e (ix2 n 0) = peak (fun c => k0_pay1028 x ctx w b g e (ix2 n c)) := by
  unfold k0_pay1029
  generalize k0_pay1028 x ctx w b g e = z
  pointwise []
  rfl

theorem scale_apply (y : FVec Ideal S256x1 .f32) (n : Fin 256) :
    k0_pay1032 y kernelRun0_A.sl.v83 k0_pay1030 (ix2 n 0) = scaleOf (y (ix2 n 0)) := by
  unfold kernelRun0_A.sl.v83
  pointwise [k0_pay1032, k0_pay1031, k0_pay1030]
  have e := sum_count (y (ix2 n 0))
  rw [e]
  exact (congrArg (fun w => Ideal.ofBits .f32 (IntOp.shli ArithUnit.vector (IntOp.addi (Scalar.select (IntOp.cmpi CmpIPredicate.eq w 0#32) (0#32)
    (IntOp.subi w 126#32)) 127#32) 23#32)) (word_count (y (ix2 n 0)))).trans (scale_word _)

theorem codes_apply (h : FVec Ideal S256x768 .f32) (y : FVec Ideal S256x1 .f32) (n : Fin 256) (c : Fin 768) :
    k0_pay1033 h y kernelRun0_A.sl.v83 k0_pay1030 (ix2 n c)
      = min (Ideal.ofBits .f32 0x43E00000#32) (max (Ideal.ofBits .f32 0xC3E00000#32) (h (ix2 n c) * invOf (y (ix2 n 0)))) := by
  unfold kernelRun0_A.sl.v83
  pointwise [k0_pay1033, k0_pay1031, k0_pay1030]
  have e := sum_count (y (ix2 n 0))
  rw [e]
  exact congrArg (fun w => min (Ideal.ofBits .f32 0x43E00000#32) (max (Ideal.ofBits .f32 0xC3E00000#32) (h (ix2 n c) * w)))
    ((congrArg (fun w => Ideal.ofBits .f32 (IntOp.shli ArithUnit.vector (IntOp.subi 127#32 (Scalar.select (IntOp.cmpi CmpIPredicate.eq w 0#32) (0#32)
    (IntOp.subi w 126#32))) 23#32)) (word_count (y (ix2 n 0)))).trans (inv_word _))

theorem scale2_apply (y : FVec Ideal S256x1 .f32) (n : Fin 256) :
    k0_pay1060 y kernelRun0_A.sl.v83 k0_pay1058 (ix2 n 0) = scaleOf (y (ix2 n 0)) := by
  unfold kernelRun0_A.sl.v83
  pointwise [k0_pay1060, k0_pay1059, k0_pay1058]
  have e := sum_count (y (ix2 n 0))
  rw [e]
  exact (congrArg (fun w => Ideal.ofBits .f32 (IntOp.shli ArithUnit.vector (IntOp.addi (Scalar.select (IntOp.cmpi CmpIPredicate.eq w 0#32) (0#32)
    (IntOp.subi w 126#32)) 127#32) 23#32)) (word_count (y (ix2 n 0)))).trans (scale_word _)

theorem inv2_apply (y : FVec Ideal S256x1 .f32) (n : Fin 256) :
    k0_pay1061 y kernelRun0_A.sl.v83 k0_pay1058 (ix2 n 0) = invOf (y (ix2 n 0)) := by
  unfold kernelRun0_A.sl.v83
  pointwise [k0_pay1061, k0_pay1059, k0_pay1058]
  have e := sum_count (y (ix2 n 0))
  rw [e]
  exact ((congrArg (fun w => Ideal.ofBits .f32 (IntOp.shli ArithUnit.vector (IntOp.subi 127#32 (Scalar.select (IntOp.cmpi CmpIPredicate.eq w 0#32) (0#32)
    (IntOp.subi w 126#32))) 23#32)) (word_count (y (ix2 n 0)))).trans (inv_word _))

theorem codes2_apply (h : FVec Ideal S256x3072 .f32) (i : FVec Ideal S256x1 .f32) (n : Fin 256) (c : Fin 3072) :
    k0_pay1068 (k0_pay1066 i h) kernelRun0_A.sl.cst_1837 k0_pay1067 (ix2 n c)
      = min (Ideal.ofBits .f32 0x43E00000#32) (max (Ideal.ofBits .f32 0xC3E00000#32) (h (ix2 n c) * i (ix2 n 0))) := by
  unfold kernelRun0_A.sl.cst_1837
  pointwise [k0_pay1068, k0_pay1066, k0_pay1067]

section
variable (s : FVec Ideal S256x1 .f32) (h : FVec Ideal S256x768 .fp8e4m3) (w : FVec Ideal S768x768 .fp8e4m3) (sf bf : FVec Ideal S1x768 .f32)

/-- A 768-lane part of the feed-forward lanes. -/
def part (n : Fin 256) (j : Fin 768) : EReal :=
  gelu (lin (fun i j => w (ix2 i j)) (fun i => h (ix2 n i)) j * (s (ix2 n 0) * sf (ix2 0 j)) + bf (ix2 0 j))

theorem part0 (n : Fin 256) (j : Fin 768) : k0_pay1044 s h w sf bf (ix2 n j) = part s h w sf bf n j := by
  pointwise [k0_pay1044]
  rfl

theorem part1 (n : Fin 256) (j : Fin 768) : k0_pay1050 (k0_pay1047 h w) (k0_pay1048 s) (k0_pay1049 sf) bf (ix2 n j) = part s h w sf bf n j := by
  pointwise [k0_pay1050, k0_pay1047, k0_pay1048, k0_pay1049]
  rfl

theorem part2 (n : Fin 256) (j : Fin 768) : k0_pay1053 s h w sf bf (ix2 n j) = part s h w sf bf n j := by
  pointwise [k0_pay1053]
  rfl

theorem part3 (n : Fin 256) (j : Fin 768) : k0_pay1055 s h w sf bf (ix2 n j) = part s h w sf bf n j := by
  pointwise [k0_pay1055]
  rfl

end

/-- The largest magnitude of a row. -/
def big (z : FVec Ideal S256x768 .f32) (n : Fin 256) : EReal := fmax (fun c => max (z (ix2 n c)) (-(z (ix2 n c))))

theorem amax0 (s h w sf bf) (n : Fin 256) : k0_pay1046 (F := Ideal) s h w sf bf (ix2 n 0) = max 0 (big (k0_pay1044 s h w sf bf) n) := by
  unfold k0_pay1046
  generalize k0_pay1044 s h w sf bf = z
  pointwise []
  rfl

theorem amax1 (a p q r b) (n : Fin 256) : k0_pay1052 (F := Ideal) a p q r b (ix2 n 0) = max (a (ix2 n 0)) (big (k0_pay1050 p q r b) n) := by
  unfold k0_pay1052
  generalize k0_pay1050 p q r b = z
  pointwise []
  rfl

theorem amax3 (s h a g w sf bf) (n : Fin 256) : k0_pay1057 (F := Ideal) s h a g w sf bf (ix2 n 0)
    = max (max (a (ix2 n 0)) (big g n)) (big (k0_pay1055 s h w sf bf) n) * Ideal.ofBits .f32 0x3B124925#32 := by
  unfold k0_pay1057
  generalize k0_pay1055 s h w sf bf = z
  pointwise []
  rfl

/-- The row before the last normalisation. -/
def pre3 (h : FVec Ideal S256x768 .f32) (s : FVec Ideal S256x1 .f32) (gc : FVec Ideal S256x3072 .fp8e4m3) (w : FVec Ideal S3072x768 .fp8e4m3)
    (sf bf : FVec Ideal S1x768 .f32) (n : Fin 256) : Row := fun c =>
  h (ix2 n c) + (lin (fun i j => w (ix2 i j)) (fun i => gc (ix2 n i)) c * (s (ix2 n 0) * sf (ix2 0 c)) + bf (ix2 0 c))

theorem cen3_apply (h s gc w sf bf) (n : Fin 256) (c : Fin 768) :
    k0_pay1071 (F := Ideal) h s gc w sf bf (ix2 n c) = cen (pre3 h s gc w sf bf n) c := by
  pointwise [k0_pay1071]
  rfl

theorem rs3_apply (h s gc w sf bf) (n : Fin 256) (c : Fin 768) :
    k0_pay1072 (F := Ideal) h s gc w sf bf (ix2 n c)
      = Ideal.rsqrt (mean (fun c => cen (pre3 h s gc w sf bf n) c * cen (pre3 h s gc w sf bf n) c) + Ideal.ofBits .f32 0x2B8CBCCC#32) := by
  have e := cen3_apply h s gc w sf bf n
  unfold k0_pay1072
  generalize k0_pay1071 h s gc w sf bf = z at e ⊢
  pointwise []
  simp only [e]
  rfl

theorem out_apply (h s gc w sf bf g e) (n : Fin 256) (c : Fin 768) :
    k0_pay1 (F := Ideal) (k0_pay1069 g) (k0_pay1070 e) (k0_pay1071 h s gc w sf bf) (k0_pay1072 h s gc w sf bf) (ix2 n c)
      = norm (fun c => g (ix2 0 c)) (fun c => e (ix2 0 c)) (pre3 h s gc w sf bf n) c := by
  have e1 := cen3_apply h s gc w sf bf n
  have e2 := rs3_apply h s gc w sf bf n
  generalize k0_pay1071 h s gc w sf bf = z at e1 ⊢
  generalize k0_pay1072 h s gc w sf bf = z' at e2 ⊢
  pointwise [k0_pay1, k0_pay1069, k0_pay1070]
  rw [e1, e2]
  rfl

end Cert.KernelIdeal.Tail

end
-- ==== Proof.Ker.SelfVal.lean ====
/- What the operations of the self-attention compute, at an index. -/
module

public import proofs.«01_k».proof.Proof.Ker.SelfAtt
public import proofs.«01_k».proof.Proof.Ker.Cells
public import proofs.«01_k».proof.Proof.Quant
public import Idealize.ShloMosaic.Lib.Pointwise

@[expose] public section

set_option maxRecDepth 16384

noncomputable section

namespace Cert.KernelIdeal.SelfAtt

open Cert.KernelIdeal Cert.KernelIdeal.Gen Cert.KernelIdeal.Cross Cert.Band Idealize.ShloMosaic Idealize.SL.Sem

/-- A head's scores are the sums over its 96 lanes. -/
theorem score_apply (q k : Fin 3 → FVec Ideal S128x256 .bf16) (r l : Fin 128) (Q K : Spec.Row)
    (hq : ∀ (t : Fin 3) (x : Fin 256), q t (ix2 r x) = Q ⟨256 * t.1 + x.1, by omega⟩)
    (hk : ∀ (t : Fin 3) (x : Fin 256), k t (ix2 l x) = K ⟨256 * t.1 + x.1, by omega⟩) (h : Fin 8) :
    score q k h (ix2 r l) = ∑ d : Fin 96, Q (lane h d) * K (lane h d) := by
  rw [sum_lanes (fun j => Q j * K j)]
  have hr := r.2
  have n0 : ¬ (128 + r.1 < 128) := by omega
  have n1 : ¬ (256 + r.1 < 128) := by omega
  have n2 : ¬ (256 + r.1 - 128 < 128) := by omega
  have n3 : ¬ (384 + r.1 < 128) := by omega
  have n4 : ¬ (384 + r.1 - 128 < 128) := by omega
  have n5 : ¬ (384 + r.1 - 128 - 128 < 128) := by omega
  have p0 : 128 + r.1 - 128 < 128 := by omega
  have p1 : 256 + r.1 - 128 - 128 < 128 := by omega
  have e1 : ∀ p, (⟨128 + r.1 - 128, p⟩ : Fin 128) = r := fun p => Fin.ext (by simp only; omega)
  have e2 : ∀ p, (⟨256 + r.1 - 128 - 128, p⟩ : Fin 128) = r := fun p => Fin.ext (by simp only; omega)
  have e3 : ∀ p, (⟨384 + r.1 - 128 - 128 - 128, p⟩ : Fin 128) = r := fun p => Fin.ext (by simp only; omega)
  have hc : ∀ (t : Fin 3) (x : Fin 256), q t (ix2 r x) * k t (ix2 l x) = cell (fun j => Q j * K j) (256 * t.1 + x.1) := fun t x => by
    rw [hq, hk]
    have := x.2
    have := t.2
    unfold cell
    rw [dif_pos (show 256 * t.1 + x.1 < 768 by omega)]
  match h with
  | 0 =>
    pointwise [score, tile0, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (sum_band _ (cell fun j => Q j * K j) 0 0 96 fun x => ?_).trans rfl
    exact hc 0 x
  | 1 =>
    pointwise [score, tile0, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (sum_band _ (cell fun j => Q j * K j) 0 96 192 fun x => ?_).trans rfl
    exact hc 0 x
  | 2 =>
    pointwise [score, tile0, tile1, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (congrArg₂ (· + ·) (sum_band _ (cell fun j => Q j * K j) 0 192 288 fun x => ?_)
      (sum_band _ (cell fun j => Q j * K j) 256 192 288 fun x => ?_)).trans
      (Finset.sum_Ico_consecutive _ (by decide) (by decide))
    · exact hc 0 x
    · exact hc 1 x
  | 3 =>
    pointwise [score, tile1, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (sum_band _ (cell fun j => Q j * K j) 256 288 384 fun x => ?_).trans rfl
    exact hc 1 x
  | 4 =>
    pointwise [score, tile1, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (sum_band _ (cell fun j => Q j * K j) 256 384 480 fun x => ?_).trans rfl
    exact hc 1 x
  | 5 =>
    pointwise [score, tile1, tile2, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (congrArg₂ (· + ·) (sum_band _ (cell fun j => Q j * K j) 256 480 576 fun x => ?_)
      (sum_band _ (cell fun j => Q j * K j) 512 480 576 fun x => ?_)).trans
      (Finset.sum_Ico_consecutive _ (by decide) (by decide))
    · exact hc 1 x
    · exact hc 2 x
  | 6 =>
    pointwise [score, tile2, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (sum_band _ (cell fun j => Q j * K j) 512 576 672 fun x => ?_).trans rfl
    exact hc 2 x
  | 7 =>
    pointwise [score, tile2, headRows, mask256]
    simp only [dif_neg n0, dif_neg n1, dif_neg n2, dif_neg n3, dif_neg n4, dif_neg n5, dif_pos hr, dif_pos p0, dif_pos p1, e1, e2, e3, select_lane,
      ite_mul, zero_mul, Nat.reducePow, Nat.reduceAdd, Nat.reduceLT]
    refine (sum_band _ (cell fun j => Q j * K j) 512 672 768 fun x => ?_).trans rfl
    exact hc 2 x

/-- Two halves: a lane's own head's weighted values, and zeros. -/
theorem ctx_apply (m : IVec S128x128 1) (q k : Fin 3 → FVec Ideal S128x256 .bf16) (v : FVec Ideal S128x128 .bf16) (lt : Fin 6) (r c : Fin 128) :
    ctx m q k v lt (ix2 r c) = ∑ l : Fin 128, pm m q k (headOf (at128 lt c)) (ix2 r l) * v (ix2 l c) := by
  have hcc := c.2
  match lt with
  | 0 =>
    have ha : at128 0 c = ⟨0 + c.1, by omega⟩ := rfl
    pointwise [ctx, mix, headVals, mask128]
    simp only [select_lane, Nat.reducePow, Nat.reduceAdd, Nat.reduceLT]
    by_cases hl : 0 + c.1 < 96
    · have hh : headOf (at128 0 c) = 0 := Fin.ext (by simp only [headOf, ha]; show _ = 0; omega)
      have c1 : 0 ≤ 0 + c.1 ∧ 0 + c.1 < 96 := by omega
      have c2 : ¬ (96 ≤ 0 + c.1 ∧ 0 + c.1 < 192) := by omega
      simp only [hh, if_pos c1, if_neg c2]
      rw [Finset.sum_const_zero, add_zero]
    · have hh : headOf (at128 0 c) = 1 := Fin.ext (by simp only [headOf, ha]; show _ = 1; omega)
      have c1 : ¬ (0 ≤ 0 + c.1 ∧ 0 + c.1 < 96) := by omega
      have c2 : 96 ≤ 0 + c.1 ∧ 0 + c.1 < 192 := by omega
      simp only [hh, if_neg c1, if_pos c2]
      rw [Finset.sum_const_zero, zero_add]
  | 1 =>
    have ha : at128 1 c = ⟨128 + c.1, by omega⟩ := rfl
    pointwise [ctx, mix, headVals, mask128]
    simp only [select_lane, Nat.reducePow, Nat.reduceAdd, Nat.reduceLT]
    by_cases hl : 128 + c.1 < 192
    · have hh : headOf (at128 1 c) = 1 := Fin.ext (by simp only [headOf, ha]; show _ = 1; omega)
      have c1 : 96 ≤ 128 + c.1 ∧ 128 + c.1 < 192 := by omega
      have c2 : ¬ (192 ≤ 128 + c.1 ∧ 128 + c.1 < 288) := by omega
      simp only [hh, if_pos c1, if_neg c2]
      rw [Finset.sum_const_zero, add_zero]
    · have hh : headOf (at128 1 c) = 2 := Fin.ext (by simp only [headOf, ha]; show _ = 2; omega)
      have c1 : ¬ (96 ≤ 128 + c.1 ∧ 128 + c.1 < 192) := by omega
      have c2 : 192 ≤ 128 + c.1 ∧ 128 + c.1 < 288 := by omega
      simp only [hh, if_neg c1, if_pos c2]
      rw [Finset.sum_const_zero, zero_add]
  | 2 =>
    have ha : at128 2 c = ⟨256 + c.1, by omega⟩ := rfl
    pointwise [ctx, mix, headVals, mask128]
    simp only [select_lane, Nat.reducePow, Nat.reduceAdd, Nat.reduceLT]
    by_cases hl : 256 + c.1 < 288
    · have hh : headOf (at128 2 c) = 2 := Fin.ext (by simp only [headOf, ha]; show _ = 2; omega)
      have c1 : 192 ≤ 256 + c.1 ∧ 256 + c.1 < 288 := by omega
      have c2 : ¬ (288 ≤ 256 + c.1 ∧ 256 + c.1 < 384) := by omega
      simp only [hh, if_pos c1, if_neg c2]
      rw [Finset.sum_const_zero, add_zero]
    · have hh : headOf (at128 2 c) = 3 := Fin.ext (by simp only [headOf, ha]; show _ = 3; omega)
      have c1 : ¬ (192 ≤ 256 + c.1 ∧ 256 + c.1 < 288) := by omega
      have c2 : 288 ≤ 256 + c.1 ∧ 256 + c.1 < 384 := by omega
      simp only [hh, if_neg c1, if_pos c2]
      rw [Finset.sum_const_zero, zero_add]
  | 3 =>
    have ha : at128 3 c = ⟨384 + c.1, by omega⟩ := rfl
    pointwise [ctx, mix, headVals, mask128]
    simp only [select_lane, Nat.reducePow, Nat.reduceAdd, Nat.reduceLT]
    by_cases hl : 384 + c.1 < 480
    · have hh : headOf (at128 3 c) = 4 := Fin.ext (by simp only [headOf, ha]; show _ = 4; omega)
      have c1 : 384 ≤ 384 + c.1 ∧ 384 + c.1 < 480 := by omega
      have c2 : ¬ (480 ≤ 384 + c.1 ∧ 384 + c.1 < 576) := by omega
      simp only [hh, if_pos c1, if_neg c2]
      rw [Finset.sum_const_zero, add_zero]
    · have hh : headOf (at128 3 c) = 5 := Fin.ext (by simp only [headOf, ha]; show _ = 5; omega)
      have c1 : ¬ (384 ≤ 384 + c.1 ∧ 384 + c.1 < 480) := by omega
      have c2 : 480 ≤ 384 + c.1 ∧ 384 + c.1 < 576 := by omega
      simp only [hh, if_neg c1, if_pos c2]
      rw [Finset.sum_const_zero, zero_add]
  | 4 =>
    have ha : at128 4 c = ⟨512 + c.1, by omega⟩ := rfl
    pointwise [ctx, mix, headVals, mask128]
    simp only [select_lane, Nat.reducePow, Nat.reduceAdd, Nat.reduceLT]
    by_cases hl : 512 + c.1 < 576
    · have hh : headOf (at128 4 c) = 5 := Fin.ext (by simp only [headOf, ha]; show _ = 5; omega)
      have c1 : 480 ≤ 512 + c.1 ∧ 512 + c.1 < 576 := by omega
      have c2 : ¬ (576 ≤ 512 + c.1 ∧ 512 + c.1 < 672) := by omega
      simp only [hh, if_pos c1, if_neg c2]
      rw [Finset.sum_const_zero, add_zero]
    · have hh : headOf (at128 4 c) = 6 := Fin.ext (by simp only [headOf, ha]; show _ = 6; omega)
      have c1 : ¬ (480 ≤ 512 + c.1 ∧ 512 + c.1 < 576) := by omega
      have c2 : 576 ≤ 512 + c.1 ∧ 512 + c.1 < 672 := by omega
      simp only [hh, if_neg c1, if_pos c2]
      rw [Finset.sum_const_zero, zero_add]
  | 5 =>
    have ha : at128 5 c = ⟨640 + c.1, by omega⟩ := rfl
    pointwise [ctx, mix, headVals, mask128]
    simp only [select_lane, Nat.reducePow, Nat.reduceAdd, Nat.reduceLT]
    by_cases hl : 640 + c.1 < 672
    · have hh : headOf (at128 5 c) = 6 := Fin.ext (by simp only [headOf, ha]; show _ = 6; omega)
      have c1 : 576 ≤ 640 + c.1 ∧ 640 + c.1 < 672 := by omega
      have c2 : ¬ (672 ≤ 640 + c.1 ∧ 640 + c.1 < 768) := by omega
      simp only [hh, if_pos c1, if_neg c2]
      rw [Finset.sum_const_zero, add_zero]
    · have hh : headOf (at128 5 c) = 7 := Fin.ext (by simp only [headOf, ha]; show _ = 7; omega)
      have c1 : ¬ (576 ≤ 640 + c.1 ∧ 640 + c.1 < 672) := by omega
      have c2 : 672 ≤ 640 + c.1 ∧ 640 + c.1 < 768 := by omega
      simp only [hh, if_neg c1, if_pos c2]
      rw [Finset.sum_const_zero, zero_add]

/-- The word of a number's image: the number over 32, rounded down. -/
def imgWord (w : BitVec 32) : BitVec 32 :=
  Scalar.select
    (IntOp.andi
      (IntOp.cmpi .ne (IntOp.subi ((IntOp.cmpi .sgt w 0#32).setWidth 32) ((IntOp.cmpi .slt w 0#32).setWidth 32)) 1#32)
      (IntOp.cmpi .ne (IntOp.remsi .vector w 32#32) 0#32))
    (IntOp.subi (IntOp.divsi .vector w 32#32) 1#32) (IntOp.divsi .vector w 32#32)

theorem imgWord_eq : ∀ n : Fin 128, imgWord (BitVec.ofNat 32 n.1) = BitVec.ofNat 32 (n.1 / 32) := by decide

/-- The mask: whether two of the four images' tokens are of one image. -/
theorem mask_apply (r l : Fin 128) : kernelRun0_A.sl.r_4 (ix2 r l) = if l.1 / 32 = r.1 / 32 then 1#1 else 0#1 := by
  have e : kernelRun0_A.sl.r_4 (ix2 r l) = IntOp.cmpi .eq (imgWord (BitVec.ofNat 32 r.1)) (imgWord (BitVec.ofNat 32 l.1)) := by
    pointwise [kernelRun0_A.sl.r_4, k0_pay9, k0_pay6, k0_pay7, k0_pay8]
    rfl
  rw [e, imgWord_eq, imgWord_eq]
  have hr := r.2
  have hl := l.2
  have : ∀ a b : Fin 4, IntOp.cmpi .eq (BitVec.ofNat 32 b.1) (BitVec.ofNat 32 a.1) = if a.1 = b.1 then 1#1 else 0#1 := by decide
  exact this ⟨l.1 / 32, by omega⟩ ⟨r.1 / 32, by omega⟩

/-- A sum over four images' tokens of a function that is zero off one image. -/
theorem sum_image (f : Fin 128 → EReal) (i : Fin 4) (hz : ∀ l : Fin 128, l.1 / 32 ≠ i.1 → f l = 0) :
    ∑ l, f l = ∑ a : Fin 32, f ⟨32 * i.1 + a.1, by omega⟩ := by
  let e : Fin 32 ↪ Fin 128 := ⟨fun a => ⟨32 * i.1 + a.1, by omega⟩, fun a b h => by
    have := congrArg Fin.val h
    simp only at this
    exact Fin.ext (by omega)⟩
  refine Eq.trans ?_ (Finset.sum_map Finset.univ e f)
  symm
  refine Finset.sum_subset (Finset.subset_univ _) fun l _ hl => hz l fun h => hl ?_
  rw [Finset.mem_map]
  exact ⟨⟨l.1 % 32, by omega⟩, Finset.mem_univ _, Fin.ext (by show 32 * i.1 + l.1 % 32 = l.1; omega)⟩

theorem exp_nonneg (x : EReal) : 0 ≤ Ideal.exp x := by
  induction x with
  | bot => exact le_of_eq Ideal.exp_bot.symm
  | top => rw [Ideal.exp_top]; exact le_top
  | coe r => rw [Ideal.exp_coe]; exact EReal.coe_nonneg.mpr (Real.exp_pos r).le

/-- Softmax over four images' tokens with minus infinity off one image: softmax over the image's tokens. -/
theorem softmax_image (S : Fin 128 → EReal) (T : Fin 32 → EReal) (i : Fin 4)
    (hS : ∀ l : Fin 128, S l = if l.1 / 32 = i.1 then T ⟨l.1 % 32, by omega⟩ else ⊥) (hT : ∀ a, ∃ t : ℝ, T a = t)
    (v : Fin 128 → EReal) (w : Fin 32 → EReal) (hv : ∀ l : Fin 128, l.1 / 32 = i.1 → v l = w ⟨l.1 % 32, by omega⟩) :
    (∑ l, Ideal.div (Spec.ex S l) (∑ l', Spec.ex S l') * v l) = Spec.attend T w := by
  have hi := i.2
  have hin : ∀ a : Fin 32, S ⟨32 * i.1 + a.1, by omega⟩ = T a := by
    intro a
    have := a.2
    rw [hS, if_pos (by simp only; omega)]
    congr 1
    exact Fin.ext (by simp only; omega)
  have hbot := Spec.ofBits_bot
  have hm : Spec.fmax S = Spec.fmax T := by
    unfold Spec.fmax
    rw [hbot]
    apply le_antisymm
    · rw [Finset.fold_max_le]
      refine ⟨bot_le, fun l _ => ?_⟩
      rw [hS]
      split
      · exact (Finset.le_fold_max _).mpr (Or.inr ⟨_, Finset.mem_univ _, le_rfl⟩)
      · exact bot_le
    · rw [Finset.fold_max_le]
      refine ⟨bot_le, fun a _ => ?_⟩
      exact (Finset.le_fold_max _).mpr (Or.inr ⟨⟨32 * i.1 + a.1, by omega⟩, Finset.mem_univ _, (hin a).ge⟩)
  have hz : ∀ l : Fin 128, l.1 / 32 ≠ i.1 → Spec.ex S l = 0 := by
    intro l hl
    unfold Spec.ex
    rw [hS, if_neg hl, sub_eq_add_neg, EReal.bot_add, Ideal.exp_bot]
  have he : ∀ a : Fin 32, Spec.ex S ⟨32 * i.1 + a.1, by omega⟩ = Spec.ex T a := by
    intro a
    unfold Spec.ex
    rw [hin, hm]
  have hD : (∑ l', Spec.ex S l') = ∑ a, Spec.ex T a := by
    rw [sum_image _ i hz]
    exact Finset.sum_congr rfl fun a _ => he a
  have hD0 : (∑ a, Spec.ex T a) ≠ 0 := by
    have h1 : ∃ a, Spec.ex T a = 1 := by
      have hle : Spec.fmax T ≤ Spec.fmax T := le_rfl
      have h2 := (Finset.le_fold_max (s := (Finset.univ : Finset (Fin 32))) (f := T) (b := (Ideal.ofBits .f32 0xFF800000#32 : EReal)) (Spec.fmax T)).mp le_rfl
      obtain ⟨t0, ht0⟩ := hT 0
      have hge : T 0 ≤ Spec.fmax T := (Finset.le_fold_max _).mpr (Or.inr ⟨0, Finset.mem_univ _, le_rfl⟩)
      rcases h2 with h2 | ⟨a, _, ha⟩
      · rw [hbot, le_bot_iff] at h2
        rw [h2, ht0] at hge
        exact absurd (le_bot_iff.mp hge) (EReal.coe_ne_bot _)
      · refine ⟨a, ?_⟩
        have hle : T a ≤ Spec.fmax T := (Finset.le_fold_max _).mpr (Or.inr ⟨a, Finset.mem_univ _, le_rfl⟩)
        have heq := le_antisymm hle ha
        obtain ⟨t, ht⟩ := hT a
        unfold Spec.ex
        rw [← heq, ht, ← EReal.coe_sub, sub_self, Ideal.exp_coe, Real.exp_zero]
        rfl
    obtain ⟨a, ha⟩ := h1
    have h3 : Spec.ex T a ≤ ∑ a, Spec.ex T a := Finset.single_le_sum (f := fun a => Spec.ex T a) (fun b _ => exp_nonneg _) (Finset.mem_univ a)
    rw [ha] at h3
    intro h0
    rw [h0] at h3
    exact absurd h3 (by norm_num)
  rw [hD, sum_image _ i (fun l hl => by rw [hz l hl]; unfold Ideal.div; rw [if_neg hD0, zero_mul, zero_mul])]
  unfold Spec.attend
  refine Finset.sum_congr rfl fun a _ => ?_
  have := a.2
  rw [he, hv ⟨32 * i.1 + a.1, by omega⟩ (by simp only; omega)]
  have h4 : (⟨(32 * i.1 + a.1) % 32, by omega⟩ : Fin 32) = a := Fin.ext (by simp only; omega)
  simp only [h4]
  congr 1
  unfold Ideal.div
  rw [if_neg hD0, if_neg hD0, one_mul]

/-- A head's weights at an index, of the scores `S`. -/
theorem prob_apply (m : IVec S128x128 1) (s : FVec Ideal S128x128 .f32) (r l : Fin 128) (S : Fin 128 → EReal)
    (hs : ∀ l, Scalar.select (m (ix2 r l)) (s (ix2 r l) * Ideal.ofBits .f32 0x3DD105EC#32) (Ideal.ofBits .f32 0xFF800000#32) = S l) :
    prob (exps (masked m s)) (ix2 r l) = Ideal.div (Spec.ex S l) (∑ l, Spec.ex S l) := by
  pointwise [prob, exps, masked]
  simp only [hs]
  rfl

/-- The context of a row of four images is attention over the row's own image. -/
theorem ctx_eq (q k : Fin 3 → FVec Ideal S128x256 .bf16) (v : FVec Ideal S128x128 .bf16) (lt : Fin 6) (r c : Fin 128)
    (Q : Spec.Row) (K W : Fin 32 → Spec.Row)
    (hq : ∀ (t : Fin 3) (x : Fin 256), q t (ix2 r x) = Q ⟨256 * t.1 + x.1, by omega⟩)
    (hk : ∀ (l : Fin 128), l.1 / 32 = r.1 / 32 → ∀ (t : Fin 3) (x : Fin 256), k t (ix2 l x) = K ⟨l.1 % 32, by omega⟩ ⟨256 * t.1 + x.1, by omega⟩)
    (hv : ∀ (l : Fin 128), l.1 / 32 = r.1 / 32 → v (ix2 l c) = W ⟨l.1 % 32, by omega⟩ (at128 lt c))
    (hf : ∀ h a, ∃ t : ℝ, Spec.scores Q K h a = t) :
    ctx kernelRun0_A.sl.r_4 q k v lt (ix2 r c) = Spec.context Q K W (at128 lt c) := by
  have hr := r.2
  rw [ctx_apply]
  unfold pm
  have hs : ∀ l : Fin 128, Scalar.select (kernelRun0_A.sl.r_4 (ix2 r l)) (score q k (headOf (at128 lt c)) (ix2 r l) * Ideal.ofBits .f32 0x3DD105EC#32)
      (Ideal.ofBits .f32 0xFF800000#32) = if l.1 / 32 = r.1 / 32 then Spec.scores Q K (headOf (at128 lt c)) ⟨l.1 % 32, by omega⟩ else ⊥ := by
    intro l
    rw [mask_apply]
    by_cases h : l.1 / 32 = r.1 / 32
    · rw [if_pos h, if_pos h, score_apply q k r l Q (K ⟨l.1 % 32, by omega⟩) hq (hk l h)]
      rfl
    · rw [if_neg h, if_neg h]
      exact Spec.ofBits_bot
  simp only [prob_apply _ _ _ _ _ hs]
  exact softmax_image _ _ ⟨r.1 / 32, by omega⟩ (fun l => rfl) (hf _) _ (fun a => W a (at128 lt c)) hv

end Cert.KernelIdeal.SelfAtt

end
-- ==== Proof.Ker.CrossVal.lean ====
/- What the operations of the cross-attention compute, at an index. -/
module

public import proofs.«01_k».proof.Proof.Ker.SelfAtt
public import proofs.«01_k».proof.Proof.Spec
public import Idealize.ShloMosaic.Lib.Pointwise

@[expose] public section

set_option maxRecDepth 16384

noncomputable section

namespace Cert.KernelIdeal.Cross

open Cert.KernelIdeal Cert.KernelIdeal.Gen Cert.Band Idealize.ShloMosaic Idealize.SL.Sem

/-- A head's scores are the sums over its 96 lanes: the tiles' other lanes are zero, and a head that meets two
tiles adds their parts. -/
theorem score_apply (q : FVec Ideal S32x768 .bf16) (k : FVec Ideal S256x768 .bf16) (r : Fin 32) (l : Fin 256) (h : Fin 8) :
    score q k h (ix2 r l) = ∑ d : Fin 96, q (ix2 r (lane h d)) * k (ix2 l (lane h d)) := by
  rw [sum_lanes (fun j => q (ix2 r j) * k (ix2 l j))]
  have hr := r.2
  have n1 : ¬ (64 + r.1 < 32) := by omega
  have n2 : ¬ (64 + r.1 - 32 < 32) := by omega
  have n3 : ¬ (96 + r.1 < 32) := by omega
  have n4 : ¬ (96 + r.1 - 32 < 32) := by omega
  have n5 : ¬ (96 + r.1 - 32 - 32 < 32) := by omega
  have p1 : 64 + r.1 - 32 - 32 < 32 := by omega
  have e1 : ∀ p, (⟨64 + r.1 - 32 - 32, p⟩ : Fin 32) = r := fun p => Fin.ext (by simp only; omega)
  have e2 : ∀ p, (⟨96 + r.1 - 32 - 32 - 32, p⟩ : Fin 32) = r := fun p => Fin.ext (by simp only; omega)
  have hc : ∀ (a : ℕ) (ha : a + 256 ≤ 768) (x : Fin 256) (p : a + x.1 < 768), cell (fun j => q (ix2 r j) * k (ix2 l j)) (a + x.1)
      = q (ix2 r ⟨a + x.1, p⟩) * k (ix2 l ⟨a + x.1, p⟩) := fun a ha x p => dif_pos p
  match h with
  | 0 =>
    pointwise [score, tile0, headLanes, mask256]
    simp only [dif_neg n1, dif_neg n2, dif_neg n3, dif_neg n4, dif_neg n5, dif_pos p1, e1, e2, select_lane, ite_mul, zero_mul,
      Nat.reducePow, Nat.reduceAdd, Nat.reduceLT]
    refine (sum_band _ (cell fun j => q (ix2 r j) * k (ix2 l j)) 0 0 96 fun x => ?_).trans rfl
    have := x.2
    exact ((hc 0 (by omega) x (by omega)).trans (by simp only [Nat.zero_add])).symm
  | 1 =>
    pointwise [score, tile0, headLanes, mask256]
    simp only [dif_neg n1, dif_neg n2, dif_neg n3, dif_neg n4, dif_neg n5, dif_pos p1, e1, e2, select_lane, ite_mul, zero_mul,
      Nat.reducePow, Nat.reduceAdd, Nat.reduceLT]
    refine (sum_band _ (cell fun j => q (ix2 r j) * k (ix2 l j)) 0 96 192 fun x => ?_).trans rfl
    have := x.2
    exact ((hc 0 (by omega) x (by omega)).trans (by simp only [Nat.zero_add])).symm
  | 2 =>
    pointwise [score, tile0, tile1, headLanes, mask256]
    simp only [dif_neg n1, dif_neg n2, dif_neg n3, dif_neg n4, dif_neg n5, dif_pos p1, e1, e2, select_lane, ite_mul, zero_mul,
      Nat.reducePow, Nat.reduceAdd, Nat.reduceLT]
    refine (congrArg₂ (· + ·) (sum_band _ (cell fun j => q (ix2 r j) * k (ix2 l j)) 0 192 288 fun x => ?_)
      (sum_band _ (cell fun j => q (ix2 r j) * k (ix2 l j)) 256 192 288 fun x => ?_)).trans
      (Finset.sum_Ico_consecutive _ (by decide) (by decide))
    · have := x.2
      exact ((hc 0 (by omega) x (by omega)).trans (by simp only [Nat.zero_add])).symm
    · have := x.2
      exact ((hc 256 (by omega) x (by omega)).trans (by simp only [Nat.zero_add])).symm
  | 3 =>
    pointwise [score, tile1, headLanes, mask256]
    simp only [dif_neg n1, dif_neg n2, dif_neg n3, dif_neg n4, dif_neg n5, dif_pos p1, e1, e2, select_lane, ite_mul, zero_mul,
      Nat.reducePow, Nat.reduceAdd, Nat.reduceLT]
    refine (sum_band _ (cell fun j => q (ix2 r j) * k (ix2 l j)) 256 288 384 fun x => ?_).trans rfl
    have := x.2
    exact ((hc 256 (by omega) x (by omega)).trans (by simp only [Nat.zero_add])).symm
  | 4 =>
    pointwise [score, tile1, headLanes, mask256]
    simp only [dif_neg n1, dif_neg n2, dif_neg n3, dif_neg n4, dif_neg n5, dif_pos p1, e1, e2, select_lane, ite_mul, zero_mul,
      Nat.reducePow, Nat.reduceAdd, Nat.reduceLT]
    refine (sum_band _ (cell fun j => q (ix2 r j) * k (ix2 l j)) 256 384 480 fun x => ?_).trans rfl
    have := x.2
    exact ((hc 256 (by omega) x (by omega)).trans (by simp only [Nat.zero_add])).symm
  | 5 =>
    pointwise [score, tile1, tile2, headLanes, mask256]
    simp only [dif_neg n1, dif_neg n2, dif_neg n3, dif_neg n4, dif_neg n5, dif_pos p1, e1, e2, select_lane, ite_mul, zero_mul,
      Nat.reducePow, Nat.reduceAdd, Nat.reduceLT]
    refine (congrArg₂ (· + ·) (sum_band _ (cell fun j => q (ix2 r j) * k (ix2 l j)) 256 480 576 fun x => ?_)
      (sum_band _ (cell fun j => q (ix2 r j) * k (ix2 l j)) 512 480 576 fun x => ?_)).trans
      (Finset.sum_Ico_consecutive _ (by decide) (by decide))
    · have := x.2
      exact ((hc 256 (by omega) x (by omega)).trans (by simp only [Nat.zero_add])).symm
    · have := x.2
      exact ((hc 512 (by omega) x (by omega)).trans (by simp only [Nat.zero_add])).symm
  | 6 =>
    pointwise [score, tile2, headLanes, mask256]
    simp only [dif_neg n1, dif_neg n2, dif_neg n3, dif_neg n4, dif_neg n5, dif_pos p1, e1, e2, select_lane, ite_mul, zero_mul,
      Nat.reducePow, Nat.reduceAdd, Nat.reduceLT]
    refine (sum_band _ (cell fun j => q (ix2 r j) * k (ix2 l j)) 512 576 672 fun x => ?_).trans rfl
    have := x.2
    exact ((hc 512 (by omega) x (by omega)).trans (by simp only [Nat.zero_add])).symm
  | 7 =>
    pointwise [score, tile2, headLanes, mask256]
    simp only [dif_neg n1, dif_neg n2, dif_neg n3, dif_neg n4, dif_neg n5, dif_pos p1, e1, e2, select_lane, ite_mul, zero_mul,
      Nat.reducePow, Nat.reduceAdd, Nat.reduceLT]
    refine (sum_band _ (cell fun j => q (ix2 r j) * k (ix2 l j)) 512 672 768 fun x => ?_).trans rfl
    have := x.2
    exact ((hc 512 (by omega) x (by omega)).trans (by simp only [Nat.zero_add])).symm

/-- A head's score against the last token is the scaled sum over its 96 lanes. -/
theorem lastScore_apply (q : FVec Ideal S32x768 .bf16) (kl : FVec Ideal S1x768 .f32) (r : Fin 32) (h : Fin 8) :
    lastScore q kl h (ix2 r 0) = (∑ d : Fin 96, q (ix2 r (lane h d)) * kl (ix2 0 (lane h d))) * Ideal.ofBits .f32 0x3DD105EC#32 := by
  rw [sum_lanes (fun j => q (ix2 r j) * kl (ix2 0 j))]
  have hc : ∀ (a j : ℕ) (p : a + j < 768), cell (fun j => q (ix2 r j) * kl (ix2 0 j)) (a + j)
      = q (ix2 r ⟨a + j, p⟩) * kl (ix2 0 ⟨a + j, p⟩) := fun a j p => dif_pos p
  match h with
  | 0 =>
    pointwise [lastScore, lastSum128, lastProd, mask128]
    simp only [select_lane, Nat.reducePow, Nat.reduceAdd, Nat.reduceLT]
    refine congrArg (· * Ideal.ofBits .f32 0x3DD105EC#32) ((sum_band _ (cell fun j => q (ix2 r j) * kl (ix2 0 j)) 0 0 96 fun x => ?_).trans rfl)
    have := x.2
    exact ((hc 0 x.1 (by omega)).trans (by simp only [Nat.zero_add])).symm
  | 1 =>
    pointwise [lastScore, lastSum256, lastProd, mask256]
    simp only [select_lane, Nat.reducePow, Nat.reduceAdd, Nat.reduceLT]
    refine congrArg (· * Ideal.ofBits .f32 0x3DD105EC#32) ((sum_band _ (cell fun j => q (ix2 r j) * kl (ix2 0 j)) 0 96 192 fun x => ?_).trans rfl)
    have := x.2
    exact ((hc 0 x.1 (by omega)).trans (by simp only [Nat.zero_add])).symm
  | 2 =>
    pointwise [lastScore, lastSum256, lastProd, mask256]
    simp only [select_lane, Nat.reducePow, Nat.reduceAdd, Nat.reduceLT]
    refine congrArg (· * Ideal.ofBits .f32 0x3DD105EC#32) ((sum_band _ (cell fun j => q (ix2 r j) * kl (ix2 0 j)) 128 192 288 fun x => ?_).trans rfl)
    have := x.2
    exact ((hc 128 x.1 (by omega)).trans (by simp only [Nat.zero_add])).symm
  | 3 =>
    pointwise [lastScore, lastSum128, lastProd, mask128]
    simp only [select_lane, Nat.reducePow, Nat.reduceAdd, Nat.reduceLT]
    refine congrArg (· * Ideal.ofBits .f32 0x3DD105EC#32) ((sum_band _ (cell fun j => q (ix2 r j) * kl (ix2 0 j)) 256 288 384 fun x => ?_).trans rfl)
    have := x.2
    exact ((hc 256 x.1 (by omega)).trans (by simp only [Nat.zero_add])).symm
  | 4 =>
    pointwise [lastScore, lastSum128, lastProd, mask128]
    simp only [select_lane, Nat.reducePow, Nat.reduceAdd, Nat.reduceLT]
    refine congrArg (· * Ideal.ofBits .f32 0x3DD105EC#32) ((sum_band _ (cell fun j => q (ix2 r j) * kl (ix2 0 j)) 384 384 480 fun x => ?_).trans rfl)
    have := x.2
    exact ((hc 384 x.1 (by omega)).trans (by simp only [Nat.zero_add])).symm
  | 5 =>
    pointwise [lastScore, lastSum256, lastProd, mask256]
    simp only [select_lane, Nat.reducePow, Nat.reduceAdd, Nat.reduceLT]
    refine congrArg (· * Ideal.ofBits .f32 0x3DD105EC#32) ((sum_band _ (cell fun j => q (ix2 r j) * kl (ix2 0 j)) 384 480 576 fun x => ?_).trans rfl)
    have := x.2
    exact ((hc 384 x.1 (by omega)).trans (by simp only [Nat.zero_add])).symm
  | 6 =>
    pointwise [lastScore, lastSum256, lastProd, mask256]
    simp only [select_lane, Nat.reducePow, Nat.reduceAdd, Nat.reduceLT]
    refine congrArg (· * Ideal.ofBits .f32 0x3DD105EC#32) ((sum_band _ (cell fun j => q (ix2 r j) * kl (ix2 0 j)) 512 576 672 fun x => ?_).trans rfl)
    have := x.2
    exact ((hc 512 x.1 (by omega)).trans (by simp only [Nat.zero_add])).symm
  | 7 =>
    pointwise [lastScore, lastSum128, lastProd, mask128]
    simp only [select_lane, Nat.reducePow, Nat.reduceAdd, Nat.reduceLT]
    refine congrArg (· * Ideal.ofBits .f32 0x3DD105EC#32) ((sum_band _ (cell fun j => q (ix2 r j) * kl (ix2 0 j)) 640 672 768 fun x => ?_).trans rfl)
    have := x.2
    exact ((hc 640 x.1 (by omega)).trans (by simp only [Nat.zero_add])).symm

/-- The largest of 257 scores: of the 256 first and the last. -/
theorem fold_last (S : Fin 257 → EReal) :
    Spec.fmax S = max ((Finset.univ : Finset (Fin 256)).fold max (Ideal.ofBits .f32 0xFF800000#32 : EReal) (fun l => S l.castSucc)) (S (Fin.last 256)) := by
  unfold Spec.fmax
  rw [Fin.univ_castSuccEmb, Finset.fold_cons, max_comm, Finset.fold_map]
  rfl

/-- 128 lanes of an image's context: the weighted values of each lane's head. -/
theorem ctx_apply (q : FVec Ideal S32x768 .bf16) (k v : FVec Ideal S256x768 .bf16) (kl : FVec Ideal S1x768 .f32) (vl : FVec Ideal S1x128 .f32)
    (lt : Fin 6) (r : Fin 32) (c : Fin 128) :
    ctx q k v kl vl lt (ix2 r c) = (∑ l : Fin 256, pm q k kl (headOf (at128 lt c)) (ix2 r l) * v (ix2 l (at128 lt c)))
      + pl q k kl (headOf (at128 lt c)) (ix2 r 0) * vl (ix2 0 c) := by
  have hr := r.2
  have hcc := c.2
  have e0 : r.1 < 32 := hr
  have a1 : 256 + (128 + c.1) = 384 + c.1 := by omega
  have a2 : 512 + (128 + c.1) = 640 + c.1 := by omega
  have n0 : ¬ (32 + r.1 < 32) := by omega
  have n1 : ¬ (64 + r.1 < 32) := by omega
  have n2 : ¬ (64 + r.1 - 32 < 32) := by omega
  have n3 : ¬ (96 + r.1 < 32) := by omega
  have n4 : ¬ (96 + r.1 - 32 < 32) := by omega
  have n5 : ¬ (96 + r.1 - 32 - 32 < 32) := by omega
  have p0 : 32 + r.1 - 32 < 32 := by omega
  have p1 : 64 + r.1 - 32 - 32 < 32 := by omega
  have e1 : ∀ p, (⟨32 + r.1 - 32, p⟩ : Fin 32) = r := fun p => Fin.ext (by simp only; omega)
  have e2 : ∀ p, (⟨64 + r.1 - 32 - 32, p⟩ : Fin 32) = r := fun p => Fin.ext (by simp only; omega)
  have e3 : ∀ p, (⟨96 + r.1 - 32 - 32 - 32, p⟩ : Fin 32) = r := fun p => Fin.ext (by simp only; omega)
  match lt with
  | 0 =>
    have ha : at128 0 c = ⟨0 + c.1, by omega⟩ := rfl
    pointwise [ctx, mix0, join, mask128]
    simp only [select_lane, Nat.reducePow, Nat.reduceAdd, Nat.reduceLT, dif_neg n0, dif_neg n1, dif_neg n2, dif_neg n3, dif_neg n4, dif_neg n5,
      dif_pos hr, dif_pos p0, dif_pos p1, e1, e2, e3]
    by_cases hl : 0 + c.1 < 96
    · have hh : headOf (at128 0 c) = 0 := Fin.ext (by simp only [headOf, ha]; show _ = 0; omega)
      rw [hh, if_pos ⟨by omega, hl⟩, if_pos ⟨by omega, hl⟩]
      simp only [ha, Nat.zero_add, a1, a2]
    · have hh : headOf (at128 0 c) = 1 := Fin.ext (by simp only [headOf, ha]; show _ = 1; omega)
      rw [hh, if_neg (fun h => hl h.2), if_neg (fun h => hl h.2)]
      simp only [ha, Nat.zero_add, a1, a2]
  | 1 =>
    have ha : at128 1 c = ⟨128 + c.1, by omega⟩ := rfl
    pointwise [ctx, mix0, join, mask128]
    simp only [select_lane, Nat.reducePow, Nat.reduceAdd, Nat.reduceLT, dif_neg n0, dif_neg n1, dif_neg n2, dif_neg n3, dif_neg n4, dif_neg n5,
      dif_pos hr, dif_pos p0, dif_pos p1, e1, e2, e3]
    by_cases hl : 128 + c.1 < 192
    · have hh : headOf (at128 1 c) = 1 := Fin.ext (by simp only [headOf, ha]; show _ = 1; omega)
      rw [hh, if_pos ⟨by omega, hl⟩, if_pos ⟨by omega, hl⟩]
      simp only [ha, Nat.zero_add, a1, a2]
    · have hh : headOf (at128 1 c) = 2 := Fin.ext (by simp only [headOf, ha]; show _ = 2; omega)
      rw [hh, if_neg (fun h => hl h.2), if_neg (fun h => hl h.2)]
      simp only [ha, Nat.zero_add, a1, a2]
  | 2 =>
    have ha : at128 2 c = ⟨256 + c.1, by omega⟩ := rfl
    pointwise [ctx, mix1, join, mask128]
    simp only [select_lane, Nat.reducePow, Nat.reduceAdd, Nat.reduceLT, dif_neg n0, dif_neg n1, dif_neg n2, dif_neg n3, dif_neg n4, dif_neg n5,
      dif_pos hr, dif_pos p0, dif_pos p1, e1, e2, e3]
    by_cases hl : 256 + c.1 < 288
    · have hh : headOf (at128 2 c) = 2 := Fin.ext (by simp only [headOf, ha]; show _ = 2; omega)
      rw [hh, if_pos ⟨by omega, hl⟩, if_pos ⟨by omega, hl⟩]
      simp only [ha, Nat.zero_add, a1, a2]
    · have hh : headOf (at128 2 c) = 3 := Fin.ext (by simp only [headOf, ha]; show _ = 3; omega)
      rw [hh, if_neg (fun h => hl h.2), if_neg (fun h => hl h.2)]
      simp only [ha, Nat.zero_add, a1, a2]
  | 3 =>
    have ha : at128 3 c = ⟨384 + c.1, by omega⟩ := rfl
    pointwise [ctx, mix1, join, mask128]
    simp only [select_lane, Nat.reducePow, Nat.reduceAdd, Nat.reduceLT, dif_neg n0, dif_neg n1, dif_neg n2, dif_neg n3, dif_neg n4, dif_neg n5,
      dif_pos hr, dif_pos p0, dif_pos p1, e1, e2, e3]
    by_cases hl : 384 + c.1 < 480
    · have hh : headOf (at128 3 c) = 4 := Fin.ext (by simp only [headOf, ha]; show _ = 4; omega)
      rw [hh, if_pos ⟨by omega, hl⟩, if_pos ⟨by omega, hl⟩]
      simp only [ha, Nat.zero_add, a1, a2]
    · have hh : headOf (at128 3 c) = 5 := Fin.ext (by simp only [headOf, ha]; show _ = 5; omega)
      rw [hh, if_neg (fun h => hl h.2), if_neg (fun h => hl h.2)]
      simp only [ha, Nat.zero_add, a1, a2]
  | 4 =>
    have ha : at128 4 c = ⟨512 + c.1, by omega⟩ := rfl
    pointwise [ctx, mix2, join, mask128]
    simp only [select_lane, Nat.reducePow, Nat.reduceAdd, Nat.reduceLT, dif_neg n0, dif_neg n1, dif_neg n2, dif_neg n3, dif_neg n4, dif_neg n5,
      dif_pos hr, dif_pos p0, dif_pos p1, e1, e2, e3]
    by_cases hl : 512 + c.1 < 576
    · have hh : headOf (at128 4 c) = 5 := Fin.ext (by simp only [headOf, ha]; show _ = 5; omega)
      rw [hh, if_pos ⟨by omega, hl⟩, if_pos ⟨by omega, hl⟩]
      simp only [ha, Nat.zero_add, a1, a2]
    · have hh : headOf (at128 4 c) = 6 := Fin.ext (by simp only [headOf, ha]; show _ = 6; omega)
      rw [hh, if_neg (fun h => hl h.2), if_neg (fun h => hl h.2)]
      simp only [ha, Nat.zero_add, a1, a2]
  | 5 =>
    have ha : at128 5 c = ⟨640 + c.1, by omega⟩ := rfl
    pointwise [ctx, mix2, join, mask128]
    simp only [select_lane, Nat.reducePow, Nat.reduceAdd, Nat.reduceLT, dif_neg n0, dif_neg n1, dif_neg n2, dif_neg n3, dif_neg n4, dif_neg n5,
      dif_pos hr, dif_pos p0, dif_pos p1, e1, e2, e3]
    by_cases hl : 640 + c.1 < 672
    · have hh : headOf (at128 5 c) = 6 := Fin.ext (by simp only [headOf, ha]; show _ = 6; omega)
      rw [hh, if_pos ⟨by omega, hl⟩, if_pos ⟨by omega, hl⟩]
      simp only [ha, Nat.zero_add, a1, a2]
    · have hh : headOf (at128 5 c) = 7 := Fin.ext (by simp only [headOf, ha]; show _ = 7; omega)
      rw [hh, if_neg (fun h => hl h.2), if_neg (fun h => hl h.2)]
      simp only [ha, Nat.zero_add, a1, a2]

/-- A head's weights at an index. -/
theorem probMain_apply (s : FVec Ideal S32x256 .f32) (sl : FVec Ideal S32x1 .f32) (r : Fin 32) (l : Fin 256) (S : Fin 257 → EReal)
    (hs : ∀ l : Fin 256, s (ix2 r l) * Ideal.ofBits .f32 0x3DD105EC#32 = S l.castSucc) (hl : sl (ix2 r 0) = S (Fin.last 256)) :
    probMain s sl (ix2 r l) = Spec.ex S l.castSucc * Ideal.div 1 (∑ l, Spec.ex S l) := by
  pointwise [probMain, expMain, inv, expLast, top, scaled]
  simp only [hs, hl, ← fold_last, ← Fin.sum_univ_castSucc (fun l => Ideal.exp (S l - Spec.fmax S))]
  rfl

/-- The last token's weight at an index. -/
theorem probLast_apply (s : FVec Ideal S32x256 .f32) (sl : FVec Ideal S32x1 .f32) (r : Fin 32) (S : Fin 257 → EReal)
    (hs : ∀ l : Fin 256, s (ix2 r l) * Ideal.ofBits .f32 0x3DD105EC#32 = S l.castSucc) (hl : sl (ix2 r 0) = S (Fin.last 256)) :
    probLast s sl (ix2 r 0) = Spec.ex S (Fin.last 256) * Ideal.div 1 (∑ l, Spec.ex S l) := by
  pointwise [probLast, expMain, inv, expLast, top, scaled]
  simp only [hs, hl, ← fold_last, ← Fin.sum_univ_castSucc (fun l => Ideal.exp (S l - Spec.fmax S))]
  rfl

/-- The context of an image is attention over its 257 tokens: the 256 first and the last. -/
theorem ctx_eq (q : FVec Ideal S32x768 .bf16) (k v : FVec Ideal S256x768 .bf16) (kl : FVec Ideal S1x768 .f32) (vl : FVec Ideal S1x128 .f32)
    (lt : Fin 6) (r : Fin 32) (c : Fin 128) (Q : Spec.Row) (K W : Fin 257 → Spec.Row)
    (hq : ∀ j, q (ix2 r j) = Q j) (hk : ∀ (l : Fin 256) j, k (ix2 l j) = K l.castSucc j) (hkl : ∀ j, kl (ix2 0 j) = K (Fin.last 256) j)
    (hv : ∀ (l : Fin 256) j, v (ix2 l j) = W l.castSucc j) (hvl : vl (ix2 0 c) = W (Fin.last 256) (at128 lt c)) :
    ctx q k v kl vl lt (ix2 r c) = Spec.context Q K W (at128 lt c) := by
  have hs : ∀ l : Fin 256, score q k (headOf (at128 lt c)) (ix2 r l) * Ideal.ofBits .f32 0x3DD105EC#32
      = Spec.scores Q K (headOf (at128 lt c)) l.castSucc := by
    intro l
    rw [score_apply]
    simp only [hq, hk]
    rfl
  have hl : lastScore q kl (headOf (at128 lt c)) (ix2 r 0) = Spec.scores Q K (headOf (at128 lt c)) (Fin.last 256) := by
    rw [lastScore_apply]
    simp only [hq, hkl]
    rfl
  rw [ctx_apply]
  unfold pm pl
  simp only [probMain_apply _ _ _ _ _ hs hl, probLast_apply _ _ _ _ hs hl, hv, hvl]
  exact (Fin.sum_univ_castSucc (fun l => Spec.ex (Spec.scores Q K (headOf (at128 lt c))) l * Ideal.div 1 (∑ l, Spec.ex (Spec.scores Q K (headOf (at128 lt c))) l)
    * W l (at128 lt c))).symm

end Cert.KernelIdeal.Cross

end
-- ==== Proof.Ker.Block.lean ====
/- What one grid point computes, up to the rows after the cross-attention, in terms of its blocks. -/
module

public import proofs.«01_k».proof.Proof.Ker.Tail
public import proofs.«01_k».proof.Proof.Ker.SelfVal
public import proofs.«01_k».proof.Proof.Ker.CrossVal
public import Idealize.ShloMosaic.Lib.Pipeline.Value
public import Idealize.ShloMosaic.Lib.Pipeline.FrameBody
public import Idealize.ShloMosaic.Lib.Pipeline.ValueKit.Tiles

@[expose] public section

noncomputable section

namespace Cert.KernelIdeal.Gen

open Cert.KernelIdeal Cert.KernelIdeal.Gen Cert.Spec Cert.Band Idealize.ShloMosaic Idealize.SL.Sem

/-- A load through a whole buffer reads its contents. -/
theorem rd {sp : Space} {S : Shape} {e : EltTy} (a : Memref sig .tc sp S e) (h : a.IsWhole) (x : S.Idx → Elt Ideal e) (r : Rect S) :
    View.readAt (Elt Ideal) a.view r.toLoadRect (h.unread x) = View.ld x r := by
  rw [View.readAt_eq_ld, h.read_unread]

namespace Blk

variable (s : Blk Ideal)

/-- The layer's weights. -/
def params : Params where
  wq := fun i j => s.x3 (ix2 i j)
  wk := fun i j => s.x4 (ix2 i j)
  wv := fun i j => s.x5 (ix2 i j)
  wo := fun i j => s.x6 (ix2 i j)
  bq := fun j => s.x7 (ix2 0 j)
  bv := fun j => s.x8 (ix2 0 j)
  bo := fun j => s.x9 (ix2 0 j)
  g1 := fun j => s.x10 (ix2 0 j)
  b1 := fun j => s.x11 (ix2 0 j)
  wcq := fun i j => s.x12 (ix2 i j)
  wco := fun i j => s.x13 (ix2 i j)
  bcq := fun j => s.x14 (ix2 0 j)
  bco := fun j => s.x15 (ix2 0 j)
  wck := fun i j => s.x16 (ix2 i j)
  wcv := fun i j => s.x17 (ix2 i j)
  sck := fun j => s.x18 (ix2 0 j)
  scv := fun j => s.x19 (ix2 0 j)
  bcv := fun j => s.x20 (ix2 0 j)
  g2 := fun j => s.x21 (ix2 0 j)
  b2 := fun j => s.x22 (ix2 0 j)
  wf1 := fun i j => s.x23 (ix2 i j)
  sf1 := fun j => s.x24 (ix2 0 j)
  bf1 := fun j => s.x25 (ix2 0 j)
  wf2 := fun i j => s.x26 (ix2 i j)
  sf2 := fun j => s.x27 (ix2 0 j)
  bf2 := fun j => s.x28 (ix2 0 j)
  g3 := fun j => s.x29 (ix2 0 j)
  b3 := fun j => s.x30 (ix2 0 j)

/-- Token `r` of the block's image `b`. -/
def X (b : Fin 8) (r : Fin 32) : Row := fun c => s.x0 (ix2 ⟨32 * b.1 + r.1, by omega⟩ c)
/-- The codes of image `b`. -/
def codes (b : Fin 8) (l : Fin 257) : Fin 1408 → EReal := fun j => s.x1 (ix3 b l j)
/-- The scales of image `b`'s codes. -/
def tok (b : Fin 8) (l : Fin 257) : EReal := s.x2 (ix2 b l)
/-- A row's image. -/
def img (n : Fin 256) : Fin 8 := ⟨n.1 / 32, by omega⟩
/-- A row's token. -/
def tokOf (n : Fin 256) : Fin 32 := ⟨n.1 % 32, by omega⟩

theorem x0_eq (n : Fin 256) (c : Fin 768) : s.x0 (ix2 n c) = s.X (img n) (tokOf n) c := by
  show s.x0 (ix2 n c) = s.x0 (ix2 ⟨32 * (n.1 / 32) + n.1 % 32, _⟩ c)
  congr 2
  apply Fin.ext
  simp only
  omega

theorem r1_val (n : Fin 256) (c : Fin 768) : s.r1 (ix2 n c) = Spec.sq s.params (s.X (img n) (tokOf n)) c := by
  have e : (fun c => s.x0 (ix2 n c)) = s.X (img n) (tokOf n) := funext fun c => s.x0_eq n c
  rw [← e]
  unfold Blk.r1 kernelRun0_A.sl.r_1
  simp only [rd]
  pointwise [k0_pay3, k0_pay2]
  rfl

theorem r2_val (n : Fin 256) (c : Fin 768) : s.r2 (ix2 n c) = sk s.params (s.X (img n) (tokOf n)) c := by
  have e : (fun c => s.x0 (ix2 n c)) = s.X (img n) (tokOf n) := funext fun c => s.x0_eq n c
  rw [← e]
  unfold Blk.r2 kernelRun0_A.sl.r_2
  simp only [rd]
  pointwise [k0_pay4, k0_pay2]
  rfl

theorem r3_val (n : Fin 256) (c : Fin 768) : s.r3 (ix2 n c) = sv s.params (s.X (img n) (tokOf n)) c := by
  have e : (fun c => s.x0 (ix2 n c)) = s.X (img n) (tokOf n) := funext fun c => s.x0_eq n c
  rw [← e]
  unfold Blk.r3 kernelRun0_A.sl.r_3
  simp only [rd]
  pointwise [k0_pay5, k0_pay2]
  rfl

theorem hq_val (i : Fin 2) (t : Fin 3) (r : Fin 128) (x : Fin 256) :
    s.hq i t (ix2 r x) = s.r1 (ix2 ⟨128 * i.1 + r.1, by omega⟩ ⟨256 * t.1 + x.1, by omega⟩) := by
  fin_cases i <;> fin_cases t <;> (dsimp only [Blk.hq]; generalize s.r1 = z; pointwise []) <;>
    (congr 2 <;> (apply Fin.ext; simp <;> omega))

theorem hk_val (i : Fin 2) (t : Fin 3) (r : Fin 128) (x : Fin 256) :
    s.hk i t (ix2 r x) = s.r2 (ix2 ⟨128 * i.1 + r.1, by omega⟩ ⟨256 * t.1 + x.1, by omega⟩) := by
  fin_cases i <;> fin_cases t <;> (dsimp only [Blk.hk]; generalize s.r2 = z; pointwise []) <;>
    (congr 2 <;> (apply Fin.ext; simp <;> omega))

theorem hv_val (i : Fin 2) (lt : Fin 6) (r x : Fin 128) :
    s.hv i lt (ix2 r x) = s.r3 (ix2 ⟨128 * i.1 + r.1, by omega⟩ (at128 lt x)) := by
  fin_cases i <;> fin_cases lt <;> (dsimp only [Blk.hv]; generalize s.r3 = z; pointwise [at128]) <;>
    (congr 2 <;> (apply Fin.ext; simp <;> omega))

set_option maxHeartbeats 1000000 in
theorem k_val (b : Fin 8) (l : Fin 256) (c : Fin 768) :
    s.k b (ix2 l c) = ck s.params (s.codes b l.castSucc) (s.tok b l.castSucc) c := by
  fin_cases b
  · show s.r87 _ = _
    unfold Blk.r87 kernelRun0_A.sl.r_87 kernelRun0_A.sl.r_77
    simp only [rd]
    pointwise [k0_pay128, k0_pay126, k0_pay127, k0_pay115]
    rfl
  · show s.r135 _ = _
    unfold Blk.r135 kernelRun0_A.sl.r_135 kernelRun0_A.sl.r_77
    simp only [rd]
    pointwise [k0_pay237, k0_pay235, k0_pay236, k0_pay115]
    rfl
  · show s.r187 _ = _
    unfold Blk.r187 kernelRun0_A.sl.r_187 kernelRun0_A.sl.r_185 kernelRun0_A.sl.r_186 kernelRun0_A.sl.r_77
    simp only [rd]
    pointwise [k0_pay345, k0_pay346, k0_pay347, k0_pay348, k0_pay115]
    rfl
  · show s.r249 _ = _
    unfold Blk.r249 kernelRun0_A.sl.r_249 kernelRun0_A.sl.r_248 kernelRun0_A.sl.r_77
    simp only [rd]
    pointwise [k0_pay460, k0_pay461, k0_pay462, k0_pay463, k0_pay115]
    rfl
  · show s.r306 _ = _
    unfold Blk.r306 kernelRun0_A.sl.r_306 kernelRun0_A.sl.r_77
    simp only [rd]
    pointwise [k0_pay578, k0_pay576, k0_pay577, k0_pay115]
    rfl
  · show s.r359 _ = _
    unfold Blk.r359 kernelRun0_A.sl.r_359 kernelRun0_A.sl.r_77
    simp only [rd]
    pointwise [k0_pay695, k0_pay693, k0_pay694, k0_pay115]
    rfl
  · show s.r414 _ = _
    unfold Blk.r414 kernelRun0_A.sl.r_414 kernelRun0_A.sl.r_77
    simp only [rd]
    pointwise [k0_pay809, k0_pay807, k0_pay808, k0_pay115]
    rfl
  · show s.r464 _ = _
    unfold Blk.r464 kernelRun0_A.sl.r_464 kernelRun0_A.sl.r_77
    simp only [rd]
    pointwise [k0_pay921, k0_pay919, k0_pay920, k0_pay115]
    rfl

set_option maxHeartbeats 1000000 in
theorem v_val (b : Fin 8) (l : Fin 256) (c : Fin 768) :
    s.v b (ix2 l c) = cv s.params (s.codes b l.castSucc) (s.tok b l.castSucc) c := by
  fin_cases b
  · show s.r88 _ = _
    unfold Blk.r88 kernelRun0_A.sl.r_88 kernelRun0_A.sl.r_77
    simp only [rd]
    pointwise [k0_pay129, k0_pay126, k0_pay127, k0_pay115]
    rfl
  · show s.r136 _ = _
    unfold Blk.r136 kernelRun0_A.sl.r_136 kernelRun0_A.sl.r_77
    simp only [rd]
    pointwise [k0_pay238, k0_pay235, k0_pay236, k0_pay115]
    rfl
  · show s.r188 _ = _
    unfold Blk.r188 kernelRun0_A.sl.r_188 kernelRun0_A.sl.r_184 kernelRun0_A.sl.r_185 kernelRun0_A.sl.r_77
    simp only [rd]
    pointwise [k0_pay345, k0_pay346, k0_pay349, k0_pay115]
    rfl
  · show s.r250 _ = _
    unfold Blk.r250 kernelRun0_A.sl.r_250 kernelRun0_A.sl.r_246 kernelRun0_A.sl.r_247 kernelRun0_A.sl.r_77
    simp only [rd]
    pointwise [k0_pay460, k0_pay461, k0_pay464, k0_pay115]
    rfl
  · show s.r308 _ = _
    unfold Blk.r308 kernelRun0_A.sl.r_308 kernelRun0_A.sl.r_307 kernelRun0_A.sl.r_77
    simp only [rd]
    pointwise [k0_pay576, k0_pay577, k0_pay579, k0_pay580, k0_pay115]
    rfl
  · show s.r361 _ = _
    unfold Blk.r361 kernelRun0_A.sl.r_361 kernelRun0_A.sl.r_360 kernelRun0_A.sl.r_77
    simp only [rd]
    pointwise [k0_pay693, k0_pay694, k0_pay696, k0_pay697, k0_pay115]
    rfl
  · show s.r415 _ = _
    unfold Blk.r415 kernelRun0_A.sl.r_415 kernelRun0_A.sl.r_77
    simp only [rd]
    pointwise [k0_pay810, k0_pay807, k0_pay808, k0_pay115]
    rfl
  · show s.r465 _ = _
    unfold Blk.r465 kernelRun0_A.sl.r_465 kernelRun0_A.sl.r_77
    simp only [rd]
    pointwise [k0_pay922, k0_pay919, k0_pay920, k0_pay115]
    rfl

set_option maxHeartbeats 1000000 in
theorem r85_val (b : Fin 8) (c : Fin 768) :
    s.r85 (ix2 b c) = ck s.params (s.codes b (Fin.last 256)) (s.tok b (Fin.last 256)) c := by
  unfold Blk.r85 kernelRun0_A.sl.r_85 kernelRun0_A.sl.r_82 kernelRun0_A.sl.r_81 kernelRun0_A.sl.r_80 kernelRun0_A.sl.r_79 kernelRun0_A.sl.r_78
  simp only [rd]
  pointwise [k0_pay116, k0_pay117, k0_pay118, k0_pay119, k0_pay120, k0_pay121, k0_pay122, k0_pay123, k0_pay124, k0_pay125]
  fin_cases b <;> rfl

set_option maxHeartbeats 1000000 in
theorem r86_val (b : Fin 8) (c : Fin 768) :
    s.r86 (ix2 b c) = cv s.params (s.codes b (Fin.last 256)) (s.tok b (Fin.last 256)) c := by
  unfold Blk.r86 kernelRun0_A.sl.r_86 kernelRun0_A.sl.r_84 kernelRun0_A.sl.r_83 kernelRun0_A.sl.r_81 kernelRun0_A.sl.r_80 kernelRun0_A.sl.r_79 kernelRun0_A.sl.r_78
  simp only [rd]
  pointwise [k0_pay116, k0_pay117, k0_pay118, k0_pay119, k0_pay120, k0_pay121, k0_pay122, k0_pay123, k0_pay124, k0_pay125]
  fin_cases b <;> rfl

theorem q_val (b : Fin 8) (r : Fin 32) (x : Fin 768) : s.q b (ix2 r x) = s.r76 (ix2 ⟨32 * b.1 + r.1, by omega⟩ x) := by
  fin_cases b <;> (dsimp only [Blk.q]; generalize s.r76 = z; pointwise []) <;>
    (congr 2 <;> (apply Fin.ext; simp <;> omega))

theorem kl_val (b : Fin 8) (x : Fin 768) : s.kl b (ix2 0 x) = s.r85 (ix2 b x) := by
  fin_cases b <;> (dsimp only [Blk.kl]; generalize s.r85 = z; pointwise []) <;> rfl

theorem vl_val (b : Fin 8) (lt : Fin 6) (x : Fin 128) : s.vl b lt (ix2 0 x) = s.r86 (ix2 b (at128 lt x)) := by
  fin_cases b <;> fin_cases lt <;> (dsimp only [Blk.vl]; generalize s.r86 = z; pointwise [at128]) <;>
    (congr 2 <;> (apply Fin.ext; simp <;> omega))

end Blk

end Cert.KernelIdeal.Gen

end
-- ==== Proof.Ker.Block2.lean ====
/- The two attentions' contexts of one grid point, put together from their pieces, and the rows after each. -/
module

public import proofs.«01_k».proof.Proof.Ker.Block

@[expose] public section

noncomputable section

namespace Cert.KernelIdeal.Gen

open Cert.KernelIdeal Cert.KernelIdeal.Gen Cert.Spec Cert.Band Idealize.ShloMosaic Idealize.SL.Sem

/-- Of two lists of stores, where the later ones hold an index and agree there, the earlier ones do not matter. -/
theorem canon_append {S : Shape} {e : EltTy} (M : List (View.Piece (Elt Ideal) S e)) : ∀ (L : List (View.Piece (Elt Ideal) S e)) (y : S.Idx) (v : Elt Ideal e),
    (∃ p ∈ L, y ∈ p.1.set) → View.AllAt L y v → View.canon (L ++ M) y = v
  | [], _, _, hc, _ => by obtain ⟨p, hp, _⟩ := hc; exact absurd hp List.not_mem_nil
  | p :: L, y, v, hc, h => by
    rw [List.cons_append]
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine canon_append M L y v ?_ fun q hq => h q (List.mem_cons_of_mem _ hq)
      obtain ⟨q, hq, hyq⟩ := hc
      rcases List.mem_cons.mp hq with rfl | hq'
      · exact absurd hyq hm
      · exact ⟨q, hq', hyq⟩

namespace Blk

variable (s : Blk Ideal)

/-- The self-attention's scores are real numbers. -/
def Fin1 : Prop := ∀ b r h a, ∃ t : ℝ, scores (Spec.sq s.params (s.X b r)) (fun l => sk s.params (s.X b l)) h a = t

theorem selfPiece (hf : s.Fin1) (i : Fin 2) (lt : Fin 6) (o0 o1 : ℕ) (h0 : o0 = 128 * i.1) (h1 : o1 = 128 * lt.1) (n : Fin 256) (c : Fin 768) :
    View.TileAt (S := S256x768) (Val := Elt Ideal) (e := .bf16) (ix2 n c) ![o0, o1] ![128, 128]
      (SelfAtt.ctx kernelRun0_A.sl.r_4 (s.hq i) (s.hk i) (s.hv i lt) lt) (sctx s.params (s.X (img n)) (tokOf n) c) := by
  intro x hx
  obtain ⟨r, d, rfl⟩ : ∃ r d, x = ix2 (n0 := 128) (n1 := 128) r d := ⟨x 0, x 1, funext fun a => by fin_cases a <;> rfl⟩
  have e0 : n.1 = o0 + r.1 := hx 0
  have e1 : c.1 = o1 + d.1 := hx 1
  have hc : c = at128 lt d := Fin.ext (by show c.1 = 128 * lt.1 + d.1; omega)
  have hn : n = ⟨128 * i.1 + r.1, by omega⟩ := Fin.ext (by show n.1 = 128 * i.1 + r.1; omega)
  rw [hc]
  unfold sctx
  refine SelfAtt.ctx_eq _ _ _ lt r d _ _ _ ?_ ?_ ?_ (hf (img n) (tokOf n))
  · intro t x
    rw [hq_val, r1_val, ← hn]
  · intro l hl t x
    rw [hk_val, r2_val]
    have a : img ⟨128 * i.1 + l.1, by omega⟩ = img n := Fin.ext (by show (128 * i.1 + l.1) / 32 = n.1 / 32; omega)
    have b : tokOf ⟨128 * i.1 + l.1, by omega⟩ = ⟨l.1 % 32, by omega⟩ := Fin.ext (by show (128 * i.1 + l.1) % 32 = l.1 % 32; omega)
    rw [a, b]
  · intro l hl
    rw [hv_val, r3_val]
    have a : img ⟨128 * i.1 + l.1, by omega⟩ = img n := Fin.ext (by show (128 * i.1 + l.1) / 32 = n.1 / 32; omega)
    have b : tokOf ⟨128 * i.1 + l.1, by omega⟩ = ⟨l.1 % 32, by omega⟩ := Fin.ext (by show (128 * i.1 + l.1) % 32 = l.1 % 32; omega)
    rw [a, b]

theorem ctx1 (hf : s.Fin1) (n : Fin 256) (c : Fin 768) : View.canon s.HS012 (ix2 n c) = sctx s.params (s.X (img n)) (tokOf n) c := by
  rw [pieces12]
  refine View.canon_eq_of_allAt _ _ _ (View.cover_of_tiled_head _ _ _ (by rfl) _) ?_
  repeat' (first | exact View.allAt_nil _ _ | refine View.allAt_cons_unit _ _ _ _ _ (by exact s.selfPiece hf _ _ _ _ (by rfl) (by rfl) n c) ?_)

/-- A load of a whole buffer after some stores reads what the stores leave. -/
theorem readWhole (a : Memref sig .tc .vmem S256x768 .bf16) (L : List (View.Piece (Elt Ideal) S256x768 .bf16)) :
    View.readCov a.view L (Rect.unit ![0, 0] S256x768.size inb_S256x768_S256x768_0_0).toLoadRect = View.canon L :=
  (View.readCov_eq_canon' _ _ _).trans (View.ld_unit_zero (funext fun a => by fin_cases a <;> rfl) _ (View.canon L))

theorem r75_val (hf : s.Fin1) (n : Fin 256) (c : Fin 768) : s.r75 (ix2 n c) = h1 s.params (s.X (img n)) (tokOf n) c := by
  have e : (fun c => s.x0 (ix2 n c)) = s.X (img n) (tokOf n) := funext fun c => s.x0_eq n c
  unfold h1 post1
  rw [← e, ← show (fun c => View.canon s.HS012 (ix2 n c)) = sctx s.params (s.X (img n)) (tokOf n) from funext fun c => s.ctx1 hf n c]
  unfold Blk.r75 kernelRun0_A.sl.r_75 kernelRun0_A.sl.r_71 kernelRun0_A.sl.r_72 kernelRun0_A.sl.r_73 kernelRun0_A.sl.r_74 kernelRun0_A.sl.v966 kernelRun0_A.sl.r
  rw [Tail.post1_apply, readWhole]
  simp only [rd]
  pointwise [k0_pay2]
  rfl

theorem r76_val (hf : s.Fin1) (n : Fin 256) (c : Fin 768) :
    s.r76 (ix2 n c) = cq s.params (h1 s.params (s.X (img n)) (tokOf n)) c := by
  unfold cq
  rw [← show (fun c => s.r75 (ix2 n c)) = h1 s.params (s.X (img n)) (tokOf n) from funext fun c => s.r75_val hf n c]
  unfold Blk.r76 kernelRun0_A.sl.r_76
  rw [Tail.cq_apply]
  change lin _ (fun c => s.r75 (ix2 n c)) c + _ = _
  generalize s.r75 = z
  simp only [rd]
  pointwise []
  rfl

/-- The stores of the cross-attention's context. -/
def crossPieces : List (View.Piece (Elt Ideal) S256x768 .bf16) :=
  [⟨Rect.unit ![224, 640] ![32, 128] (by decide), Cross.ctx (s.q 7) (s.k 7) (s.v 7) (s.kl 7) (s.vl 7 5) 5⟩,
   ⟨Rect.unit ![224, 512] ![32, 128] (by decide), Cross.ctx (s.q 7) (s.k 7) (s.v 7) (s.kl 7) (s.vl 7 4) 4⟩,
   ⟨Rect.unit ![224, 384] ![32, 128] (by decide), Cross.ctx (s.q 7) (s.k 7) (s.v 7) (s.kl 7) (s.vl 7 3) 3⟩,
   ⟨Rect.unit ![224, 256] ![32, 128] (by decide), Cross.ctx (s.q 7) (s.k 7) (s.v 7) (s.kl 7) (s.vl 7 2) 2⟩,
   ⟨Rect.unit ![224, 128] ![32, 128] (by decide), Cross.ctx (s.q 7) (s.k 7) (s.v 7) (s.kl 7) (s.vl 7 1) 1⟩,
   ⟨Rect.unit ![224, 0] ![32, 128] (by decide), Cross.ctx (s.q 7) (s.k 7) (s.v 7) (s.kl 7) (s.vl 7 0) 0⟩,
   ⟨Rect.unit ![192, 640] ![32, 128] (by decide), Cross.ctx (s.q 6) (s.k 6) (s.v 6) (s.kl 6) (s.vl 6 5) 5⟩,
   ⟨Rect.unit ![192, 512] ![32, 128] (by decide), Cross.ctx (s.q 6) (s.k 6) (s.v 6) (s.kl 6) (s.vl 6 4) 4⟩,
   ⟨Rect.unit ![192, 384] ![32, 128] (by decide), Cross.ctx (s.q 6) (s.k 6) (s.v 6) (s.kl 6) (s.vl 6 3) 3⟩,
   ⟨Rect.unit ![192, 256] ![32, 128] (by decide), Cross.ctx (s.q 6) (s.k 6) (s.v 6) (s.kl 6) (s.vl 6 2) 2⟩,
   ⟨Rect.unit ![192, 128] ![32, 128] (by decide), Cross.ctx (s.q 6) (s.k 6) (s.v 6) (s.kl 6) (s.vl 6 1) 1⟩,
   ⟨Rect.unit ![192, 0] ![32, 128] (by decide), Cross.ctx (s.q 6) (s.k 6) (s.v 6) (s.kl 6) (s.vl 6 0) 0⟩,
   ⟨Rect.unit ![160, 640] ![32, 128] (by decide), Cross.ctx (s.q 5) (s.k 5) (s.v 5) (s.kl 5) (s.vl 5 5) 5⟩,
   ⟨Rect.unit ![160, 512] ![32, 128] (by decide), Cross.ctx (s.q 5) (s.k 5) (s.v 5) (s.kl 5) (s.vl 5 4) 4⟩,
   ⟨Rect.unit ![160, 384] ![32, 128] (by decide), Cross.ctx (s.q 5) (s.k 5) (s.v 5) (s.kl 5) (s.vl 5 3) 3⟩,
   ⟨Rect.unit ![160, 256] ![32, 128] (by decide), Cross.ctx (s.q 5) (s.k 5) (s.v 5) (s.kl 5) (s.vl 5 2) 2⟩,
   ⟨Rect.unit ![160, 128] ![32, 128] (by decide), Cross.ctx (s.q 5) (s.k 5) (s.v 5) (s.kl 5) (s.vl 5 1) 1⟩,
   ⟨Rect.unit ![160, 0] ![32, 128] (by decide), Cross.ctx (s.q 5) (s.k 5) (s.v 5) (s.kl 5) (s.vl 5 0) 0⟩,
   ⟨Rect.unit ![128, 640] ![32, 128] (by decide), Cross.ctx (s.q 4) (s.k 4) (s.v 4) (s.kl 4) (s.vl 4 5) 5⟩,
   ⟨Rect.unit ![128, 512] ![32, 128] (by decide), Cross.ctx (s.q 4) (s.k 4) (s.v 4) (s.kl 4) (s.vl 4 4) 4⟩,
   ⟨Rect.unit ![128, 384] ![32, 128] (by decide), Cross.ctx (s.q 4) (s.k 4) (s.v 4) (s.kl 4) (s.vl 4 3) 3⟩,
   ⟨Rect.unit ![128, 256] ![32, 128] (by decide), Cross.ctx (s.q 4) (s.k 4) (s.v 4) (s.kl 4) (s.vl 4 2) 2⟩,
   ⟨Rect.unit ![128, 128] ![32, 128] (by decide), Cross.ctx (s.q 4) (s.k 4) (s.v 4) (s.kl 4) (s.vl 4 1) 1⟩,
   ⟨Rect.unit ![128, 0] ![32, 128] (by decide), Cross.ctx (s.q 4) (s.k 4) (s.v 4) (s.kl 4) (s.vl 4 0) 0⟩,
   ⟨Rect.unit ![96, 640] ![32, 128] (by decide), Cross.ctx (s.q 3) (s.k 3) (s.v 3) (s.kl 3) (s.vl 3 5) 5⟩,
   ⟨Rect.unit ![96, 512] ![32, 128] (by decide), Cross.ctx (s.q 3) (s.k 3) (s.v 3) (s.kl 3) (s.vl 3 4) 4⟩,
   ⟨Rect.unit ![96, 384] ![32, 128] (by decide), Cross.ctx (s.q 3) (s.k 3) (s.v 3) (s.kl 3) (s.vl 3 3) 3⟩,
   ⟨Rect.unit ![96, 256] ![32, 128] (by decide), Cross.ctx (s.q 3) (s.k 3) (s.v 3) (s.kl 3) (s.vl 3 2) 2⟩,
   ⟨Rect.unit ![96, 128] ![32, 128] (by decide), Cross.ctx (s.q 3) (s.k 3) (s.v 3) (s.kl 3) (s.vl 3 1) 1⟩,
   ⟨Rect.unit ![96, 0] ![32, 128] (by decide), Cross.ctx (s.q 3) (s.k 3) (s.v 3) (s.kl 3) (s.vl 3 0) 0⟩,
   ⟨Rect.unit ![64, 640] ![32, 128] (by decide), Cross.ctx (s.q 2) (s.k 2) (s.v 2) (s.kl 2) (s.vl 2 5) 5⟩,
   ⟨Rect.unit ![64, 512] ![32, 128] (by decide), Cross.ctx (s.q 2) (s.k 2) (s.v 2) (s.kl 2) (s.vl 2 4) 4⟩,
   ⟨Rect.unit ![64, 384] ![32, 128] (by decide), Cross.ctx (s.q 2) (s.k 2) (s.v 2) (s.kl 2) (s.vl 2 3) 3⟩,
   ⟨Rect.unit ![64, 256] ![32, 128] (by decide), Cross.ctx (s.q 2) (s.k 2) (s.v 2) (s.kl 2) (s.vl 2 2) 2⟩,
   ⟨Rect.unit ![64, 128] ![32, 128] (by decide), Cross.ctx (s.q 2) (s.k 2) (s.v 2) (s.kl 2) (s.vl 2 1) 1⟩,
   ⟨Rect.unit ![64, 0] ![32, 128] (by decide), Cross.ctx (s.q 2) (s.k 2) (s.v 2) (s.kl 2) (s.vl 2 0) 0⟩,
   ⟨Rect.unit ![32, 640] ![32, 128] (by decide), Cross.ctx (s.q 1) (s.k 1) (s.v 1) (s.kl 1) (s.vl 1 5) 5⟩,
   ⟨Rect.unit ![32, 512] ![32, 128] (by decide), Cross.ctx (s.q 1) (s.k 1) (s.v 1) (s.kl 1) (s.vl 1 4) 4⟩,
   ⟨Rect.unit ![32, 384] ![32, 128] (by decide), Cross.ctx (s.q 1) (s.k 1) (s.v 1) (s.kl 1) (s.vl 1 3) 3⟩,
   ⟨Rect.unit ![32, 256] ![32, 128] (by decide), Cross.ctx (s.q 1) (s.k 1) (s.v 1) (s.kl 1) (s.vl 1 2) 2⟩,
   ⟨Rect.unit ![32, 128] ![32, 128] (by decide), Cross.ctx (s.q 1) (s.k 1) (s.v 1) (s.kl 1) (s.vl 1 1) 1⟩,
   ⟨Rect.unit ![32, 0] ![32, 128] (by decide), Cross.ctx (s.q 1) (s.k 1) (s.v 1) (s.kl 1) (s.vl 1 0) 0⟩,
   ⟨Rect.unit ![0, 640] ![32, 128] (by decide), Cross.ctx (s.q 0) (s.k 0) (s.v 0) (s.kl 0) (s.vl 0 5) 5⟩,
   ⟨Rect.unit ![0, 512] ![32, 128] (by decide), Cross.ctx (s.q 0) (s.k 0) (s.v 0) (s.kl 0) (s.vl 0 4) 4⟩,
   ⟨Rect.unit ![0, 384] ![32, 128] (by decide), Cross.ctx (s.q 0) (s.k 0) (s.v 0) (s.kl 0) (s.vl 0 3) 3⟩,
   ⟨Rect.unit ![0, 256] ![32, 128] (by decide), Cross.ctx (s.q 0) (s.k 0) (s.v 0) (s.kl 0) (s.vl 0 2) 2⟩,
   ⟨Rect.unit ![0, 128] ![32, 128] (by decide), Cross.ctx (s.q 0) (s.k 0) (s.v 0) (s.kl 0) (s.vl 0 1) 1⟩,
   ⟨Rect.unit ![0, 0] ![32, 128] (by decide), Cross.ctx (s.q 0) (s.k 0) (s.v 0) (s.kl 0) (s.vl 0 0) 0⟩]

set_option maxHeartbeats 2000000 in
theorem pieces : s.HS060 = s.crossPieces ++ s.HS012 := by
  rw [pieces60, pieces54, pieces20]
  rfl

theorem crossPiece (hf : s.Fin1) (b : Fin 8) (lt : Fin 6) (o0 o1 : ℕ) (h0 : o0 = 32 * b.1) (h1' : o1 = 128 * lt.1) (n : Fin 256) (c : Fin 768) :
    View.TileAt (S := S256x768) (Val := Elt Ideal) (e := .bf16) (ix2 n c) ![o0, o1] ![32, 128]
      (Cross.ctx (s.q b) (s.k b) (s.v b) (s.kl b) (s.vl b lt) lt)
      (cctx s.params (h1 s.params (s.X (img n)) (tokOf n)) (s.codes (img n)) (s.tok (img n)) c) := by
  intro x hx
  obtain ⟨r, d, rfl⟩ : ∃ r d, x = ix2 (n0 := 32) (n1 := 128) r d := ⟨x 0, x 1, funext fun a => by fin_cases a <;> rfl⟩
  have e0 : n.1 = o0 + r.1 := hx 0
  have e1 : c.1 = o1 + d.1 := hx 1
  have hc : c = at128 lt d := Fin.ext (by show c.1 = 128 * lt.1 + d.1; omega)
  have hn : n = ⟨32 * b.1 + r.1, by omega⟩ := Fin.ext (by show n.1 = 32 * b.1 + r.1; omega)
  have hb : img n = b := Fin.ext (by show n.1 / 32 = b.1; omega)
  rw [hc]
  unfold cctx
  rw [hb]
  refine Cross.ctx_eq _ _ _ _ _ lt r d _ _ _ ?_ ?_ ?_ ?_ ?_
  · intro j
    rw [q_val, ← hn, r76_val s hf, hb]
  · intro l j
    exact s.k_val b l j
  · intro j
    rw [kl_val]
    exact s.r85_val b j
  · intro l j
    exact s.v_val b l j
  · rw [vl_val]
    exact s.r86_val b _

set_option maxHeartbeats 1000000 in
theorem ctx2 (hf : s.Fin1) (n : Fin 256) (c : Fin 768) : View.canon s.HS060 (ix2 n c)
    = cctx s.params (h1 s.params (s.X (img n)) (tokOf n)) (s.codes (img n)) (s.tok (img n)) c := by
  rw [pieces]
  refine canon_append _ _ _ _ (View.cover_of_tiled_head _ _ _ (by rfl) _) ?_
  unfold crossPieces
  repeat' (first | exact View.allAt_nil _ _ | refine View.allAt_cons_unit _ _ _ _ _ (by exact s.crossPiece hf _ _ _ _ (by rfl) (by rfl) n c) ?_)

/-- The rows after the cross-attention. -/
def h2row (n : Fin 256) : Row := h2 s.params (s.X (img n)) (s.codes (img n)) (s.tok (img n)) (tokOf n)

end Blk

end Cert.KernelIdeal.Gen

end
-- ==== Proof.Ker.Block3.lean ====
/- The rows after the cross-attention of one grid point, their codes, and the feed-forward part. -/
module

public import proofs.«01_k».proof.Proof.Ker.Block2

@[expose] public section

noncomputable section

namespace Cert.KernelIdeal.Gen

open Cert.KernelIdeal Cert.KernelIdeal.Gen Cert.Spec Cert.Band Idealize.ShloMosaic Idealize.SL.Sem

variable (s : Blk Ideal)

/-- The rows after the cross-attention. -/
def Blk.r511 : FVec Ideal S256x768 .f32 := kernelRun0_A.sl.r_511 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg37 s.x0 s.x1 s.x2 s.x3 s.x4 s.x5 s.x6 s.x7 s.x8 s.x9 s.x10 s.x11 s.x12 s.x13 s.x14 s.x15 s.x16 s.x17 s.x18 s.x19 s.x20 s.x21 s.x22

/-- Their peaks. -/
def Blk.r512 : FVec Ideal S256x1 .f32 := kernelRun0_A.sl.r_512 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg37 s.x0 s.x1 s.x2 s.x3 s.x4 s.x5 s.x6 s.x7 s.x8 s.x9 s.x10 s.x11 s.x12 s.x13 s.x14 s.x15 s.x16 s.x17 s.x18 s.x19 s.x20 s.x21 s.x22

/-- Their scales. -/
def Blk.r513 : FVec Ideal S256x1 .f32 := kernelRun0_A.sl.r_513 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg37 s.x0 s.x1 s.x2 s.x3 s.x4 s.x5 s.x6 s.x7 s.x8 s.x9 s.x10 s.x11 s.x12 s.x13 s.x14 s.x15 s.x16 s.x17 s.x18 s.x19 s.x20 s.x21 s.x22

/-- Their codes. -/
def Blk.r514 : FVec Ideal S256x768 .fp8e4m3 := kernelRun0_A.sl.r_514 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg37 s.x0 s.x1 s.x2 s.x3 s.x4 s.x5 s.x6 s.x7 s.x8 s.x9 s.x10 s.x11 s.x12 s.x13 s.x14 s.x15 s.x16 s.x17 s.x18 s.x19 s.x20 s.x21 s.x22

/-- The largest magnitude of the first feed-forward lanes. -/
def Blk.r523 : FVec Ideal S256x1 .f32 := kernelRun0_A.sl.r_523 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

/-- The largest magnitude with the next lanes. -/
def Blk.r527 : FVec Ideal S256x1 .f32 := kernelRun0_A.sl.r_527 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

/-- The third feed-forward lanes. -/
def Blk.r528 : FVec Ideal S256x768 .f32 := kernelRun0_A.sl.r_528 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

/-- The feed-forward rows' peaks. -/
def Blk.r529 : FVec Ideal S256x1 .f32 := kernelRun0_A.sl.r_529 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

/-- The feed-forward rows' scales. -/
def Blk.r530 : FVec Ideal S256x1 .f32 := kernelRun0_A.sl.r_530 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

/-- One over them. -/
def Blk.r531 : FVec Ideal S256x1 .f32 := kernelRun0_A.sl.r_531 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

/-- The scaled feed-forward rows. -/
def Blk.r532 : FVec Ideal S256x3072 .f32 := kernelRun0_A.sl.r_532 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.arg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

/-- The last layer norm's gains. -/
def Blk.r533 : FVec Ideal S1x768 .f32 := kernelRun0_A.sl.r_533 s.c s.arg30 s.harg30 s.x29

/-- The last layer norm's offsets. -/
def Blk.r534 : FVec Ideal S1x768 .f32 := kernelRun0_A.sl.r_534 s.c s.arg31 s.harg31 s.x30

/-- The last rows less their means. -/
def Blk.r535 : FVec Ideal S256x768 .f32 := kernelRun0_A.sl.r_535 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg35 s.arg37 s.arg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28

/-- One over their deviations. -/
def Blk.r536 : FVec Ideal S256x768 .f32 := kernelRun0_A.sl.r_536 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg35 s.arg37 s.arg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28

/-- The feed-forward lanes, piece by piece. -/
def Blk.HS14 : List (View.Piece (Elt Ideal) S256x3072 .f32) := kernelRun0_A.sl.HS1_4 s.c s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg37 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25

namespace Blk

theorem r511_val (hf : s.Fin1) (n : Fin 256) (c : Fin 768) : s.r511 (ix2 n c) = s.h2row n c := by
  unfold h2row h2 post2
  rw [← show (fun c => s.r75 (ix2 n c)) = h1 s.params (s.X (img n)) (tokOf n) from funext fun c => s.r75_val hf n c]
  rw [← show (fun c => View.canon s.HS060 (ix2 n c)) = cctx s.params (fun c => s.r75 (ix2 n c)) (s.codes (img n)) (s.tok (img n)) from
    funext fun c => (s.ctx2 hf n c).trans (congrArg (fun h => cctx s.params h (s.codes (img n)) (s.tok (img n)) c) (funext fun c => (s.r75_val hf n c).symm))]
  unfold Blk.r511 kernelRun0_A.sl.r_511 kernelRun0_A.sl.v6300
  rw [Tail.post2_apply, readWhole]
  change Spec.norm _ _ (fun c => s.r75 (ix2 n c) + (lin _ (fun i => View.canon s.HS060 (ix2 n i)) c + _)) c = _
  generalize s.r75 = z
  generalize View.canon s.HS060 = y
  simp only [rd]
  pointwise []
  rfl

theorem r512_val (hf : s.Fin1) (n : Fin 256) : s.r512 (ix2 n 0) = peak (s.h2row n) := by
  unfold Blk.r512 kernelRun0_A.sl.r_512
  rw [Tail.peak_apply]
  exact congrArg peak (funext fun c => s.r511_val hf n c)

theorem r513_val (hf : s.Fin1) (n : Fin 256) : s.r513 (ix2 n 0) = scaleOf (peak (s.h2row n)) := by
  unfold Blk.r513 kernelRun0_A.sl.r_513
  rw [Tail.scale_apply]
  exact congrArg scaleOf (s.r512_val hf n)

theorem r514_val (hf : s.Fin1) (n : Fin 256) (c : Fin 768) : s.r514 (ix2 n c) = codesOf (s.h2row n) c := by
  unfold Blk.r514 kernelRun0_A.sl.r_514
  rw [Tail.codes_apply]
  unfold codesOf
  rw [← s.r512_val hf n, ← s.r511_val hf n c]
  rfl

/-! ### The feed-forward lanes -/

theorem part_val (hf : s.Fin1) (w : FVec Ideal S768x768 .fp8e4m3) (sf bf : FVec Ideal S1x768 .f32) (k : Fin 4)
    (hw : ∀ i j : Fin 768, w (ix2 i j) = s.x23 (ix2 i ⟨768 * k.1 + j.1, by omega⟩))
    (hs : ∀ j : Fin 768, sf (ix2 0 j) = s.x24 (ix2 0 ⟨768 * k.1 + j.1, by omega⟩))
    (hb : ∀ j : Fin 768, bf (ix2 0 j) = s.x25 (ix2 0 ⟨768 * k.1 + j.1, by omega⟩)) (n : Fin 256) (j : Fin 768) :
    Tail.part s.r513 s.r514 w sf bf n j = ff s.params (s.h2row n) ⟨768 * k.1 + j.1, by omega⟩ := by
  unfold Tail.part ff
  simp only [s.r513_val hf, s.r514_val hf, hw, hs, hb]
  rfl

/-- The lanes of a column of weights, scales or offsets. -/
theorem ldw (o : ℕ) (k : Fin 4) (ho : o = 768 * k.1) (inb) (i j : Fin 768) :
    View.ld s.x23 (Rect.unit ![0, o] ![768, 768] inb) (ix2 i j) = s.x23 (ix2 i ⟨768 * k.1 + j.1, by omega⟩) := by
  subst ho
  refine View.ld_unit_apply_of s.x23 ![0, 768 * k.1] ![768, 768] inb (ix2 i j) (ix2 i ⟨768 * k.1 + j.1, by omega⟩) ?_
  intro a
  fin_cases a <;> simp [ix2]

theorem lds (x : Vec Ideal S1x3072 .f32) (o : ℕ) (k : Fin 4) (ho : o = 768 * k.1) (inb) (j : Fin 768) :
    View.ld x (Rect.unit ![0, o] ![1, 768] inb) (ix2 0 j) = x (ix2 0 ⟨768 * k.1 + j.1, by omega⟩) := by
  subst ho
  refine View.ld_unit_apply_of x ![0, 768 * k.1] ![1, 768] inb (ix2 0 j) (ix2 0 ⟨768 * k.1 + j.1, by omega⟩) ?_
  intro a
  fin_cases a <;> simp [ix2]

/-- The feed-forward lanes of a row, 768 at a time. -/
def ffk (n : Fin 256) (k : Fin 4) (j : Fin 768) : EReal := ff s.params (s.h2row n) ⟨768 * k.1 + j.1, by omega⟩

theorem ff_val (hf : s.Fin1) (o : ℕ) (k : Fin 4) (ho : o = 768 * k.1) (i1 i2 i3) (n : Fin 256) (j : Fin 768) :
    Tail.part s.r513 s.r514 (View.ld s.x23 (Rect.unit ![0, o] ![768, 768] i1)) (View.ld s.x24 (Rect.unit ![0, o] ![1, 768] i2))
      (View.ld s.x25 (Rect.unit ![0, o] ![1, 768] i3)) n j = s.ffk n k j :=
  s.part_val hf _ _ _ k (fun i j => s.ldw o k ho i1 i j) (fun j => lds s.x24 o k ho i2 j) (fun j => lds s.x25 o k ho i3 j) n j

theorem fmax_le {m : ℕ} (f : Fin m → EReal) (t : EReal) (ht : Ideal.ofBits .f32 0xFF800000#32 ≤ t) (h : ∀ c, f c ≤ t) : fmax f ≤ t :=
  Finset.fold_max_le t |>.mpr ⟨ht, fun c _ => h c⟩

theorem le_fmax {m : ℕ} (f : Fin m → EReal) (c : Fin m) : f c ≤ fmax f :=
  Finset.le_fold_max (f c) |>.mpr (Or.inr ⟨c, Finset.mem_univ _, le_rfl⟩)

theorem bits_le_fmax {m : ℕ} (f : Fin m → EReal) : Ideal.ofBits .f32 0xFF800000#32 ≤ fmax f :=
  Finset.le_fold_max _ |>.mpr (Or.inl le_rfl)

theorem mag_nonneg (x : EReal) : 0 ≤ max x (-x) := by
  rcases le_total 0 x with h | h
  · exact le_max_of_le_left h
  · exact le_max_of_le_right (by rw [EReal.le_neg, neg_zero]; exact h)

theorem fmax_split (f : Fin 3072 → EReal) (h0 : ∀ c, 0 ≤ f c) (g : Fin 4 → Fin 768 → EReal)
    (hg : ∀ k j, g k j = f ⟨768 * k.1 + j.1, by omega⟩) :
    max (max (max (max 0 (fmax (g 0))) (fmax (g 1))) (fmax (g 2))) (fmax (g 3)) = fmax f := by
  have hk : ∀ k, fmax (g k) ≤ fmax f := fun k => fmax_le _ _ (bits_le_fmax f) fun j => by rw [hg]; exact le_fmax f _
  apply le_antisymm
  · exact max_le (max_le (max_le (max_le ((h0 0).trans (le_fmax f 0)) (hk 0)) (hk 1)) (hk 2)) (hk 3)
  · refine fmax_le _ _ ((bits_le_fmax (g 3)).trans (le_max_right _ _)) fun c => ?_
    have e : f c = g ⟨c.1 / 768, by omega⟩ ⟨c.1 % 768, by omega⟩ := by
      rw [hg]
      congr 1
      apply Fin.ext
      simp only
      omega
    rw [e]
    refine (le_fmax _ _).trans ?_
    have hm : ∀ k : Fin 4, fmax (g k) ≤ max (max (max (max 0 (fmax (g 0))) (fmax (g 1))) (fmax (g 2))) (fmax (g 3)) := by
      intro k
      fin_cases k <;> simp
    exact hm _

/-- The largest magnitude of a part. -/
theorem big_eq (z : FVec Ideal S256x768 .f32) (n : Fin 256) (k : Fin 4) (h : ∀ j, z (ix2 n j) = s.ffk n k j) :
    Tail.big z n = fmax (fun j => max (s.ffk n k j) (-(s.ffk n k j))) := by
  unfold Tail.big
  simp only [h]

theorem r528_val (hf : s.Fin1) (n : Fin 256) (j : Fin 768) : s.r528 (ix2 n j) = s.ffk n 2 j := by
  unfold Blk.r528 kernelRun0_A.sl.r_528
  rw [Tail.part2]
  simp only [rd]
  exact s.ff_val hf 1536 2 rfl _ _ _ n j

theorem r529_val (hf : s.Fin1) (n : Fin 256) : s.r529 (ix2 n 0) = peak (ff s.params (s.h2row n)) := by
  unfold Blk.r529 kernelRun0_A.sl.r_529 kernelRun0_A.sl.r_527 kernelRun0_A.sl.r_523 kernelRun0_A.sl.r_524 kernelRun0_A.sl.r_525 kernelRun0_A.sl.r_526
  rw [Tail.amax3, Tail.amax1, Tail.amax0]
  rw [s.big_eq _ n 0 fun j => by rw [Tail.part0]; simp only [rd]; exact s.ff_val hf 0 0 rfl _ _ _ n j]
  rw [s.big_eq _ n 1 fun j => by rw [Tail.part1]; simp only [rd]; exact s.ff_val hf 768 1 rfl _ _ _ n j]
  change max (max _ (Tail.big s.r528 n)) _ * _ = _
  rw [s.big_eq _ n 2 fun j => s.r528_val hf n j]
  rw [s.big_eq _ n 3 fun j => by rw [Tail.part3]; simp only [rd]; exact s.ff_val hf 2304 3 rfl _ _ _ n j]
  unfold peak
  rw [← fmax_split (fun c => max (ff s.params (s.h2row n) c) (-(ff s.params (s.h2row n) c))) (fun c => mag_nonneg _)
    (fun k j => max (s.ffk n k j) (-(s.ffk n k j))) (fun k j => rfl)]

theorem r530_val (hf : s.Fin1) (n : Fin 256) : s.r530 (ix2 n 0) = scaleOf (peak (ff s.params (s.h2row n))) := by
  unfold Blk.r530 kernelRun0_A.sl.r_530
  rw [Tail.scale2_apply]
  exact congrArg scaleOf (s.r529_val hf n)

theorem r531_val (hf : s.Fin1) (n : Fin 256) : s.r531 (ix2 n 0) = invOf (peak (ff s.params (s.h2row n))) := by
  unfold Blk.r531 kernelRun0_A.sl.r_531
  rw [Tail.inv2_apply]
  exact congrArg invOf (s.r529_val hf n)

theorem ffPiece (z : FVec Ideal S256x768 .f32) (k : Fin 4) (h : ∀ n j, z (ix2 n j) = s.ffk n k j) (o : ℕ) (ho : o = 768 * k.1) (n : Fin 256) (c : Fin 3072) :
    View.TileAt (S := S256x3072) (Val := Elt Ideal) (e := .f32) (ix2 n c) ![0, o] ![256, 768] z (ff s.params (s.h2row n) c) := by
  intro x hx
  obtain ⟨r, d, rfl⟩ : ∃ r d, x = ix2 (n0 := 256) (n1 := 768) r d := ⟨x 0, x 1, funext fun a => by fin_cases a <;> rfl⟩
  have e0 : n.1 = 0 + r.1 := hx 0
  have e1 : c.1 = o + d.1 := hx 1
  obtain rfl : n = r := Fin.ext (by omega)
  rw [show c = ⟨768 * k.1 + d.1, by omega⟩ from Fin.ext (by show c.1 = 768 * k.1 + d.1; omega)]
  exact h n d

/-- A recast to the same shape is the value. -/
theorem same (z : FVec Ideal S256x768 .f32) (h) : shapeCast S256x768 z h = z := by
  funext i
  obtain ⟨n, c, rfl⟩ : ∃ r d, i = ix2 (n0 := 256) (n1 := 768) r d := ⟨i 0, i 1, funext fun a => by fin_cases a <;> rfl⟩
  pointwise []

theorem ffs_val (hf : s.Fin1) (n : Fin 256) (c : Fin 3072) : View.canon s.HS14 (ix2 n c) = ff s.params (s.h2row n) c := by
  unfold Blk.HS14 kernelRun0_A.sl.HS1_4
  refine View.canon_eq_of_allAt _ _ _ (View.cover_of_tiled_head _ _ _ (by rfl) _) ?_
  refine View.allAt_cons_unit _ _ _ _ _ (s.ffPiece _ 3 (fun n j => ?_) _ rfl n c) ?_
  · unfold k0_pay1056
    rw [same, Tail.part3]
    simp only [rd]
    exact s.ff_val hf 2304 3 rfl _ _ _ n j
  refine View.allAt_cons_unit _ _ _ _ _ (s.ffPiece _ 2 (fun n j => ?_) _ rfl n c) ?_
  · unfold k0_pay1054
    rw [same]
    exact s.r528_val hf n j
  refine View.allAt_cons_unit _ _ _ _ _ (s.ffPiece _ 1 (fun n j => ?_) _ rfl n c) ?_
  · unfold k0_pay1051 kernelRun0_A.sl.r_524 kernelRun0_A.sl.r_525 kernelRun0_A.sl.r_526
    rw [same, Tail.part1]
    simp only [rd]
    exact s.ff_val hf 768 1 rfl _ _ _ n j
  refine View.allAt_cons_unit _ _ _ _ _ (s.ffPiece _ 0 (fun n j => ?_) _ rfl n c) (View.allAt_nil _ _)
  unfold k0_pay1045
  rw [same, Tail.part0]
  simp only [rd]
  exact s.ff_val hf 0 0 rfl _ _ _ n j

/-- The feed-forward rows' codes. -/
def codes2 : FVec Ideal S256x3072 .fp8e4m3 := k0_pay1068 s.r532 kernelRun0_A.sl.cst_1837 k0_pay1067

theorem codes2_val (hf : s.Fin1) (n : Fin 256) (c : Fin 3072) : s.codes2 (ix2 n c) = codesOf (ff s.params (s.h2row n)) c := by
  unfold codes2 Blk.r532 kernelRun0_A.sl.r_532 kernelRun0_A.sl.v6628
  rw [show View.readCov s.arg38.view _ _ = View.canon s.HS14 from
    (View.readCov_eq_canon' _ _ _).trans (View.ld_unit_zero (funext fun a => by fin_cases a <;> rfl) _ (View.canon s.HS14))]
  rw [Tail.codes2_apply, s.ffs_val hf]
  unfold codesOf
  rw [← s.r531_val hf n]
  rfl

end Blk

end Cert.KernelIdeal.Gen

end
-- ==== Proof.Ker.Block4.lean ====
/- The five results of one grid point. -/
module

public import proofs.«01_k».proof.Proof.Ker.Block3

@[expose] public section

noncomputable section

namespace Cert.KernelIdeal.Gen

open Cert.KernelIdeal Cert.KernelIdeal.Gen Cert.Spec Cert.Band Idealize.ShloMosaic Idealize.SL.Sem

/-- The word of a row's token: its remainder by 32. -/
def tokWord (w : BitVec 32) : BitVec 32 :=
  Scalar.select (IntOp.andi (IntOp.xori (IntOp.cmpi .slt (IntOp.remsi .vector w 32#32) 0#32) 0#1) (IntOp.cmpi .ne (IntOp.remsi .vector w 32#32) 0#32))
    (IntOp.addi (IntOp.remsi .vector w 32#32) 32#32) (IntOp.remsi .vector w 32#32)

theorem tokWord_eq : ∀ n : Fin 256, tokWord (BitVec.ofNat 32 n.1) = BitVec.ofNat 32 (n.1 % 32) := by decide +kernel

theorem eqWord : ∀ a b : Fin 32, IntOp.cmpi .eq (BitVec.ofNat 32 a.1) (BitVec.ofNat 32 b.1) = if a = b then 1#1 else 0#1 := by decide +kernel

/-- A column of scales, each at its token's lane. -/
theorem diag_apply (y : FVec Ideal S256x1 .f32) (n : Fin 256) (t : Fin 32) :
    k0_pay1034 y kernelRun0_A.sl.v6382 (ix2 n t) = if Blk.tokOf n = t then y (ix2 n 0) else 0 := by
  have e : k0_pay1034 y kernelRun0_A.sl.v6382 (ix2 n t)
      = Scalar.select (IntOp.cmpi .eq (tokWord (BitVec.ofNat 32 n.1)) (BitVec.ofNat 32 t.1)) (y (ix2 n 0)) (0 : EReal) := by
    pointwise [k0_pay1034, kernelRun0_A.sl.v6382]
    rfl
  rw [e, tokWord_eq]
  rw [show IntOp.cmpi .eq (BitVec.ofNat 32 (n.1 % 32)) (BitVec.ofNat 32 t.1) = _ from eqWord (Blk.tokOf n) t]
  by_cases h : Blk.tokOf n = t
  · rw [if_pos h, if_pos h]; rfl
  · rw [if_neg h, if_neg h]; rfl

/-- The sum over an image's tokens picks the lane's own token. -/
theorem sum_diag (y : FVec Ideal S256x1 .f32) (b : Fin 8) (t : Fin 32) :
    ∑ r : Fin 32, k0_pay1034 y kernelRun0_A.sl.v6382 (ix2 ⟨32 * b.1 + r.1, by omega⟩ t) = y (ix2 ⟨32 * b.1 + t.1, by omega⟩ 0) := by
  have ht : ∀ r : Fin 32, Blk.tokOf ⟨32 * b.1 + r.1, by omega⟩ = r := fun r => Fin.ext (by show (32 * b.1 + r.1) % 32 = r.1; omega)
  simp only [diag_apply, ht]
  rw [Finset.sum_ite_eq' Finset.univ t, if_pos (Finset.mem_univ _)]

/-- The scales as rows of images by lanes of tokens. -/
theorem lanes_apply (y : FVec Ideal S256x1 .f32) (b : Fin 8) (t : Fin 32) :
    k0_pay1043 (k0_pay1035 y kernelRun0_A.sl.v6382) (k0_pay1036 y kernelRun0_A.sl.v6382) (k0_pay1037 y kernelRun0_A.sl.v6382) (k0_pay1038 y kernelRun0_A.sl.v6382) (k0_pay1039 y kernelRun0_A.sl.v6382) (k0_pay1040 y kernelRun0_A.sl.v6382) (k0_pay1041 y kernelRun0_A.sl.v6382) (k0_pay1042 y kernelRun0_A.sl.v6382) (ix2 b t) = y (ix2 ⟨32 * b.1 + t.1, by omega⟩ 0) := by
  rw [← sum_diag y]
  unfold k0_pay1035 k0_pay1036 k0_pay1037 k0_pay1038 k0_pay1039 k0_pay1040 k0_pay1041 k0_pay1042
  generalize k0_pay1034 y kernelRun0_A.sl.v6382 = z
  pointwise [k0_pay1043]
  fin_cases b <;> simp

/-- The second scales' lanes are laid out the same way. -/
theorem lanes2_apply (y : FVec Ideal S256x1 .f32) (b : Fin 8) (t : Fin 32) :
    k0_pay1065 y 32#32 k0_pay1062 k0_pay1063 k0_pay1064 0#32 (ix2 b t) = y (ix2 ⟨32 * b.1 + t.1, by omega⟩ 0) :=
  (show _ = k0_pay1043 (k0_pay1035 y kernelRun0_A.sl.v6382) (k0_pay1036 y kernelRun0_A.sl.v6382) (k0_pay1037 y kernelRun0_A.sl.v6382) (k0_pay1038 y kernelRun0_A.sl.v6382) (k0_pay1039 y kernelRun0_A.sl.v6382) (k0_pay1040 y kernelRun0_A.sl.v6382) (k0_pay1041 y kernelRun0_A.sl.v6382) (k0_pay1042 y kernelRun0_A.sl.v6382) (ix2 b t) from rfl).trans (lanes_apply y b t)

variable (s : Blk Ideal)

theorem Blk.last_val (hf : s.Fin1) (n : Fin 256) (c : Fin 768) : k0_pay1 s.r533 s.r534 s.r535 s.r536 (ix2 n c) = Spec.out s.params (s.h2row n) c := by
  unfold Blk.r533 Blk.r534 Blk.r535 Blk.r536 kernelRun0_A.sl.r_533 kernelRun0_A.sl.r_534 kernelRun0_A.sl.r_535 kernelRun0_A.sl.r_536 kernelRun0_A.sl.v6637 kernelRun0_A.sl.H34_1
  rw [Tail.out_apply, View.readCov_unit_zero _ (funext fun a => by fin_cases a <;> rfl) _ _]
  change Spec.norm _ _ (Tail.pre3 s.r511 s.r530 s.codes2 _ _ _ n) c = _
  unfold Spec.out Tail.pre3
  simp only [s.r511_val hf, s.r530_val hf, s.codes2_val hf, rd]
  pointwise []
  rfl

theorem out31 (hf : s.Fin1) (n : Fin 256) (c : Fin 768) : out0_A_31 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30 (ix2 n c) = Spec.out s.params (s.h2row n) c := by
  unfold out0_A_31
  rw [View.read_writes_eq_canon _ _ _ (cover0_A_31 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30)]
  unfold kernelRun0_A
  dsimp only
  rw [View.canon_unit_zero (funext fun a => by fin_cases a <;> rfl)]
  exact s.last_val hf n c

theorem out32 (hf : s.Fin1) (n : Fin 256) (c : Fin 768) : out0_A_32 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30 (ix2 n c) = codesOf (s.h2row n) c := by
  unfold out0_A_32
  rw [View.read_writes_eq_canon _ _ _ (cover0_A_32 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30)]
  unfold kernelRun0_A
  dsimp only
  rw [View.canon_unit_zero (funext fun a => by fin_cases a <;> rfl)]
  exact s.r514_val hf n c

theorem out33 (hf : s.Fin1) (b : Fin 8) (t : Fin 32) : out0_A_33 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30 (ix2 b t) = scaleOf (peak (s.h2row ⟨32 * b.1 + t.1, by omega⟩)) := by
  unfold out0_A_33
  rw [View.read_writes_eq_canon _ _ _ (cover0_A_33 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30)]
  unfold kernelRun0_A
  dsimp only
  rw [View.canon_unit_zero (funext fun a => by fin_cases a <;> rfl)]
  exact (lanes_apply s.r513 b t).trans (s.r513_val hf _)

theorem out34 (hf : s.Fin1) (n : Fin 256) (c : Fin 3072) : out0_A_34 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30 (ix2 n c) = codesOf (ff s.params (s.h2row n)) c := by
  unfold out0_A_34
  rw [View.read_writes_eq_canon _ _ _ (cover0_A_34 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30)]
  unfold kernelRun0_A
  dsimp only
  unfold kernelRun0_A.sl.H34_1
  rw [View.canon_unit_zero (funext fun a => by fin_cases a <;> rfl)]
  exact s.codes2_val hf n c

theorem out35 (hf : s.Fin1) (b : Fin 8) (t : Fin 32) : out0_A_35 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30 (ix2 b t) = scaleOf (peak (ff s.params (s.h2row ⟨32 * b.1 + t.1, by omega⟩))) := by
  unfold out0_A_35
  rw [View.read_writes_eq_canon _ _ _ (cover0_A_35 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30)]
  unfold kernelRun0_A
  dsimp only
  rw [View.canon_unit_zero (funext fun a => by fin_cases a <;> rfl)]
  exact (lanes2_apply s.r530 b t).trans (s.r530_val hf _)

end Cert.KernelIdeal.Gen

end
-- ==== Proof.Ker.Reads.lean ====
/- The kernel's run: each result array, put together from what its eight grid points write, is a function of the arguments. -/
module

public import proofs.«01_k».proof.Proof.Ker.Block4
public import proofs.«01_k».proof.Proof.Args
public import Idealize.ShloMosaic.Lib.Pipeline.ValueKit.Geometry
public import Idealize.ShloMosaic.Lib.Pipeline.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- The arguments as launched. -/
def args (c : Dev nD) : Args := Args.mk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-! ## A grid point's blocks of the arguments -/

theorem in3 (c : Dev nD) (t : Fin cfg0.N) : iblk m c 3 t = m ((c : Thread nD τ).loc main_arg3) :=
  (Memref.read_access_unit_zero (Elt Ideal) main_arg3 (show (fun a => (win0_3.index t) a * main_arg3.ty.shape.size a) = fun _ => 0 from funext fun a => by fin_cases a <;> rfl)
    (fun a => Nat.le_of_eq (by fin_cases a <;> rfl)) (V m c main_arg3)).trans (V_main_arg3 m c)
theorem in4 (c : Dev nD) (t : Fin cfg0.N) : iblk m c 4 t = m ((c : Thread nD τ).loc main_arg4) :=
  (Memref.read_access_unit_zero (Elt Ideal) main_arg4 (show (fun a => (win0_4.index t) a * main_arg4.ty.shape.size a) = fun _ => 0 from funext fun a => by fin_cases a <;> rfl)
    (fun a => Nat.le_of_eq (by fin_cases a <;> rfl)) (V m c main_arg4)).trans (V_main_arg4 m c)
theorem in5 (c : Dev nD) (t : Fin cfg0.N) : iblk m c 5 t = m ((c : Thread nD τ).loc main_arg5) :=
  (Memref.read_access_unit_zero (Elt Ideal) main_arg5 (show (fun a => (win0_5.index t) a * main_arg5.ty.shape.size a) = fun _ => 0 from funext fun a => by fin_cases a <;> rfl)
    (fun a => Nat.le_of_eq (by fin_cases a <;> rfl)) (V m c main_arg5)).trans (V_main_arg5 m c)
theorem in6 (c : Dev nD) (t : Fin cfg0.N) : iblk m c 6 t = m ((c : Thread nD τ).loc main_arg6) :=
  (Memref.read_access_unit_zero (Elt Ideal) main_arg6 (show (fun a => (win0_6.index t) a * main_arg6.ty.shape.size a) = fun _ => 0 from funext fun a => by fin_cases a <;> rfl)
    (fun a => Nat.le_of_eq (by fin_cases a <;> rfl)) (V m c main_arg6)).trans (V_main_arg6 m c)
theorem in7 (c : Dev nD) (t : Fin cfg0.N) : iblk m c 7 t = shapeCast S1x768 (m ((c : Thread nD τ).loc main_arg7)) shapeCasts_S768_S1x768 :=
  (Memref.read_access_unit_zero (Elt Ideal) main_v0 (show (fun a => (win0_7.index t) a * main_v0.ty.shape.size a) = fun _ => 0 from funext fun a => by fin_cases a <;> rfl)
    (fun a => Nat.le_of_eq (by fin_cases a <;> rfl)) (V m c main_v0)).trans (rfl)
theorem in8 (c : Dev nD) (t : Fin cfg0.N) : iblk m c 8 t = shapeCast S1x768 (m ((c : Thread nD τ).loc main_arg8)) shapeCasts_S768_S1x768 :=
  (Memref.read_access_unit_zero (Elt Ideal) main_v1 (show (fun a => (win0_8.index t) a * main_v1.ty.shape.size a) = fun _ => 0 from funext fun a => by fin_cases a <;> rfl)
    (fun a => Nat.le_of_eq (by fin_cases a <;> rfl)) (V m c main_v1)).trans (rfl)
theorem in9 (c : Dev nD) (t : Fin cfg0.N) : iblk m c 9 t = shapeCast S1x768 (m ((c : Thread nD τ).loc main_arg9)) shapeCasts_S768_S1x768 :=
  (Memref.read_access_unit_zero (Elt Ideal) main_v2 (show (fun a => (win0_9.index t) a * main_v2.ty.shape.size a) = fun _ => 0 from funext fun a => by fin_cases a <;> rfl)
    (fun a => Nat.le_of_eq (by fin_cases a <;> rfl)) (V m c main_v2)).trans (rfl)
theorem in10 (c : Dev nD) (t : Fin cfg0.N) : iblk m c 10 t = shapeCast S1x768 (m ((c : Thread nD τ).loc main_arg10)) shapeCasts_S768_S1x768 :=
  (Memref.read_access_unit_zero (Elt Ideal) main_v3 (show (fun a => (win0_10.index t) a * main_v3.ty.shape.size a) = fun _ => 0 from funext fun a => by fin_cases a <;> rfl)
    (fun a => Nat.le_of_eq (by fin_cases a <;> rfl)) (V m c main_v3)).trans (rfl)
theorem in11 (c : Dev nD) (t : Fin cfg0.N) : iblk m c 11 t = shapeCast S1x768 (m ((c : Thread nD τ).loc main_arg11)) shapeCasts_S768_S1x768 :=
  (Memref.read_access_unit_zero (Elt Ideal) main_v4 (show (fun a => (win0_11.index t) a * main_v4.ty.shape.size a) = fun _ => 0 from funext fun a => by fin_cases a <;> rfl)
    (fun a => Nat.le_of_eq (by fin_cases a <;> rfl)) (V m c main_v4)).trans (rfl)
theorem in12 (c : Dev nD) (t : Fin cfg0.N) : iblk m c 12 t = m ((c : Thread nD τ).loc main_arg12) :=
  (Memref.read_access_unit_zero (Elt Ideal) main_arg12 (show (fun a => (win0_12.index t) a * main_arg12.ty.shape.size a) = fun _ => 0 from funext fun a => by fin_cases a <;> rfl)
    (fun a => Nat.le_of_eq (by fin_cases a <;> rfl)) (V m c main_arg12)).trans (V_main_arg12 m c)
theorem in13 (c : Dev nD) (t : Fin cfg0.N) : iblk m c 13 t = m ((c : Thread nD τ).loc main_arg13) :=
  (Memref.read_access_unit_zero (Elt Ideal) main_arg13 (show (fun a => (win0_13.index t) a * main_arg13.ty.shape.size a) = fun _ => 0 from funext fun a => by fin_cases a <;> rfl)
    (fun a => Nat.le_of_eq (by fin_cases a <;> rfl)) (V m c main_arg13)).trans (V_main_arg13 m c)
theorem in14 (c : Dev nD) (t : Fin cfg0.N) : iblk m c 14 t = shapeCast S1x768 (m ((c : Thread nD τ).loc main_arg14)) shapeCasts_S768_S1x768 :=
  (Memref.read_access_unit_zero (Elt Ideal) main_v5 (show (fun a => (win0_14.index t) a * main_v5.ty.shape.size a) = fun _ => 0 from funext fun a => by fin_cases a <;> rfl)
    (fun a => Nat.le_of_eq (by fin_cases a <;> rfl)) (V m c main_v5)).trans (rfl)
theorem in15 (c : Dev nD) (t : Fin cfg0.N) : iblk m c 15 t = shapeCast S1x768 (m ((c : Thread nD τ).loc main_arg15)) shapeCasts_S768_S1x768 :=
  (Memref.read_access_unit_zero (Elt Ideal) main_v6 (show (fun a => (win0_15.index t) a * main_v6.ty.shape.size a) = fun _ => 0 from funext fun a => by fin_cases a <;> rfl)
    (fun a => Nat.le_of_eq (by fin_cases a <;> rfl)) (V m c main_v6)).trans (rfl)
theorem in16 (c : Dev nD) (t : Fin cfg0.N) : iblk m c 16 t = m ((c : Thread nD τ).loc main_arg16) :=
  (Memref.read_access_unit_zero (Elt Ideal) main_arg16 (show (fun a => (win0_16.index t) a * main_arg16.ty.shape.size a) = fun _ => 0 from funext fun a => by fin_cases a <;> rfl)
    (fun a => Nat.le_of_eq (by fin_cases a <;> rfl)) (V m c main_arg16)).trans (V_main_arg16 m c)
theorem in17 (c : Dev nD) (t : Fin cfg0.N) : iblk m c 17 t = m ((c : Thread nD τ).loc main_arg17) :=
  (Memref.read_access_unit_zero (Elt Ideal) main_arg17 (show (fun a => (win0_17.index t) a * main_arg17.ty.shape.size a) = fun _ => 0 from funext fun a => by fin_cases a <;> rfl)
    (fun a => Nat.le_of_eq (by fin_cases a <;> rfl)) (V m c main_arg17)).trans (V_main_arg17 m c)
theorem in18 (c : Dev nD) (t : Fin cfg0.N) : iblk m c 18 t = shapeCast S1x768 (m ((c : Thread nD τ).loc main_arg18)) shapeCasts_S768_S1x768 :=
  (Memref.read_access_unit_zero (Elt Ideal) main_v7 (show (fun a => (win0_18.index t) a * main_v7.ty.shape.size a) = fun _ => 0 from funext fun a => by fin_cases a <;> rfl)
    (fun a => Nat.le_of_eq (by fin_cases a <;> rfl)) (V m c main_v7)).trans (rfl)
theorem in19 (c : Dev nD) (t : Fin cfg0.N) : iblk m c 19 t = shapeCast S1x768 (m ((c : Thread nD τ).loc main_arg19)) shapeCasts_S768_S1x768 :=
  (Memref.read_access_unit_zero (Elt Ideal) main_v8 (show (fun a => (win0_19.index t) a * main_v8.ty.shape.size a) = fun _ => 0 from funext fun a => by fin_cases a <;> rfl)
    (fun a => Nat.le_of_eq (by fin_cases a <;> rfl)) (V m c main_v8)).trans (rfl)
theorem in20 (c : Dev nD) (t : Fin cfg0.N) : iblk m c 20 t = shapeCast S1x768 (m ((c : Thread nD τ).loc main_arg20)) shapeCasts_S768_S1x768 :=
  (Memref.read_access_unit_zero (Elt Ideal) main_v9 (show (fun a => (win0_20.index t) a * main_v9.ty.shape.size a) = fun _ => 0 from funext fun a => by fin_cases a <;> rfl)
    (fun a => Nat.le_of_eq (by fin_cases a <;> rfl)) (V m c main_v9)).trans (rfl)
theorem in21 (c : Dev nD) (t : Fin cfg0.N) : iblk m c 21 t = shapeCast S1x768 (m ((c : Thread nD τ).loc main_arg21)) shapeCasts_S768_S1x768 :=
  (Memref.read_access_unit_zero (Elt Ideal) main_v10 (show (fun a => (win0_21.index t) a * main_v10.ty.shape.size a) = fun _ => 0 from funext fun a => by fin_cases a <;> rfl)
    (fun a => Nat.le_of_eq (by fin_cases a <;> rfl)) (V m c main_v10)).trans (rfl)
theorem in22 (c : Dev nD) (t : Fin cfg0.N) : iblk m c 22 t = shapeCast S1x768 (m ((c : Thread nD τ).loc main_arg22)) shapeCasts_S768_S1x768 :=
  (Memref.read_access_unit_zero (Elt Ideal) main_v11 (show (fun a => (win0_22.index t) a * main_v11.ty.shape.size a) = fun _ => 0 from funext fun a => by fin_cases a <;> rfl)
    (fun a => Nat.le_of_eq (by fin_cases a <;> rfl)) (V m c main_v11)).trans (rfl)
theorem in23 (c : Dev nD) (t : Fin cfg0.N) : iblk m c 23 t = m ((c : Thread nD τ).loc main_arg23) :=
  (Memref.read_access_unit_zero (Elt Ideal) main_arg23 (show (fun a => (win0_23.index t) a * main_arg23.ty.shape.size a) = fun _ => 0 from funext fun a => by fin_cases a <;> rfl)
    (fun a => Nat.le_of_eq (by fin_cases a <;> rfl)) (V m c main_arg23)).trans (V_main_arg23 m c)
theorem in24 (c : Dev nD) (t : Fin cfg0.N) : iblk m c 24 t = shapeCast S1x3072 (m ((c : Thread nD τ).loc main_arg24)) shapeCasts_S3072_S1x3072 :=
  (Memref.read_access_unit_zero (Elt Ideal) main_v12 (show (fun a => (win0_24.index t) a * main_v12.ty.shape.size a) = fun _ => 0 from funext fun a => by fin_cases a <;> rfl)
    (fun a => Nat.le_of_eq (by fin_cases a <;> rfl)) (V m c main_v12)).trans (rfl)
theorem in25 (c : Dev nD) (t : Fin cfg0.N) : iblk m c 25 t = shapeCast S1x3072 (m ((c : Thread nD τ).loc main_arg25)) shapeCasts_S3072_S1x3072 :=
  (Memref.read_access_unit_zero (Elt Ideal) main_v13 (show (fun a => (win0_25.index t) a * main_v13.ty.shape.size a) = fun _ => 0 from funext fun a => by fin_cases a <;> rfl)
    (fun a => Nat.le_of_eq (by fin_cases a <;> rfl)) (V m c main_v13)).trans (rfl)
theorem in26 (c : Dev nD) (t : Fin cfg0.N) : iblk m c 26 t = m ((c : Thread nD τ).loc main_arg26) :=
  (Memref.read_access_unit_zero (Elt Ideal) main_arg26 (show (fun a => (win0_26.index t) a * main_arg26.ty.shape.size a) = fun _ => 0 from funext fun a => by fin_cases a <;> rfl)
    (fun a => Nat.le_of_eq (by fin_cases a <;> rfl)) (V m c main_arg26)).trans (V_main_arg26 m c)
theorem in27 (c : Dev nD) (t : Fin cfg0.N) : iblk m c 27 t = shapeCast S1x768 (m ((c : Thread nD τ).loc main_arg27)) shapeCasts_S768_S1x768 :=
  (Memref.read_access_unit_zero (Elt Ideal) main_v14 (show (fun a => (win0_27.index t) a * main_v14.ty.shape.size a) = fun _ => 0 from funext fun a => by fin_cases a <;> rfl)
    (fun a => Nat.le_of_eq (by fin_cases a <;> rfl)) (V m c main_v14)).trans (rfl)
theorem in28 (c : Dev nD) (t : Fin cfg0.N) : iblk m c 28 t = shapeCast S1x768 (m ((c : Thread nD τ).loc main_arg28)) shapeCasts_S768_S1x768 :=
  (Memref.read_access_unit_zero (Elt Ideal) main_v15 (show (fun a => (win0_28.index t) a * main_v15.ty.shape.size a) = fun _ => 0 from funext fun a => by fin_cases a <;> rfl)
    (fun a => Nat.le_of_eq (by fin_cases a <;> rfl)) (V m c main_v15)).trans (rfl)
theorem in29 (c : Dev nD) (t : Fin cfg0.N) : iblk m c 29 t = shapeCast S1x768 (m ((c : Thread nD τ).loc main_arg29)) shapeCasts_S768_S1x768 :=
  (Memref.read_access_unit_zero (Elt Ideal) main_v16 (show (fun a => (win0_29.index t) a * main_v16.ty.shape.size a) = fun _ => 0 from funext fun a => by fin_cases a <;> rfl)
    (fun a => Nat.le_of_eq (by fin_cases a <;> rfl)) (V m c main_v16)).trans (rfl)
theorem in30 (c : Dev nD) (t : Fin cfg0.N) : iblk m c 30 t = shapeCast S1x768 (m ((c : Thread nD τ).loc main_arg30)) shapeCasts_S768_S1x768 :=
  (Memref.read_access_unit_zero (Elt Ideal) main_v17 (show (fun a => (win0_30.index t) a * main_v17.ty.shape.size a) = fun _ => 0 from funext fun a => by fin_cases a <;> rfl)
    (fun a => Nat.le_of_eq (by fin_cases a <;> rfl)) (V m c main_v17)).trans (rfl)

theorem index0 : ∀ t : Fin cfg0.N, win0_0.index t 0 = t.1 ∧ win0_0.index t 1 = 0 := by decide +kernel
theorem index1 : ∀ t : Fin cfg0.N, win0_1.index t 0 = t.1 ∧ win0_1.index t 1 = 0 ∧ win0_1.index t 2 = 0 := by decide +kernel
theorem index2 : ∀ t : Fin cfg0.N, win0_2.index t 0 = t.1 ∧ win0_2.index t 1 = 0 := by decide +kernel

/-- The reshape of the tokens at a row. -/
theorem rows_at (z : (⟨3, ![64, 32, 768]⟩ : Shape).Idx → EReal) (h : (⟨3, ![64, 32, 768]⟩ : Shape).ShapeCasts ⟨2, ![2048, 768]⟩)
    (n : Fin 2048) (k : Fin 768) :
    shapeCast ⟨2, ![2048, 768]⟩ z h (ix2 n k) = z (ix3 ⟨n.1 / 32, by omega⟩ ⟨n.1 % 32, by omega⟩ k) := by
  pointwise
theorem in0 (c : Dev nD) (t : Fin cfg0.N) (n : Fin 256) (k : Fin 768) :
    iblk m c 0 t (ix2 n k) = m ((c : Thread nD τ).loc main_arg0) (ix3 ⟨8 * t.1 + n.1 / 32, by have h : t.1 < 8 := t.2; omega⟩ ⟨n.1 % 32, by omega⟩ k) := by
  have ht : t.1 < 8 := t.2
  have e : (((cfg0.win 0).blk t).view.emb (ix2 n k)) = (ix2 (⟨256 * t.1 + n.1, by omega⟩ : Fin 2048) k : S2048x768.Idx) := by
    funext a; apply Fin.ext; have := index0 t
    fin_cases a <;> blk_simp <;> simp [ix2, this] <;> omega
  show V m c main_v18 (((cfg0.win 0).blk t).view.emb (ix2 n k)) = _
  rw [e]
  refine (rows_at (m ((c : Thread nD τ).loc main_arg0)) shapeCasts_S64x32x768_S2048x768 _ k).trans (congrArg _ (funext fun a => Fin.ext ?_))
  fin_cases a <;> simp [ix3] <;> omega
theorem in1 (c : Dev nD) (t : Fin cfg0.N) (b : Fin 8) (l : Fin 257) (k : Fin 1408) :
    iblk m c 1 t (ix3 b l k) = m ((c : Thread nD τ).loc main_arg1) (ix3 ⟨8 * t.1 + b.1, by have h : t.1 < 8 := t.2; omega⟩ l k) := by
  blk_simp [iblk, V_main_arg1]
  refine congrArg _ (funext fun a => Fin.ext ?_)
  have := index1 t
  fin_cases a <;> blk_simp <;> simp [ix3, this] <;> omega
theorem in2 (c : Dev nD) (t : Fin cfg0.N) (b : Fin 8) (l : Fin 257) :
    iblk m c 2 t (ix2 b l) = m ((c : Thread nD τ).loc main_arg2) (ix2 ⟨8 * t.1 + b.1, by have h : t.1 < 8 := t.2; omega⟩ l) := by
  blk_simp [iblk, V_main_arg2]
  refine congrArg _ (funext fun a => Fin.ext ?_)
  have := index2 t
  fin_cases a <;> blk_simp <;> simp [ix2, this] <;> omega

theorem cast768 (z : (⟨1, ![768]⟩ : Shape).Idx → EReal) (h : (⟨1, ![768]⟩ : Shape).ShapeCasts ⟨2, ![1, 768]⟩) (j : Fin 768) :
    shapeCast ⟨2, ![1, 768]⟩ z h (ix2 0 j) = z (ix1 j) := by
  pointwise

theorem cast3072 (z : (⟨1, ![3072]⟩ : Shape).Idx → EReal) (h : (⟨1, ![3072]⟩ : Shape).ShapeCasts ⟨2, ![1, 3072]⟩) (j : Fin 3072) :
    shapeCast ⟨2, ![1, 3072]⟩ z h (ix2 0 j) = z (ix1 j) := by
  pointwise

/-- A block whose weights are the arguments' has the arguments' weights. -/
theorem params_of (s : Blk Ideal) (A : Args)
    (h3 : s.x3 = A.a3)
    (h4 : s.x4 = A.a4)
    (h5 : s.x5 = A.a5)
    (h6 : s.x6 = A.a6)
    (h7 : ∀ j, s.x7 (ix2 0 j) = A.a7 (ix1 j))
    (h8 : ∀ j, s.x8 (ix2 0 j) = A.a8 (ix1 j))
    (h9 : ∀ j, s.x9 (ix2 0 j) = A.a9 (ix1 j))
    (h10 : ∀ j, s.x10 (ix2 0 j) = A.a10 (ix1 j))
    (h11 : ∀ j, s.x11 (ix2 0 j) = A.a11 (ix1 j))
    (h12 : s.x12 = A.a12)
    (h13 : s.x13 = A.a13)
    (h14 : ∀ j, s.x14 (ix2 0 j) = A.a14 (ix1 j))
    (h15 : ∀ j, s.x15 (ix2 0 j) = A.a15 (ix1 j))
    (h16 : s.x16 = A.a16)
    (h17 : s.x17 = A.a17)
    (h18 : ∀ j, s.x18 (ix2 0 j) = A.a18 (ix1 j))
    (h19 : ∀ j, s.x19 (ix2 0 j) = A.a19 (ix1 j))
    (h20 : ∀ j, s.x20 (ix2 0 j) = A.a20 (ix1 j))
    (h21 : ∀ j, s.x21 (ix2 0 j) = A.a21 (ix1 j))
    (h22 : ∀ j, s.x22 (ix2 0 j) = A.a22 (ix1 j))
    (h23 : s.x23 = A.a23)
    (h24 : ∀ j, s.x24 (ix2 0 j) = A.a24 (ix1 j))
    (h25 : ∀ j, s.x25 (ix2 0 j) = A.a25 (ix1 j))
    (h26 : s.x26 = A.a26)
    (h27 : ∀ j, s.x27 (ix2 0 j) = A.a27 (ix1 j))
    (h28 : ∀ j, s.x28 (ix2 0 j) = A.a28 (ix1 j))
    (h29 : ∀ j, s.x29 (ix2 0 j) = A.a29 (ix1 j))
    (h30 : ∀ j, s.x30 (ix2 0 j) = A.a30 (ix1 j))
    : s.params = A.params := by
  unfold Blk.params Args.params
  simp only [h3, h4, h5, h6, h7, h8, h9, h10, h11, h12, h13, h14, h15, h16, h17, h18, h19, h20, h21, h22, h23, h24, h25, h26, h27, h28, h29, h30]

/-- The image, in the whole array, of a block's image. -/
def big (t : Fin cfg0.N) (b : Fin 8) : Fin 64 := ⟨8 * t.1 + b.1, by have h : t.1 < 8 := t.2; omega⟩

end Cert.KernelIdeal.Value

end
-- ==== Proof.Ker.Point.lean ====
/- The kernel's run: each result array, put together from what its eight grid points write, is a function of the arguments. -/
module

public import proofs.«01_k».proof.Proof.Ker.Reads
public import Idealize.ShloMosaic.Lib.Pipeline.ValueKit.Geometry
public import Idealize.ShloMosaic.Lib.Pipeline.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- What a block leaves in the five output buffers. -/
def outs (s : Blk Ideal) : Vec Ideal S256x768 .bf16 × Vec Ideal S256x768 .fp8e4m3 × Vec Ideal S8x32 .f32 × Vec Ideal S256x3072 .fp8e4m3 × Vec Ideal S8x32 .f32 :=
  (out0_A_31 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30,
    out0_A_32 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30,
    out0_A_33 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30,
    out0_A_34 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30,
    out0_A_35 s.c s.i s.arg1 s.harg1 s.arg2 s.harg2 s.arg3 s.harg3 s.arg4 s.harg4 s.arg5 s.harg5 s.arg6 s.harg6 s.arg7 s.harg7 s.arg8 s.harg8 s.arg9 s.harg9 s.arg10 s.harg10 s.arg11 s.harg11 s.arg12 s.harg12 s.arg13 s.harg13 s.arg14 s.harg14 s.arg15 s.harg15 s.arg16 s.harg16 s.arg17 s.harg17 s.arg18 s.harg18 s.arg19 s.harg19 s.arg20 s.harg20 s.arg21 s.harg21 s.arg22 s.harg22 s.arg23 s.harg23 s.arg24 s.harg24 s.arg25 s.harg25 s.arg26 s.harg26 s.arg27 s.harg27 s.arg28 s.harg28 s.arg29 s.harg29 s.arg30 s.harg30 s.arg31 s.harg31 s.arg32 s.harg32 s.arg33 s.harg33 s.arg34 s.harg34 s.arg35 s.harg35 s.arg36 s.harg36 s.arg37 s.harg37 s.arg38 s.harg38 s.x0 s.x1 s.x2 s.x3 s.x4 s.x5 s.x6 s.x7 s.x8 s.x9 s.x10 s.x11 s.x12 s.x13 s.x14 s.x15 s.x16 s.x17 s.x18 s.x19 s.x20 s.x21 s.x22 s.x23 s.x24 s.x25 s.x26 s.x27 s.x28 s.x29 s.x30)

/-- A grid point's block. -/
def blkAt (c : Dev nD) (t : Fin cfg0.N) : Blk Ideal :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, ms0_25 t, hs0_25 t, ms0_26 t, hs0_26 t, ms0_27 t, hs0_27 t, ms0_28 t, hs0_28 t, ms0_29 t, hs0_29 t, ms0_30 t, hs0_30 t, ms0_31 t, hs0_31 t, ms0_32 t, hs0_32 t, ms0_33 t, hs0_33 t, ms0_34 t, hs0_34 t, ms0_35 t, hs0_35 t,
  scM0_0, Memref.isWhole_whole _, scM0_1, Memref.isWhole_whole _,
  iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t, iblk m c 26 t, iblk m c 27 t, iblk m c 28 t, iblk m c 29 t, iblk m c 30 t⟩

theorem outs_at (c : Dev nD) (t : Fin cfg0.N) : outsAt0 m c t = outs (blkAt m c t) := by
  delta outsAt0 outs blkAt
  with_reducible rfl

theorem at0 (c : Dev nD) (t : Fin cfg0.N) : (blkAt m c t).x0 = iblk m c 0 t := by
  unfold blkAt
  rfl
theorem at1 (c : Dev nD) (t : Fin cfg0.N) : (blkAt m c t).x1 = iblk m c 1 t := by
  unfold blkAt
  rfl
theorem at2 (c : Dev nD) (t : Fin cfg0.N) : (blkAt m c t).x2 = iblk m c 2 t := by
  unfold blkAt
  rfl
theorem at3 (c : Dev nD) (t : Fin cfg0.N) : (blkAt m c t).x3 = iblk m c 3 t := by
  unfold blkAt
  rfl
theorem at4 (c : Dev nD) (t : Fin cfg0.N) : (blkAt m c t).x4 = iblk m c 4 t := by
  unfold blkAt
  rfl
theorem at5 (c : Dev nD) (t : Fin cfg0.N) : (blkAt m c t).x5 = iblk m c 5 t := by
  unfold blkAt
  rfl
theorem at6 (c : Dev nD) (t : Fin cfg0.N) : (blkAt m c t).x6 = iblk m c 6 t := by
  unfold blkAt
  rfl
theorem at7 (c : Dev nD) (t : Fin cfg0.N) : (blkAt m c t).x7 = iblk m c 7 t := by
  unfold blkAt
  rfl
theorem at8 (c : Dev nD) (t : Fin cfg0.N) : (blkAt m c t).x8 = iblk m c 8 t := by
  unfold blkAt
  rfl
theorem at9 (c : Dev nD) (t : Fin cfg0.N) : (blkAt m c t).x9 = iblk m c 9 t := by
  unfold blkAt
  rfl
theorem at10 (c : Dev nD) (t : Fin cfg0.N) : (blkAt m c t).x10 = iblk m c 10 t := by
  unfold blkAt
  rfl
theorem at11 (c : Dev nD) (t : Fin cfg0.N) : (blkAt m c t).x11 = iblk m c 11 t := by
  unfold blkAt
  rfl
theorem at12 (c : Dev nD) (t : Fin cfg0.N) : (blkAt m c t).x12 = iblk m c 12 t := by
  unfold blkAt
  rfl
theorem at13 (c : Dev nD) (t : Fin cfg0.N) : (blkAt m c t).x13 = iblk m c 13 t := by
  unfold blkAt
  rfl
theorem at14 (c : Dev nD) (t : Fin cfg0.N) : (blkAt m c t).x14 = iblk m c 14 t := by
  unfold blkAt
  rfl
theorem at15 (c : Dev nD) (t : Fin cfg0.N) : (blkAt m c t).x15 = iblk m c 15 t := by
  unfold blkAt
  rfl
theorem at16 (c : Dev nD) (t : Fin cfg0.N) : (blkAt m c t).x16 = iblk m c 16 t := by
  unfold blkAt
  rfl
theorem at17 (c : Dev nD) (t : Fin cfg0.N) : (blkAt m c t).x17 = iblk m c 17 t := by
  unfold blkAt
  rfl
theorem at18 (c : Dev nD) (t : Fin cfg0.N) : (blkAt m c t).x18 = iblk m c 18 t := by
  unfold blkAt
  rfl
theorem at19 (c : Dev nD) (t : Fin cfg0.N) : (blkAt m c t).x19 = iblk m c 19 t := by
  unfold blkAt
  rfl
theorem at20 (c : Dev nD) (t : Fin cfg0.N) : (blkAt m c t).x20 = iblk m c 20 t := by
  unfold blkAt
  rfl
theorem at21 (c : Dev nD) (t : Fin cfg0.N) : (blkAt m c t).x21 = iblk m c 21 t := by
  unfold blkAt
  rfl
theorem at22 (c : Dev nD) (t : Fin cfg0.N) : (blkAt m c t).x22 = iblk m c 22 t := by
  unfold blkAt
  rfl
theorem at23 (c : Dev nD) (t : Fin cfg0.N) : (blkAt m c t).x23 = iblk m c 23 t := by
  unfold blkAt
  rfl
theorem at24 (c : Dev nD) (t : Fin cfg0.N) : (blkAt m c t).x24 = iblk m c 24 t := by
  unfold blkAt
  rfl
theorem at25 (c : Dev nD) (t : Fin cfg0.N) : (blkAt m c t).x25 = iblk m c 25 t := by
  unfold blkAt
  rfl
theorem at26 (c : Dev nD) (t : Fin cfg0.N) : (blkAt m c t).x26 = iblk m c 26 t := by
  unfold blkAt
  rfl
theorem at27 (c : Dev nD) (t : Fin cfg0.N) : (blkAt m c t).x27 = iblk m c 27 t := by
  unfold blkAt
  rfl
theorem at28 (c : Dev nD) (t : Fin cfg0.N) : (blkAt m c t).x28 = iblk m c 28 t := by
  unfold blkAt
  rfl
theorem at29 (c : Dev nD) (t : Fin cfg0.N) : (blkAt m c t).x29 = iblk m c 29 t := by
  unfold blkAt
  rfl
theorem at30 (c : Dev nD) (t : Fin cfg0.N) : (blkAt m c t).x30 = iblk m c 30 t := by
  unfold blkAt
  rfl

theorem params_eq (c : Dev nD) (t : Fin cfg0.N) : (blkAt m c t).params = (args m c).params := by
  have e3 := at3 m c t
  have e4 := at4 m c t
  have e5 := at5 m c t
  have e6 := at6 m c t
  have e7 := at7 m c t
  have e8 := at8 m c t
  have e9 := at9 m c t
  have e10 := at10 m c t
  have e11 := at11 m c t
  have e12 := at12 m c t
  have e13 := at13 m c t
  have e14 := at14 m c t
  have e15 := at15 m c t
  have e16 := at16 m c t
  have e17 := at17 m c t
  have e18 := at18 m c t
  have e19 := at19 m c t
  have e20 := at20 m c t
  have e21 := at21 m c t
  have e22 := at22 m c t
  have e23 := at23 m c t
  have e24 := at24 m c t
  have e25 := at25 m c t
  have e26 := at26 m c t
  have e27 := at27 m c t
  have e28 := at28 m c t
  have e29 := at29 m c t
  have e30 := at30 m c t
  generalize blkAt m c t = s at *
  exact params_of s (args m c)
    (e3.trans (in3 m c t))
    (e4.trans (in4 m c t))
    (e5.trans (in5 m c t))
    (e6.trans (in6 m c t))
    (fun j => (congrFun (e7.trans (in7 m c t)) (ix2 0 j)).trans (cast768 _ _ j))
    (fun j => (congrFun (e8.trans (in8 m c t)) (ix2 0 j)).trans (cast768 _ _ j))
    (fun j => (congrFun (e9.trans (in9 m c t)) (ix2 0 j)).trans (cast768 _ _ j))
    (fun j => (congrFun (e10.trans (in10 m c t)) (ix2 0 j)).trans (cast768 _ _ j))
    (fun j => (congrFun (e11.trans (in11 m c t)) (ix2 0 j)).trans (cast768 _ _ j))
    (e12.trans (in12 m c t))
    (e13.trans (in13 m c t))
    (fun j => (congrFun (e14.trans (in14 m c t)) (ix2 0 j)).trans (cast768 _ _ j))
    (fun j => (congrFun (e15.trans (in15 m c t)) (ix2 0 j)).trans (cast768 _ _ j))
    (e16.trans (in16 m c t))
    (e17.trans (in17 m c t))
    (fun j => (congrFun (e18.trans (in18 m c t)) (ix2 0 j)).trans (cast768 _ _ j))
    (fun j => (congrFun (e19.trans (in19 m c t)) (ix2 0 j)).trans (cast768 _ _ j))
    (fun j => (congrFun (e20.trans (in20 m c t)) (ix2 0 j)).trans (cast768 _ _ j))
    (fun j => (congrFun (e21.trans (in21 m c t)) (ix2 0 j)).trans (cast768 _ _ j))
    (fun j => (congrFun (e22.trans (in22 m c t)) (ix2 0 j)).trans (cast768 _ _ j))
    (e23.trans (in23 m c t))
    (fun j => (congrFun (e24.trans (in24 m c t)) (ix2 0 j)).trans (cast3072 _ _ j))
    (fun j => (congrFun (e25.trans (in25 m c t)) (ix2 0 j)).trans (cast3072 _ _ j))
    (e26.trans (in26 m c t))
    (fun j => (congrFun (e27.trans (in27 m c t)) (ix2 0 j)).trans (cast768 _ _ j))
    (fun j => (congrFun (e28.trans (in28 m c t)) (ix2 0 j)).trans (cast768 _ _ j))
    (fun j => (congrFun (e29.trans (in29 m c t)) (ix2 0 j)).trans (cast768 _ _ j))
    (fun j => (congrFun (e30.trans (in30 m c t)) (ix2 0 j)).trans (cast768 _ _ j))

theorem X_eq (c : Dev nD) (t : Fin cfg0.N) (b : Fin 8) : (blkAt m c t).X b = (args m c).X (big t b) := by
  have e := at0 m c t
  generalize blkAt m c t = s at *
  funext r k
  refine (congrFun e _).trans ((in0 m c t _ k).trans (congrArg _ (funext fun a => Fin.ext ?_)))
  fin_cases a <;> simp [ix3, big] <;> omega
theorem codes_eq (c : Dev nD) (t : Fin cfg0.N) (b : Fin 8) : (blkAt m c t).codes b = (args m c).codes (big t b) := by
  have e := at1 m c t
  generalize blkAt m c t = s at *
  exact funext fun l => funext fun k => (congrFun e _).trans (in1 m c t b l k)
theorem tok_eq (c : Dev nD) (t : Fin cfg0.N) (b : Fin 8) : (blkAt m c t).tok b = (args m c).tok (big t b) := by
  have e := at2 m c t
  generalize blkAt m c t = s at *
  exact funext fun l => (congrFun e _).trans (in2 m c t b l)

/-- A grid point's block: what it leaves, and the arguments it reads. -/
theorem block_at (c : Dev nD) (t : Fin cfg0.N) : ∃ s : Blk Ideal, outsAt0 m c t = outs s ∧ s.params = (args m c).params
    ∧ (∀ b, s.X b = (args m c).X (big t b)) ∧ (∀ b, s.codes b = (args m c).codes (big t b)) ∧ ∀ b, s.tok b = (args m c).tok (big t b) :=
  ⟨blkAt m c t, outs_at m c t, params_eq m c t, X_eq m c t, codes_eq m c t, tok_eq m c t⟩

end Cert.KernelIdeal.Value

end
-- ==== Proof.Ker.Run.lean ====
/- The kernel's run: each result array, put together from what its eight grid points write, is a function of the arguments. -/
module

public import proofs.«01_k».proof.Proof.Ker.Point
public import Idealize.ShloMosaic.Lib.Pipeline.ValueKit.Geometry
public import Idealize.ShloMosaic.Lib.Pipeline.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- The self-attention's scores are finite numbers. -/
def Fin1 (c : Dev nD) : Prop := ∀ b r h a, ∃ t : ℝ,
  scores (Spec.sq (args m c).params ((args m c).X b r)) (fun l => sk (args m c).params ((args m c).X b l)) h a = t

/-- A grid point's block: what it leaves, and that its rows are the whole array's. -/
theorem rows_eq (c : Dev nD) (hf : Fin1 m c) (t : Fin cfg0.N) : ∃ s : Blk Ideal, outsAt0 m c t = outs s ∧ s.Fin1 ∧ s.params = (args m c).params
    ∧ ∀ n, s.h2row n = (args m c).h2 (big t (Blk.img n)) (Blk.tokOf n) := by
  obtain ⟨s, hs, hp, hX, hc, ht⟩ := block_at m c t
  refine ⟨s, hs, fun b r h a => ?_, hp, fun n => ?_⟩
  · rw [hp, hX]
    exact hf (big t b) r h a
  · unfold Blk.h2row Args.h2
    rw [hp, hX, hc, ht]

theorem row_img (t : Fin cfg0.N) (n : Fin 256) (h : 256 * t.1 + n.1 < 2048) : big t (Blk.img n) = Args.img ⟨256 * t.1 + n.1, h⟩ :=
  Fin.ext (by simp only [big, Blk.img, Args.img]; omega)
theorem row_tok (t : Fin cfg0.N) (n : Fin 256) (h : 256 * t.1 + n.1 < 2048) : Blk.tokOf n = Args.tokOf ⟨256 * t.1 + n.1, h⟩ :=
  Fin.ext (by simp only [Blk.tokOf, Args.tokOf]; omega)

theorem outs31 (s : Blk Ideal) (hf : s.Fin1) (n : Fin 256) (k : Fin 768) : (outs s).1 (ix2 n k) = Spec.out s.params (s.h2row n) k := by
  delta outs
  with_reducible exact out31 s hf n k
theorem outs32 (s : Blk Ideal) (hf : s.Fin1) (n : Fin 256) (k : Fin 768) : (outs s).2.1 (ix2 n k) = codesOf (s.h2row n) k := by
  delta outs
  with_reducible exact out32 s hf n k
theorem outs33 (s : Blk Ideal) (hf : s.Fin1) (b : Fin 8) (k : Fin 32) : (outs s).2.2.1 (ix2 b k) = scaleOf (peak (s.h2row ⟨32 * b.1 + k.1, by omega⟩)) := by
  delta outs
  with_reducible exact out33 s hf b k
theorem outs34 (s : Blk Ideal) (hf : s.Fin1) (n : Fin 256) (k : Fin 3072) : (outs s).2.2.2.1 (ix2 n k) = codesOf (ff s.params (s.h2row n)) k := by
  delta outs
  with_reducible exact out34 s hf n k
theorem outs35 (s : Blk Ideal) (hf : s.Fin1) (b : Fin 8) (k : Fin 32) : (outs s).2.2.2.2 (ix2 b k) = scaleOf (peak (ff s.params (s.h2row ⟨32 * b.1 + k.1, by omega⟩))) := by
  delta outs
  with_reducible exact out35 s hf b k

theorem index31 : ∀ t : Fin cfg0.N, win0_31.index t 0 = t.1 ∧ win0_31.index t 1 = 0 := by decide +kernel
theorem emb31 (t : Fin cfg0.N) (n : Fin 256) (k : Fin 768) (h : 256 * t.1 + n.1 < 2048) :
    (((cfg0.win 31).blk t).view.emb (ix2 n k)) = (ix2 (⟨256 * t.1 + n.1, h⟩ : Fin 2048) k : (⟨2, ![2048, 768]⟩ : Shape).Idx) := by
  have hi := index31 t
  funext a; apply Fin.ext
  fin_cases a <;> blk_simp <;> simp [ix2, hi] <;> omega
/-- Result window 31's array after the run. -/
theorem value31 (c : Dev nD) (hf : Fin1 m c) : (dats m 0 c).arrAt 31 cfg0.N = (args m c).out := by
  refine (dats m 0 c).arrAt_eq_of_covers 31 _ (by decide +kernel) fun t _ y => ?_
  obtain ⟨s, hs, hf, hp, hr⟩ := rows_eq m c hf t
  have ht : t.1 < 8 := t.2
  obtain ⟨n, k, rfl⟩ : ∃ (n : Fin 256) (k : Fin 768), y = ix2 n k := ⟨y 0, y 1, funext fun a => by fin_cases a <;> rfl⟩
  have hn : 256 * t.1 + n.1 < 2048 := by omega
  refine Eq.trans ?_ (congrArg (args m c).out (emb31 t n k hn)).symm
  refine (congrFun ((after0_31 m c t).trans (congrArg (fun o => o.1) hs)) (ix2 n k)).trans ?_
  refine (outs31 s hf n k).trans ?_
  rw [hr, hp]
  rw [row_img t n hn, row_tok t n hn]
  rfl
theorem index32 : ∀ t : Fin cfg0.N, win0_32.index t 0 = t.1 ∧ win0_32.index t 1 = 0 := by decide +kernel
theorem emb32 (t : Fin cfg0.N) (n : Fin 256) (k : Fin 768) (h : 256 * t.1 + n.1 < 2048) :
    (((cfg0.win 32).blk t).view.emb (ix2 n k)) = (ix2 (⟨256 * t.1 + n.1, h⟩ : Fin 2048) k : (⟨2, ![2048, 768]⟩ : Shape).Idx) := by
  have hi := index32 t
  funext a; apply Fin.ext
  fin_cases a <;> blk_simp <;> simp [ix2, hi] <;> omega
/-- Result window 32's array after the run. -/
theorem value32 (c : Dev nD) (hf : Fin1 m c) : (dats m 0 c).arrAt 32 cfg0.N = (args m c).h2c := by
  refine (dats m 0 c).arrAt_eq_of_covers 32 _ (by decide +kernel) fun t _ y => ?_
  obtain ⟨s, hs, hf, hp, hr⟩ := rows_eq m c hf t
  have ht : t.1 < 8 := t.2
  obtain ⟨n, k, rfl⟩ : ∃ (n : Fin 256) (k : Fin 768), y = ix2 n k := ⟨y 0, y 1, funext fun a => by fin_cases a <;> rfl⟩
  have hn : 256 * t.1 + n.1 < 2048 := by omega
  refine Eq.trans ?_ (congrArg (args m c).h2c (emb32 t n k hn)).symm
  refine (congrFun ((after0_32 m c t).trans (congrArg (fun o => o.2.1) hs)) (ix2 n k)).trans ?_
  refine (outs32 s hf n k).trans ?_
  rw [hr]
  rw [row_img t n hn, row_tok t n hn]
  rfl
theorem index34 : ∀ t : Fin cfg0.N, win0_34.index t 0 = t.1 ∧ win0_34.index t 1 = 0 := by decide +kernel
theorem emb34 (t : Fin cfg0.N) (n : Fin 256) (k : Fin 3072) (h : 256 * t.1 + n.1 < 2048) :
    (((cfg0.win 34).blk t).view.emb (ix2 n k)) = (ix2 (⟨256 * t.1 + n.1, h⟩ : Fin 2048) k : (⟨2, ![2048, 3072]⟩ : Shape).Idx) := by
  have hi := index34 t
  funext a; apply Fin.ext
  fin_cases a <;> blk_simp <;> simp [ix2, hi] <;> omega
/-- Result window 34's array after the run. -/
theorem value34 (c : Dev nD) (hf : Fin1 m c) : (dats m 0 c).arrAt 34 cfg0.N = (args m c).gc := by
  refine (dats m 0 c).arrAt_eq_of_covers 34 _ (by decide +kernel) fun t _ y => ?_
  obtain ⟨s, hs, hf, hp, hr⟩ := rows_eq m c hf t
  have ht : t.1 < 8 := t.2
  obtain ⟨n, k, rfl⟩ : ∃ (n : Fin 256) (k : Fin 3072), y = ix2 n k := ⟨y 0, y 1, funext fun a => by fin_cases a <;> rfl⟩
  have hn : 256 * t.1 + n.1 < 2048 := by omega
  refine Eq.trans ?_ (congrArg (args m c).gc (emb34 t n k hn)).symm
  refine (congrFun ((after0_34 m c t).trans (congrArg (fun o => o.2.2.2.1) hs)) (ix2 n k)).trans ?_
  refine (outs34 s hf n k).trans ?_
  rw [hr, hp]
  rw [row_img t n hn, row_tok t n hn]
  rfl
theorem index33 : ∀ t : Fin cfg0.N, win0_33.index t 0 = t.1 ∧ win0_33.index t 1 = 0 := by decide +kernel
theorem emb33 (t : Fin cfg0.N) (b : Fin 8) (k : Fin 32) :
    (((cfg0.win 33).blk t).view.emb (ix2 b k)) = (ix2 (big t b) k : (⟨2, ![64, 32]⟩ : Shape).Idx) := by
  have hi := index33 t
  funext a; apply Fin.ext
  fin_cases a <;> blk_simp <;> simp [ix2, hi, big] <;> omega
/-- Result window 33's array after the run. -/
theorem value33 (c : Dev nD) (hf : Fin1 m c) : (dats m 0 c).arrAt 33 cfg0.N = (args m c).h2s := by
  refine (dats m 0 c).arrAt_eq_of_covers 33 _ (by decide +kernel) fun t _ y => ?_
  obtain ⟨s, hs, hf, hp, hr⟩ := rows_eq m c hf t
  obtain ⟨b, k, rfl⟩ : ∃ (b : Fin 8) (k : Fin 32), y = ix2 b k := ⟨y 0, y 1, funext fun a => by fin_cases a <;> rfl⟩
  refine Eq.trans ?_ (congrArg (args m c).h2s (emb33 t b k)).symm
  refine (congrFun ((after0_33 m c t).trans (congrArg (fun o => o.2.2.1) hs)) (ix2 b k)).trans ?_
  refine (outs33 s hf b k).trans ?_
  have e1 : Blk.img (⟨32 * b.1 + k.1, by omega⟩ : Fin 256) = b := Fin.ext (by simp only [Blk.img]; omega)
  have e2 : Blk.tokOf (⟨32 * b.1 + k.1, by omega⟩ : Fin 256) = k := Fin.ext (by simp only [Blk.tokOf]; omega)
  rw [hr]
  rw [e1, e2]
  rfl
theorem index35 : ∀ t : Fin cfg0.N, win0_35.index t 0 = t.1 ∧ win0_35.index t 1 = 0 := by decide +kernel
theorem emb35 (t : Fin cfg0.N) (b : Fin 8) (k : Fin 32) :
    (((cfg0.win 35).blk t).view.emb (ix2 b k)) = (ix2 (big t b) k : (⟨2, ![64, 32]⟩ : Shape).Idx) := by
  have hi := index35 t
  funext a; apply Fin.ext
  fin_cases a <;> blk_simp <;> simp [ix2, hi, big] <;> omega
/-- Result window 35's array after the run. -/
theorem value35 (c : Dev nD) (hf : Fin1 m c) : (dats m 0 c).arrAt 35 cfg0.N = (args m c).gs := by
  refine (dats m 0 c).arrAt_eq_of_covers 35 _ (by decide +kernel) fun t _ y => ?_
  obtain ⟨s, hs, hf, hp, hr⟩ := rows_eq m c hf t
  obtain ⟨b, k, rfl⟩ : ∃ (b : Fin 8) (k : Fin 32), y = ix2 b k := ⟨y 0, y 1, funext fun a => by fin_cases a <;> rfl⟩
  refine Eq.trans ?_ (congrArg (args m c).gs (emb35 t b k)).symm
  refine (congrFun ((after0_35 m c t).trans (congrArg (fun o => o.2.2.2.2) hs)) (ix2 b k)).trans ?_
  refine (outs35 s hf b k).trans ?_
  have e1 : Blk.img (⟨32 * b.1 + k.1, by omega⟩ : Fin 256) = b := Fin.ext (by simp only [Blk.img]; omega)
  have e2 : Blk.tokOf (⟨32 * b.1 + k.1, by omega⟩ : Fin 256) = k := Fin.ext (by simp only [Blk.tokOf]; omega)
  rw [hr, hp]
  rw [e1, e2]
  rfl

end Cert.KernelIdeal.Value

end
-- ==== Proof.Pre.lean ====
/- What the precondition gives: the tokens, the query and key weights and the query bias are finite numbers, so the self-attention's scores are. -/
module

public import proofs.«01_k».proof.Pre_finite_scores
public import proofs.«01_k».proof.Proof.Args
public import Idealize.ShloMosaic.Lib.ReduceAll
public import Idealize.ShloMosaic.Lib.Pointwise
public import Idealize.ShloMosaic.Lib.Decide

@[expose] public section

noncomputable section

namespace Cert.Pre

open Idealize.ShloMosaic Cert.Spec Cert.Pre_finite_scores

instance facts : Cert.Pre_finite_scores.Facts where
  bcast_S_S64x32x768 := by decide
  reducesTo_S64x32x768_S_d0_1_2 := by decide
  h_S_ := by decide
  bcast_S_S768x768 := by decide
  reducesTo_S768x768_S_d0_1 := by decide
  bcast_S_S768 := by decide
  reducesTo_S768_S_d0 := by decide

/-- A real number. -/
def Real (x : EReal) : Prop := ∃ t : ℝ, x = t

theorem Real.add {x y : EReal} : Real x → Real y → Real (x + y)
  | ⟨a, ha⟩, ⟨b, hb⟩ => ⟨a + b, by rw [ha, hb, EReal.coe_add]⟩
theorem Real.mul {x y : EReal} : Real x → Real y → Real (x * y)
  | ⟨a, ha⟩, ⟨b, hb⟩ => ⟨a * b, by rw [ha, hb, EReal.coe_mul]⟩
theorem Real.sum {ι : Type} (s : Finset ι) (f : ι → EReal) (h : ∀ i, Real (f i)) : Real (∑ i ∈ s, f i) := by
  classical
  induction s using Finset.induction_on with
  | empty => exact ⟨0, by simp⟩
  | insert a s ha ih => rw [Finset.sum_insert ha]; exact (h a).add ih

/-- A number whose absolute value is below infinity is real. -/
theorem real_of (x y : EReal) (hy : y = ⊤) (h : Ideal.cmp .olt (max x (-x)) y = 1#1) : Real x := by
  subst hy
  have h' : max x (-x) < ⊤ := by
    by_contra hn
    simp [Ideal.cmp, hn] at h
  obtain ⟨h1, h2⟩ := max_lt_iff.1 h'
  induction x using EReal.rec with
  | bot => simp at h2
  | top => simp at h1
  | coe t => exact ⟨t, rfl⟩

theorem top_bf16 : Ideal.ofBits .bf16 0x7F80#16 = ⊤ := by simp [Ideal.ofBits, Ideal.ieee]
theorem top_f32 : Ideal.ofBits .f32 0x7F800000#32 = ⊤ := by simp [Ideal.ofBits, Ideal.ieee]

/-- The precondition's four tests. -/
theorem of_fn (A : Args)
    (h : Cert.Pre_finite_scores.fn (F := Ideal) A.a0 A.a1 A.a2 A.a3 A.a4 A.a5 A.a6 A.a7 A.a8 A.a9 A.a10 A.a11 A.a12 A.a13 A.a14 A.a15 A.a16 A.a17
      A.a18 A.a19 A.a20 A.a21 A.a22 A.a23 A.a24 A.a25 A.a26 A.a27 A.a28 A.a29 A.a30 = fun _ => 1#1) :
    (∀ i, Real (A.a0 i)) ∧ (∀ i, Real (A.a3 i)) ∧ (∀ i, Real (A.a4 i)) ∧ (∀ i, Real (A.a7 i)) := by
  have h0 := congrFun h (fun a => a.elim0)
  unfold Cert.Pre_finite_scores.fn Cert.Pre_finite_scores.fn_part1 at h0
  simp only [andi] at h0
  obtain ⟨h0, h7⟩ := IntOp.andi_eq_one.1 h0
  obtain ⟨h0, h4⟩ := IntOp.andi_eq_one.1 h0
  obtain ⟨h0, h3⟩ := IntOp.andi_eq_one.1 h0
  have : Subsingleton S_.Idx := ⟨fun a b => funext fun k => k.elim0⟩
  exact ⟨fun i => real_of _ _ top_bf16 (Host.reduce_andi_all _ _ _ _ _ h0 i), fun i => real_of _ _ top_bf16 (Host.reduce_andi_all _ _ _ _ _ h3 i),
    fun i => real_of _ _ top_bf16 (Host.reduce_andi_all _ _ _ _ _ h4 i), fun i => real_of _ _ top_f32 (Host.reduce_andi_all _ _ _ _ _ h7 i)⟩

theorem scores_real (A : Args)
    (h : (∀ i, Real (A.a0 i)) ∧ (∀ i, Real (A.a3 i)) ∧ (∀ i, Real (A.a4 i)) ∧ (∀ i, Real (A.a7 i)))
    (b : Fin 64) (r : Fin 32) (j : Fin 8) (l : Fin 32) :
    ∃ t : ℝ, scores (Spec.sq A.params (A.X b r)) (fun l => sk A.params (A.X b l)) j l = t := by
  obtain ⟨h0, h3, h4, h7⟩ := h
  have hq : ∀ c, Real (Spec.sq A.params (A.X b r) c) := fun c => by
    show Real (∑ i, A.a0 (ix3 b r i) * A.a3 (ix2 i c) + A.a7 (ix1 c))
    exact (Real.sum _ _ fun i => (h0 _).mul (h3 _)).add (h7 _)
  have hk : ∀ l c, Real (sk A.params (A.X b l) c) := fun l c => by
    show Real (∑ i, A.a0 (ix3 b l i) * A.a4 (ix2 i c))
    exact Real.sum _ _ fun i => (h0 _).mul (h4 _)
  have hc : Real (Ideal.ofBits .f32 0x3DD105EC#32) := ⟨_, rfl⟩
  exact (Real.sum _ _ fun d => (hq _).mul (hk _ _)).mul hc

end Cert.Pre

end
-- ==== Proof.lean ====
module

public import proofs.«01_k».proof.Defs
public import proofs.«01_k».proof.Proof.Bits.Frame
public import proofs.«01_k».proof.Proof.Ideal.Frame
public import proofs.«01_k».proof.Proof.Ref.Frame
public import proofs.«01_k».proof.Proof.Ref.Run
public import proofs.«01_k».proof.Proof.Ker.Run
public import proofs.«01_k».proof.Proof.Pre

@[expose] public section

noncomputable section

namespace Cert.Proof

open Idealize.ShloMosaic Idealize.SL.Sem

/-- Arguments that agree are equal. -/
theorem args_ext {A B : Args} (h : A.a0 = B.a0 ∧ A.a1 = B.a1 ∧ A.a2 = B.a2 ∧ A.a3 = B.a3 ∧ A.a4 = B.a4 ∧ A.a5 = B.a5 ∧ A.a6 = B.a6 ∧ A.a7 = B.a7 ∧ A.a8 = B.a8 ∧ A.a9 = B.a9 ∧ A.a10 = B.a10 ∧ A.a11 = B.a11 ∧ A.a12 = B.a12 ∧ A.a13 = B.a13 ∧ A.a14 = B.a14 ∧ A.a15 = B.a15 ∧ A.a16 = B.a16 ∧ A.a17 = B.a17 ∧ A.a18 = B.a18 ∧ A.a19 = B.a19 ∧ A.a20 = B.a20 ∧ A.a21 = B.a21 ∧ A.a22 = B.a22 ∧ A.a23 = B.a23 ∧ A.a24 = B.a24 ∧ A.a25 = B.a25 ∧ A.a26 = B.a26 ∧ A.a27 = B.a27 ∧ A.a28 = B.a28 ∧ A.a29 = B.a29 ∧ A.a30 = B.a30) : A = B := by
  cases A; cases B
  dsimp only at h
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := h
  rfl

set_option maxHeartbeats 2000000 in
/-- Both programs' five results are the same functions of the arguments. -/
theorem values : Cert.algebraic_KernelIdeal_ReferenceIdeal_pre_finite_scores := by
  intro m ρ m' ρ' pre hag
  have hA : ∀ c, Cert.ReferenceIdeal.Value.args m' c = Cert.KernelIdeal.Value.args m c := by
    intro c
    exact args_ext (hag c)
  have hf : ∀ c, Cert.KernelIdeal.Value.Fin1 m c := fun c =>
    Cert.Pre.scores_real (Cert.KernelIdeal.Value.args m c) (Cert.Pre.of_fn (Cert.KernelIdeal.Value.args m c) (pre c))
  refine ⟨fun c => (Cert.KernelIdeal.Value.args m c).out, fun c => (Cert.KernelIdeal.Value.args m c).h2c,
    fun c => (Cert.KernelIdeal.Value.args m c).h2s, fun c => (Cert.KernelIdeal.Value.args m c).gc,
    fun c => (Cert.KernelIdeal.Value.args m c).gs, ?_, ?_⟩
  · refine (θ_run _ _ _).mono (fun r h c => ⟨((h.1 c).1 31).trans (Cert.KernelIdeal.Value.value31 m c (hf c)),
      ((h.1 c).1 32).trans (Cert.KernelIdeal.Value.value32 m c (hf c)), ((h.1 c).1 33).trans (Cert.KernelIdeal.Value.value33 m c (hf c)),
      ((h.1 c).1 34).trans (Cert.KernelIdeal.Value.value34 m c (hf c)), ((h.1 c).1 35).trans (Cert.KernelIdeal.Value.value35 m c (hf c)),
      h.2 c⟩) (θ_run_and (Cert.KernelIdeal.Gen.run_main m ρ) (Cert.KernelIdeal.Gen.unchanged m ρ))
  · refine (θ_run _ _ _).mono (fun r h c => ⟨((h.1 c).1 31).trans ((Cert.ReferenceIdeal.Value.value31 m' c).trans (congrArg Args.out (hA c))),
      ((h.1 c).1 32).trans ((Cert.ReferenceIdeal.Value.value32 m' c).trans (congrArg Args.h2c (hA c))),
      ((h.1 c).1 33).trans ((Cert.ReferenceIdeal.Value.value33 m' c).trans (congrArg Args.h2s (hA c))),
      ((h.1 c).1 34).trans ((Cert.ReferenceIdeal.Value.value34 m' c).trans (congrArg Args.gc (hA c))),
      ((h.1 c).1 35).trans ((Cert.ReferenceIdeal.Value.value35 m' c).trans (congrArg Args.gs (hA c))),
      h.2 c⟩) (θ_run_and (Cert.ReferenceIdeal.Gen.run_main m' ρ') (Cert.ReferenceIdeal.Gen.unchanged m' ρ'))

theorem claim : Cert.Claim :=
  ⟨Cert.Kernel.Gen.facts, Cert.KernelIdeal.Gen.facts, Cert.ReferenceIdeal.Gen.facts, Cert.Pre.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, values⟩

end Cert.Proof

end
